-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_args [hPre_finite_args : Cert.Pre_finite_args.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_args.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_args [hPre_finite_args : Cert.Pre_finite_args.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_args.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Kernel6Ideal_pre_finite_args [hKernel6Ideal : Cert.Kernel6Ideal.Facts] [hPre_finite_args : Cert.Pre_finite_args.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_args m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Reference6Ideal_pre_finite_args [hReference6Ideal : Cert.Reference6Ideal.Facts] [hPre_finite_args : Cert.Pre_finite_args.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_args m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v150_3)) (v1 : (c : Dev Cert.Kernel4Ideal.nD) → Buf (Elt Ideal) ((c.tc : Thread Cert.Kernel4Ideal.nD Cert.Kernel4Ideal.τ).loc Cert.Kernel4Ideal.main_v150_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v150_3) = v0 c
          ∧ r.2.mem ((c.tc : Thread Cert.Kernel4Ideal.nD Cert.Kernel4Ideal.τ).loc Cert.Kernel4Ideal.main_v150_4) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_v42) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite_args [hKernel6Ideal : Cert.Kernel6Ideal.Facts] [hReference6Ideal : Cert.Reference6Ideal.Facts] [hPre_finite_args : Cert.Pre_finite_args.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_args m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v130_0)) (v1 : (c : Dev Cert.Kernel6Ideal.nD) → Buf (Elt Ideal) ((c.tc : Thread Cert.Kernel6Ideal.nD Cert.Kernel6Ideal.τ).loc Cert.Kernel6Ideal.main_v130_1)) (v2 : (c : Dev Cert.Kernel6Ideal.nD) → Buf (Elt Ideal) ((c.tc : Thread Cert.Kernel6Ideal.nD Cert.Kernel6Ideal.τ).loc Cert.Kernel6Ideal.main_v130_2)) (v3 : (c : Dev Cert.Kernel6Ideal.nD) → Buf (Elt Ideal) ((c.tc : Thread Cert.Kernel6Ideal.nD Cert.Kernel6Ideal.τ).loc Cert.Kernel6Ideal.main_v130_3)) (v4 : (c : Dev Cert.Kernel6Ideal.nD) → Buf (Elt Ideal) ((c.tc : Thread Cert.Kernel6Ideal.nD Cert.Kernel6Ideal.τ).loc Cert.Kernel6Ideal.main_v130_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v130_0) = v0 c
          ∧ r.2.mem ((c.tc : Thread Cert.Kernel6Ideal.nD Cert.Kernel6Ideal.τ).loc Cert.Kernel6Ideal.main_v130_1) = v1 c
          ∧ r.2.mem ((c.tc : Thread Cert.Kernel6Ideal.nD Cert.Kernel6Ideal.τ).loc Cert.Kernel6Ideal.main_v130_2) = v2 c
          ∧ r.2.mem ((c.tc : Thread Cert.Kernel6Ideal.nD Cert.Kernel6Ideal.τ).loc Cert.Kernel6Ideal.main_v130_3) = v3 c
          ∧ r.2.mem ((c.tc : Thread Cert.Kernel6Ideal.nD Cert.Kernel6Ideal.τ).loc Cert.Kernel6Ideal.main_v130_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v120) = v0 c
          ∧ r.2.mem ((c.tc : Thread Cert.Reference6Ideal.nD Cert.Reference6Ideal.τ).loc Cert.Reference6Ideal.main_v122) = v1 c
          ∧ r.2.mem ((c.tc : Thread Cert.Reference6Ideal.nD Cert.Reference6Ideal.τ).loc Cert.Reference6Ideal.main_v126) = v2 c
          ∧ r.2.mem ((c.tc : Thread Cert.Reference6Ideal.nD Cert.Reference6Ideal.τ).loc Cert.Reference6Ideal.main_v131) = v3 c
          ∧ r.2.mem ((c.tc : Thread Cert.Reference6Ideal.nD Cert.Reference6Ideal.τ).loc Cert.Reference6Ideal.main_v136) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v30_0)) (v1 : (c : Dev Cert.Kernel7Ideal.nD) → Buf (Elt Ideal) ((c.tc : Thread Cert.Kernel7Ideal.nD Cert.Kernel7Ideal.τ).loc Cert.Kernel7Ideal.main_v30_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v30_0) = v0 c
          ∧ r.2.mem ((c.tc : Thread Cert.Kernel7Ideal.nD Cert.Kernel7Ideal.τ).loc Cert.Kernel7Ideal.main_v30_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_v14) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_qk : Cert.Pre_finite_qk.Facts) (hPre_finite_args : Cert.Pre_finite_args.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_args (hKernel6Ideal := hKernel6Ideal) (hPre_finite_args := hPre_finite_args)
    ∧ quiescent_Reference6Ideal (hReference6Ideal := hReference6Ideal)
    ∧ quiescent_Reference6Ideal_pre_finite_args (hReference6Ideal := hReference6Ideal) (hPre_finite_args := hPre_finite_args)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_args (hKernel6Ideal := hKernel6Ideal) (hReference6Ideal := hReference6Ideal) (hPre_finite_args := hPre_finite_args)
    ∧ preserves_Kernel7_Kernel7Ideal
    ∧ algebraic_Kernel7Ideal_Reference7Ideal (hKernel7Ideal := hKernel7Ideal) (hReference7Ideal := hReference7Ideal)
-- ==== Pre_finite_args.lean ====
abbrev S4x2048x1024 : Shape := ⟨3, ![4, 2048, 1024]⟩
abbrev S8x6x1024 : Shape := ⟨3, ![8, 6, 1024]⟩
abbrev S1024 : Shape := ⟨1, ![1024]⟩
abbrev S1024x928 : Shape := ⟨2, ![1024, 928]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8x64x64 : Shape := ⟨3, ![8, 64, 64]⟩
abbrev S2048x16 : Shape := ⟨2, ![2048, 16]⟩
abbrev S64x64 : Shape := ⟨2, ![64, 64]⟩
abbrev S_ : Shape := ⟨0, ![]⟩

class Facts : Prop where
  bcast_S_S8x6x1024 : S_.BroadcastsInDim S8x6x1024 (![] : Fin 0 → Fin S8x6x1024.rank)
  reducesTo_S8x6x1024_S_d0_1_2 : S8x6x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x928 : S_.BroadcastsInDim S1024x928 (![] : Fin 0 → Fin S1024x928.rank)
  reducesTo_S1024x928_S_d0_1 : S1024x928.ReducesTo [0, 1] S_
  bcast_S_S256 : S_.BroadcastsInDim S256 (![] : Fin 0 → Fin S256.rank)
  reducesTo_S256_S_d0 : S256.ReducesTo [0] S_
  bcast_S_S256x768 : S_.BroadcastsInDim S256x768 (![] : Fin 0 → Fin S256x768.rank)
  reducesTo_S256x768_S_d0_1 : S256x768.ReducesTo [0, 1] S_
  bcast_S_S8x64x64 : S_.BroadcastsInDim S8x64x64 (![] : Fin 0 → Fin S8x64x64.rank)
  reducesTo_S8x64x64_S_d0_1_2 : S8x64x64.ReducesTo [0, 1, 2] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg5 : FVec F S256x768 .f32) (main_arg8 : FVec F S8x64x64 .f32) (main_arg10 : FVec F S64x64 .f32) (main_arg11 : FVec F S64x64 .f32) (main_v3 : IVec S_ 1) (main_v7 : IVec S_ 1) (main_v11 : IVec S_ 1) (main_v15 : IVec S_ 1) : IVec S_ 1 :=
  let main_v16 : FVec F S256x768 .f32 := Host.absf main_arg5
  let main_cst_6 : FVec F S_ .f32 := constant S_ .f32 0x7F800000#32
  let main_v17 : FVec F S256x768 .f32 := broadcastInDim S256x768 ![] bcast_S_S256x768 main_cst_6
  let main_v18 : IVec S256x768 1 := cmpf .olt main_v16 main_v17
  let main_c_7 : IVec S_ 1 := constantI S_ 1 1#1
  let main_v19 : IVec S_ 1 := (fun x v => Host.reduce IntOp.andi x v reducesTo_S256x768_S_d0_1 h_S_) main_v18 main_c_7
  let main_v20 : FVec F S8x64x64 .f32 := Host.absf main_arg8
  let main_cst_8 : FVec F S_ .f32 := constant S_ .f32 0x7F800000#32
  let main_v21 : FVec F S8x64x64 .f32 := broadcastInDim S8x64x64 ![] bcast_S_S8x64x64 main_cst_8
  let main_v22 : IVec S8x64x64 1 := cmpf .olt main_v20 main_v21
  let main_c_9 : IVec S_ 1 := constantI S_ 1 1#1
  let main_v23 : IVec S_ 1 := (fun x v => Host.reduce IntOp.andi x v reducesTo_S8x64x64_S_d0_1_2 h_S_) main_v22 main_c_9
  let main_v24 : FVec F S64x64 .f32 := Host.absf main_arg10
  let main_cst_10 : FVec F S_ .f32 := constant S_ .f32 0x7F800000#32
  let main_v25 : FVec F S64x64 .f32 := broadcastInDim S64x64 ![] bcast_S_S64x64 main_cst_10
  let main_v26 : IVec S64x64 1 := cmpf .olt main_v24 main_v25
  let main_c_11 : IVec S_ 1 := constantI S_ 1 1#1
  let main_v27 : IVec S_ 1 := (fun x v => Host.reduce IntOp.andi x v reducesTo_S64x64_S_d0_1 h_S_) main_v26 main_c_11
  let main_v28 : FVec F S64x64 .f32 := Host.absf main_arg11
  let main_cst_12 : FVec F S_ .f32 := constant S_ .f32 0x7F800000#32
  let main_v29 : FVec F S64x64 .f32 := broadcastInDim S64x64 ![] bcast_S_S64x64 main_cst_12
  let main_v30 : IVec S64x64 1 := cmpf .olt main_v28 main_v29
  let main_c_13 : IVec S_ 1 := constantI S_ 1 1#1
  let main_v31 : IVec S_ 1 := (fun x v => Host.reduce IntOp.andi x v reducesTo_S64x64_S_d0_1 h_S_) main_v30 main_c_13
  fn_part2 (F := F) main_v3 main_v7 main_v11 main_v15 main_v19 main_v23 main_v27 main_v31

def fn {F : FTy → Type} [FloatOps F] (main_arg0 : FVec F S4x2048x1024 .f32) (main_arg1 : FVec F S8x6x1024 .f32) (main_arg2 : FVec F S1024 .f32) (main_arg3 : FVec F S1024x928 .f32) (main_arg4 : FVec F S256 .f32) (main_arg5 : FVec F S256x768 .f32) (main_arg6 : FVec F S128 .f32) (main_arg7 : FVec F S128x1024 .f32) (main_arg8 : FVec F S8x64x64 .f32) (main_arg9 : FVec F S2048x16 .f32) (main_arg10 : FVec F S64x64 .f32) (main_arg11 : FVec F S64x64 .f32) : IVec S_ 1 :=
  let main_v0 : FVec F S8x6x1024 .f32 := Host.absf main_arg1
  let main_cst : FVec F S_ .f32 := constant S_ .f32 0x7F800000#32
  let main_v1 : FVec F S8x6x1024 .f32 := broadcastInDim S8x6x1024 ![] bcast_S_S8x6x1024 main_cst
  let main_v2 : IVec S8x6x1024 1 := cmpf .olt main_v0 main_v1
  let main_c : IVec S_ 1 := constantI S_ 1 1#1
  let main_v3 : IVec S_ 1 := (fun x v => Host.reduce IntOp.andi x v reducesTo_S8x6x1024_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x928 .f32 := Host.absf main_arg3
  let main_cst_2 : FVec F S_ .f32 := constant S_ .f32 0x7F800000#32
  let main_v9 : FVec F S1024x928 .f32 := broadcastInDim S1024x928 ![] bcast_S_S1024x928 main_cst_2
  let main_v10 : IVec S1024x928 1 := cmpf .olt main_v8 main_v9
  let main_c_3 : IVec S_ 1 := constantI S_ 1 1#1
  let main_v11 : IVec S_ 1 := (fun x v => Host.reduce IntOp.andi x v reducesTo_S1024x928_S_d0_1 h_S_) main_v10 main_c_3
  let main_v12 : FVec F S256 .f32 := Host.absf main_arg4
  let main_cst_4 : FVec F S_ .f32 := constant S_ .f32 0x7F800000#32
  let main_v13 : FVec F S256 .f32 := broadcastInDim S256 ![] bcast_S_S256 main_cst_4
  let main_v14 : IVec S256 1 := cmpf .olt main_v12 main_v13
  let main_c_5 : IVec S_ 1 := constantI S_ 1 1#1
  let main_v15 : IVec S_ 1 := (fun x v => Host.reduce IntOp.andi x v reducesTo_S256_S_d0 h_S_) main_v14 main_c_5
  fn_part1 (F := F) main_arg5 main_arg8 main_arg10 main_arg11 main_v3 main_v7 main_v11 main_v15
-- ==== Pre_finite_qk.lean ====
abbrev S4x2048x8x64 : Shape := ⟨4, ![4, 2048, 8, 64]⟩
abbrev S4x2048x8x32 : Shape := ⟨4, ![4, 2048, 8, 32]⟩
abbrev S4x512x8x64 : Shape := ⟨4, ![4, 512, 8, 64]⟩
abbrev S4x512x32 : Shape := ⟨3, ![4, 512, 32]⟩
abbrev S4x2048x32 : Shape := ⟨3, ![4, 2048, 32]⟩
abbrev S_ : Shape := ⟨0, ![]⟩

class Facts : Prop where
  bcast_S_S4x2048x8x64 : S_.BroadcastsInDim S4x2048x8x64 (![] : Fin 0 → Fin S4x2048x8x64.rank)
  reducesTo_S4x2048x8x64_S_d0_1_2_3 : S4x2048x8x64.ReducesTo [0, 1, 2, 3] S_
  h_S_ : 0 < S_.numel
  bcast_S_S4x2048x8x32 : S_.BroadcastsInDim S4x2048x8x32 (![] : Fin 0 → Fin S4x2048x8x32.rank)
  reducesTo_S4x2048x8x32_S_d0_1_2_3 : S4x2048x8x32.ReducesTo [0, 1, 2, 3] S_
  bcast_S_S4x512x8x64 : S_.BroadcastsInDim S4x512x8x64 (![] : Fin 0 → Fin S4x512x8x64.rank)
  reducesTo_S4x512x8x64_S_d0_1_2_3 : S4x512x8x64.ReducesTo [0, 1, 2, 3] S_
  bcast_S_S4x512x32 : S_.BroadcastsInDim S4x512x32 (![] : Fin 0 → Fin S4x512x32.rank)
  reducesTo_S4x512x32_S_d0_1_2 : S4x512x32.ReducesTo [0, 1, 2] S_
  bcast_S_S4x2048x32 : S_.BroadcastsInDim S4x2048x32 (![] : Fin 0 → Fin S4x2048x32.rank)
  reducesTo_S4x2048x32_S_d0_1_2 : S4x2048x32.ReducesTo [0, 1, 2] S_

variable [Facts]

def fn_part1 {F : FTy → Type} [FloatOps F] (main_arg5 : FVec F S4x2048x8x64 .f32) (main_arg6 : FVec F S4x2048x32 .f32) (main_v3 : IVec S_ 1) (main_v7 : IVec S_ 1) (main_v11 : IVec S_ 1) (main_v15 : IVec S_ 1) : IVec S_ 1 :=
  let main_v16 : FVec F S4x2048x8x64 .f32 := Host.absf main_arg5
  let main_cst_6 : FVec F S_ .f32 := constant S_ .f32 0x7F800000#32
  let main_v17 : FVec F S4x2048x8x64 .f32 := broadcastInDim S4x2048x8x64 ![] bcast_S_S4x2048x8x64 main_cst_6
  let main_v18 : IVec S4x2048x8x64 1 := cmpf .olt main_v16 main_v17
  let main_c_7 : IVec S_ 1 := constantI S_ 1 1#1
  let main_v19 : IVec S_ 1 := (fun x v => Host.reduce IntOp.andi x v reducesTo_S4x2048x8x64_S_d0_1_2_3 h_S_) main_v18 main_c_7
  let main_v20 : FVec F S4x2048x32 .f32 := Host.absf main_arg6
  let main_cst_8 : FVec F S_ .f32 := constant S_ .f32 0x7F800000#32
  let main_v21 : FVec F S4x2048x32 .f32 := broadcastInDim S4x2048x32 ![] bcast_S_S4x2048x32 main_cst_8
  let main_v22 : IVec S4x2048x32 1 := cmpf .olt main_v20 main_v21
  let main_c_9 : IVec S_ 1 := constantI S_ 1 1#1
  let main_v23 : IVec S_ 1 := (fun x v => Host.reduce IntOp.andi x v reducesTo_S4x2048x32_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4x2048x8x64 .f32) (main_arg1 : FVec F S4x2048x8x32 .f32) (main_arg2 : FVec F S4x512x8x64 .f32) (main_arg3 : FVec F S4x512x32 .f32) (main_arg4 : FVec F S4x512x8x64 .f32) (main_arg5 : FVec F S4x2048x8x64 .f32) (main_arg6 : FVec F S4x2048x32 .f32) (main_arg7 : FVec F S4x2048x8x64 .f32) : IVec S_ 1 :=
  let main_v0 : FVec F S4x2048x8x64 .f32 := Host.absf main_arg0
  let main_cst : FVec F S_ .f32 := constant S_ .f32 0x7F800000#32
  let main_v1 : FVec F S4x2048x8x64 .f32 := broadcastInDim S4x2048x8x64 ![] bcast_S_S4x2048x8x64 main_cst
  let main_v2 : IVec S4x2048x8x64 1 := cmpf .olt main_v0 main_v1
  let main_c : IVec S_ 1 := constantI S_ 1 1#1
  let main_v3 : IVec S_ 1 := (fun x v => Host.reduce IntOp.andi x v reducesTo_S4x2048x8x64_S_d0_1_2_3 h_S_) main_v2 main_c
  let main_v4 : FVec F S4x2048x8x32 .f32 := Host.absf main_arg1
  let main_cst_0 : FVec F S_ .f32 := constant S_ .f32 0x7F800000#32
  let main_v5 : FVec F S4x2048x8x32 .f32 := broadcastInDim S4x2048x8x32 ![] bcast_S_S4x2048x8x32 main_cst_0
  let main_v6 : IVec S4x2048x8x32 1 := cmpf .olt main_v4 main_v5
  let main_c_1 : IVec S_ 1 := constantI S_ 1 1#1
  let main_v7 : IVec S_ 1 := (fun x v => Host.reduce IntOp.andi x v reducesTo_S4x2048x8x32_S_d0_1_2_3 h_S_) main_v6 main_c_1
  let main_v8 : FVec F S4x512x8x64 .f32 := Host.absf main_arg2
  let main_cst_2 : FVec F S_ .f32 := constant S_ .f32 0x7F800000#32
  let main_v9 : FVec F S4x512x8x64 .f32 := broadcastInDim S4x512x8x64 ![] bcast_S_S4x512x8x64 main_cst_2
  let main_v10 : IVec S4x512x8x64 1 := cmpf .olt main_v8 main_v9
  let main_c_3 : IVec S_ 1 := constantI S_ 1 1#1
  let main_v11 : IVec S_ 1 := (fun x v => Host.reduce IntOp.andi x v reducesTo_S4x512x8x64_S_d0_1_2_3 h_S_) main_v10 main_c_3
  let main_v12 : FVec F S4x512x32 .f32 := Host.absf main_arg3
  let main_cst_4 : FVec F S_ .f32 := constant S_ .f32 0x7F800000#32
  let main_v13 : FVec F S4x512x32 .f32 := broadcastInDim S4x512x32 ![] bcast_S_S4x512x32 main_cst_4
  let main_v14 : IVec S4x512x32 1 := cmpf .olt main_v12 main_v13
  let main_c_5 : IVec S_ 1 := constantI S_ 1 1#1
  let main_v15 : IVec S_ 1 := (fun x v => Host.reduce IntOp.andi x v reducesTo_S4x512x32_S_d0_1_2 h_S_) main_v14 main_c_5
  fn_part1 (F := F) main_arg5 main_arg6 main_v3 main_v7 main_v11 main_v15
-- ==== Kernel.lean ====
abbrev S4x2048x8x64 : Shape := ⟨4, ![4, 2048, 8, 64]⟩
abbrev S4x2048x8x32 : Shape := ⟨4, ![4, 2048, 8, 32]⟩
abbrev S4x512x8x64 : Shape := ⟨4, ![4, 512, 8, 64]⟩
abbrev S4x512x32 : Shape := ⟨3, ![4, 512, 32]⟩
abbrev S4x2048x32 : Shape := ⟨3, ![4, 2048, 32]⟩
abbrev S_ : Shape := ⟨0, ![]⟩
abbrev S4x2048x8x128 : Shape := ⟨4, ![4, 2048, 8, 128]⟩
abbrev S8x128x4x2048 : Shape := ⟨4, ![8, 128, 4, 2048]⟩
abbrev S1024x8192 : Shape := ⟨2, ![1024, 8192]⟩
abbrev S4x512x1x32 : Shape := ⟨4, ![4, 512, 1, 32]⟩
abbrev S4x512x8x32 : Shape := ⟨4, ![4, 512, 8, 32]⟩
abbrev S4x512x8x128 : Shape := ⟨4, ![4, 512, 8, 128]⟩
abbrev S2048x1024 : Shape := ⟨2, ![2048, 1024]⟩
abbrev S4x2048x1x32 : Shape := ⟨4, ![4, 2048, 1, 32]⟩
abbrev S8192x1024 : Shape := ⟨2, ![8192, 1024]⟩
abbrev S8x64x4x512 : Shape := ⟨4, ![8, 64, 4, 512]⟩
abbrev S512x2048 : Shape := ⟨2, ![512, 2048]⟩
abbrev S8x64x4x2048 : Shape := ⟨4, ![8, 64, 4, 2048]⟩
abbrev S512x8192 : Shape := ⟨2, ![512, 8192]⟩
abbrev S8192x512 : Shape := ⟨2, ![8192, 512]⟩
abbrev S512x256 : Shape := ⟨2, ![512, 256]⟩
abbrev S512x512 : Shape := ⟨2, ![512, 512]⟩
abbrev S2048x512 : Shape := ⟨2, ![2048, 512]⟩
abbrev S256x512 : Shape := ⟨2, ![256, 512]⟩
abbrev S256x2048 : Shape := ⟨2, ![256, 2048]⟩
abbrev S256x256 : Shape := ⟨2, ![256, 256]⟩
abbrev S128x256 : Shape := ⟨2, ![128, 256]⟩
abbrev S128x512 : Shape := ⟨2, ![128, 512]⟩
abbrev S512 : Shape := ⟨1, ![512]⟩
abbrev S1x512 : Shape := ⟨2, ![1, 512]⟩
abbrev S16x512 : Shape := ⟨2, ![16, 512]⟩
abbrev S144x512 : Shape := ⟨2, ![144, 512]⟩
abbrev S64x256 : Shape := ⟨2, ![64, 256]⟩
abbrev S256x128 : Shape := ⟨2, ![256, 128]⟩

abbrev nBuf : Space → Nat
  | .hbm => 44
  | .vmem => 12
  | .smem => 0
  | _ => 0

abbrev bufTy : (tb : Table) → Fin (tcTables nBuf tb) → BufTy
  | .hbm, ⟨0, _⟩ => ⟨S4x2048x8x64, .f32⟩
  | .hbm, ⟨1, _⟩ => ⟨S4x2048x8x32, .f32⟩
  | .hbm, ⟨2, _⟩ => ⟨S4x512x8x64, .f32⟩
  | .hbm, ⟨3, _⟩ => ⟨S4x512x32, .f32⟩
  | .hbm, ⟨4, _⟩ => ⟨S4x512x8x64, .f32⟩
  | .hbm, ⟨5, _⟩ => ⟨S4x2048x8x64, .f32⟩
  | .hbm, ⟨6, _⟩ => ⟨S4x2048x32, .f32⟩
  | .hbm, ⟨7, _⟩ => ⟨S4x2048x8x64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x2048x8x64, .f32⟩
  | .hbm, ⟨14, _⟩ => ⟨S4x2048x8x64, .f32⟩
  | .hbm, ⟨15, _⟩ => ⟨S4x2048x8x32, .f32⟩
  | .hbm, ⟨16, _⟩ => ⟨S4x2048x8x32, .f32⟩
  | .hbm, ⟨17, _⟩ => ⟨S_, .f32⟩
  | .hbm, ⟨18, _⟩ => ⟨S4x2048x8x32, .f32⟩
  | .hbm, ⟨19, _⟩ => ⟨S4x2048x8x128, .f32⟩
  | .hbm, ⟨20, _⟩ => ⟨S8x128x4x2048, .f32⟩
  | .hbm, ⟨21, _⟩ => ⟨S1024x8192, .f32⟩
  | .hbm, ⟨22, _⟩ => ⟨S1024x8192, .bf16⟩
  | .hbm, ⟨23, _⟩ => ⟨S4x512x1x32, .f32⟩
  | .hbm, ⟨24, _⟩ => ⟨S4x512x8x32, .f32⟩
  | .hbm, ⟨25, _⟩ => ⟨S_, .f32⟩
  | .hbm, ⟨26, _⟩ => ⟨S4x512x8x32, .f32⟩
  | .hbm, ⟨27, _⟩ => ⟨S4x512x8x128, .f32⟩
  | .hbm, ⟨28, _⟩ => ⟨S2048x1024, .f32⟩
  | .hbm, ⟨29, _⟩ => ⟨S2048x1024, .bf16⟩
  | .hbm, ⟨30, _⟩ => ⟨S4x2048x1x32, .f32⟩
  | .hbm, ⟨31, _⟩ => ⟨S4x2048x8x32, .f32⟩
  | .hbm, ⟨32, _⟩ => ⟨S_, .f32⟩
  | .hbm, ⟨33, _⟩ => ⟨S4x2048x8x32, .f32⟩
  | .hbm, ⟨34, _⟩ => ⟨S4x2048x8x128, .f32⟩
  | .hbm, ⟨35, _⟩ => ⟨S8192x1024, .f32⟩
  | .hbm, ⟨36, _⟩ => ⟨S8192x1024, .bf16⟩
  | .hbm, ⟨37, _⟩ => ⟨S8x64x4x512, .f32⟩
  | .hbm, ⟨38, _⟩ => ⟨S512x2048, .f32⟩
  | .hbm, ⟨39, _⟩ => ⟨S512x2048, .bf16⟩
  | .hbm, ⟨40, _⟩ => ⟨S8x64x4x2048, .f32⟩
  | .hbm, ⟨41, _⟩ => ⟨S512x8192, .f32⟩
  | .hbm, ⟨42, _⟩ => ⟨S512x8192, .bf16⟩
  | .hbm, ⟨43, _⟩ => ⟨S8192x512, .bf16⟩
  | .local _ .vmem, ⟨0, _⟩ => ⟨S512x256, .bf16⟩
  | .local _ .vmem, ⟨1, _⟩ => ⟨S512x256, .bf16⟩
  | .local _ .vmem, ⟨2, _⟩ => ⟨S512x512, .bf16⟩
  | .local _ .vmem, ⟨3, _⟩ => ⟨S512x512, .bf16⟩
  | .local _ .vmem, ⟨4, _⟩ => ⟨S2048x512, .bf16⟩
  | .local _ .vmem, ⟨5, _⟩ => ⟨S2048x512, .bf16⟩
  | .local _ .vmem, ⟨6, _⟩ => ⟨S256x512, .bf16⟩
  | .local _ .vmem, ⟨7, _⟩ => ⟨S256x512, .bf16⟩
  | .local _ .vmem, ⟨8, _⟩ => ⟨S256x2048, .bf16⟩
  | .local _ .vmem, ⟨9, _⟩ => ⟨S256x2048, .bf16⟩
  | .local _ .vmem, ⟨10, _⟩ => ⟨S256x256, .bf16⟩
  | .local _ .vmem, ⟨11, _⟩ => ⟨S256x256, .bf16⟩
  | _, _ => ⟨S4x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x2048x8x64 : Shape := ⟨4, ![4, 2048, 8, 64]⟩
abbrev S4x2048x8x32 : Shape := ⟨4, ![4, 2048, 8, 32]⟩
abbrev S4x512x8x64 : Shape := ⟨4, ![4, 512, 8, 64]⟩
abbrev S4x512x32 : Shape := ⟨3, ![4, 512, 32]⟩
abbrev S4x2048x32 : Shape := ⟨3, ![4, 2048, 32]⟩
abbrev S4x2560x8x64 : Shape := ⟨4, ![4, 2560, 8, 64]⟩
abbrev S4x2560x32 : Shape := ⟨3, ![4, 2560, 32]⟩
abbrev S_ : Shape := ⟨0, ![]⟩
abbrev S4x8x2048x2560 : Shape := ⟨4, ![4, 8, 2048, 2560]⟩
abbrev S4x2560x2048x8 : Shape := ⟨4, ![4, 2560, 2048, 8]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S8192x512 : Shape := ⟨2, ![8192, 512]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x8x64, .f32⟩
  | .hbm, ⟨1, _⟩ => ⟨S4x2048x8x32, .f32⟩
  | .hbm, ⟨2, _⟩ => ⟨S4x512x8x64, .f32⟩
  | .hbm, ⟨3, _⟩ => ⟨S4x512x32, .f32⟩
  | .hbm, ⟨4, _⟩ => ⟨S4x512x8x64, .f32⟩
  | .hbm, ⟨5, _⟩ => ⟨S4x2048x8x64, .f32⟩
  | .hbm, ⟨6, _⟩ => ⟨S4x2048x32, .f32⟩
  | .hbm, ⟨7, _⟩ => ⟨S4x2048x8x64, .f32⟩
  | .hbm, ⟨8, _⟩ => ⟨S4x2560x8x64, .f32⟩
  | .hbm, ⟨9, _⟩ => ⟨S4x2560x32, .f32⟩
  | .hbm, ⟨10, _⟩ => ⟨S4x2560x8x64, .f32⟩
  | .hbm, ⟨11, _⟩ => ⟨S_, .f32⟩
  | .hbm, ⟨12, _⟩ => ⟨S_, .f32⟩
  | .hbm, ⟨13, _⟩ => ⟨S4x8x2048x2560, .f32⟩
  | .hbm, ⟨14, _⟩ => ⟨S4x2560x2048x8, .f32⟩
  | .hbm, ⟨15, _⟩ => ⟨S4x8x2048x2560, .f32⟩
  | .hbm, ⟨16, _⟩ => ⟨S4x8x2048x2560, .f32⟩
  | .hbm, ⟨17, _⟩ => ⟨S4x8x2048x2560, .f32⟩
  | .hbm, ⟨18, _⟩ => ⟨S4x8x2048x2560, .f32⟩
  | .hbm, ⟨19, _⟩ => ⟨S_, .f32⟩
  | .hbm, ⟨20, _⟩ => ⟨S4x8x2048, .f32⟩
  | .hbm, ⟨21, _⟩ => ⟨S_, .f32⟩
  | .hbm, ⟨22, _⟩ => ⟨S4x8x2048, .f32⟩
  | .hbm, ⟨23, _⟩ => ⟨S4x8x2048, .f32⟩
  | .hbm, ⟨24, _⟩ => ⟨S4x8x2048x1, .f32⟩
  | .hbm, ⟨25, _⟩ => ⟨S4x8x2048x2560, .f32⟩
  | .hbm, ⟨26, _⟩ => ⟨S4x8x2048x2560, .f32⟩
  | .hbm, ⟨27, _⟩ => ⟨S4x8x2048x2560, .f32⟩
  | .hbm, ⟨28, _⟩ => ⟨S_, .f32⟩
  | .hbm, ⟨29, _⟩ => ⟨S4x8x2048, .f32⟩
  | .hbm, ⟨30, _⟩ => ⟨S4x8x2048x1, .f32⟩
  | .hbm, ⟨31, _⟩ => ⟨S4x8x2048x2560, .f32⟩
  | .hbm, ⟨32, _⟩ => ⟨S4x8x2048x2560, .f32⟩
  | .hbm, ⟨33, _⟩ => ⟨S4x8x64x2048, .f32⟩
  | .hbm, ⟨34, _⟩ => ⟨S4x2048x8x64, .f32⟩
  | .hbm, ⟨35, _⟩ => ⟨S8192x512, .f32⟩
  | .hbm, ⟨36, _⟩ => ⟨S8192x512, .bf16⟩
  | _, _ => ⟨S4x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Kernel2.lean ====
abbrev S32x16x32x1024 : Shape := ⟨4, ![32, 16, 32, 1024]⟩
abbrev S4x16x256x1024 : Shape := ⟨4, ![4, 16, 256, 1024]⟩
abbrev S32x16x32 : Shape := ⟨3, ![32, 16, 32]⟩
abbrev S4x16x256 : Shape := ⟨3, ![4, 16, 256]⟩
abbrev S16x1024x512 : Shape := ⟨3, ![16, 1024, 512]⟩
abbrev S16x512x1024 : Shape := ⟨3, ![16, 512, 1024]⟩
abbrev S16x32x32x1024 : Shape := ⟨4, ![16, 32, 32, 1024]⟩
abbrev S16x1024x1024 : Shape := ⟨3, ![16, 1024, 1024]⟩
abbrev S16x4x256x1024 : Shape := ⟨4, ![16, 4, 256, 1024]⟩
abbrev S32x16x32x1 : Shape := ⟨4, ![32, 16, 32, 1]⟩
abbrev S16x32x32x1 : Shape := ⟨4, ![16, 32, 32, 1]⟩
abbrev S16x1024x1 : Shape := ⟨3, ![16, 1024, 1]⟩
abbrev S4x16x256x1 : Shape := ⟨4, ![4, 16, 256, 1]⟩
abbrev S16x4x256x1 : Shape := ⟨4, ![16, 4, 256, 1]⟩
abbrev S1x1024x1024 : Shape := ⟨3, ![1, 1024, 1024]⟩
abbrev S1x1024x1 : Shape := ⟨3, ![1, 1024, 1]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S1024x1024 : Shape := ⟨2, ![1024, 1024]⟩
abbrev S1024x1 : Shape := ⟨2, ![1024, 1]⟩

abbrev nBuf : Space → Nat
  | .hbm => 21
  | .vmem => 21
  | .smem => 0
  | _ => 0

abbrev bufTy : (tb : Table) → Fin (tcTables nBuf tb) → BufTy
  | .hbm, ⟨0, _⟩ => ⟨S32x16x32x1024, .f32⟩
  | .hbm, ⟨1, _⟩ => ⟨S4x16x256x1024, .f32⟩
  | .hbm, ⟨2, _⟩ => ⟨S32x16x32, .f32⟩
  | .hbm, ⟨3, _⟩ => ⟨S4x16x256, .f32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S16x32x32x1024, .f32⟩
  | .hbm, ⟨8, _⟩ => ⟨S16x1024x1024, .f32⟩
  | .hbm, ⟨9, _⟩ => ⟨S16x1024x1024, .bf16⟩
  | .hbm, ⟨10, _⟩ => ⟨S16x4x256x1024, .f32⟩
  | .hbm, ⟨11, _⟩ => ⟨S16x1024x1024, .f32⟩
  | .hbm, ⟨12, _⟩ => ⟨S16x1024x1024, .bf16⟩
  | .hbm, ⟨13, _⟩ => ⟨S32x16x32x1, .f32⟩
  | .hbm, ⟨14, _⟩ => ⟨S16x32x32x1, .f32⟩
  | .hbm, ⟨15, _⟩ => ⟨S16x1024x1, .f32⟩
  | .hbm, ⟨16, _⟩ => ⟨S4x16x256x1, .f32⟩
  | .hbm, ⟨17, _⟩ => ⟨S16x4x256x1, .f32⟩
  | .hbm, ⟨18, _⟩ => ⟨S16x1024x1, .f32⟩
  | .hbm, ⟨19, _⟩ => ⟨S16x1024x1024, .bf16⟩
  | .hbm, ⟨20, _⟩ => ⟨S16x1024x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1, .f32⟩
  | .local _ .vmem, ⟨5, _⟩ => ⟨S1x1024x1, .f32⟩
  | .local _ .vmem, ⟨6, _⟩ => ⟨S1x1024x1, .f32⟩
  | .local _ .vmem, ⟨7, _⟩ => ⟨S1x1024x1, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1x512x1024, .f32⟩
  | .local _ .vmem, ⟨13, _⟩ => ⟨S1x512x1024, .f32⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1024x512, .bf16⟩
  | .local _ .vmem, ⟨19, _⟩ => ⟨S1024x512, .bf16⟩
  | .local _ .vmem, ⟨20, _⟩ => ⟨S512x1024, .bf16⟩
  | _, _ => ⟨S32x16x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S32x16x32x1024 : Shape := ⟨4, ![32, 16, 32, 1024]⟩
abbrev S4x16x256x1024 : Shape := ⟨4, ![4, 16, 256, 1024]⟩
abbrev S32x16x32 : Shape := ⟨3, ![32, 16, 32]⟩
abbrev S4x16x256 : Shape := ⟨3, ![4, 16, 256]⟩
abbrev S16x1024x512 : Shape := ⟨3, ![16, 1024, 512]⟩
abbrev S16x512x1024 : Shape := ⟨3, ![16, 512, 1024]⟩
abbrev S16x512x32x32 : Shape := ⟨4, ![16, 512, 32, 32]⟩
abbrev S32x16x32x512 : Shape := ⟨4, ![32, 16, 32, 512]⟩
abbrev S_ : Shape := ⟨0, ![]⟩
abbrev S16x1024x32x32 : Shape := ⟨4, ![16, 1024, 32, 32]⟩
abbrev S32x16x32x1 : Shape := ⟨4, ![32, 16, 32, 1]⟩
abbrev S16x32x32x1024 : Shape := ⟨4, ![16, 32, 32, 1024]⟩
abbrev S16x1024x1024 : Shape := ⟨3, ![16, 1024, 1024]⟩
abbrev S16x512x4x256 : Shape := ⟨4, ![16, 512, 4, 256]⟩
abbrev S4x16x256x512 : Shape := ⟨4, ![4, 16, 256, 512]⟩
abbrev S16x1024x4x256 : Shape := ⟨4, ![16, 1024, 4, 256]⟩
abbrev S4x16x256x1 : Shape := ⟨4, ![4, 16, 256, 1]⟩
abbrev S16x4x256x1024 : Shape := ⟨4, ![16, 4, 256, 1024]⟩

abbrev nBuf : Space → Nat
  | .hbm => 51
  | .vmem => 0
  | .smem => 0
  | _ => 0

abbrev bufTy : (tb : Table) → Fin (tcTables nBuf tb) → BufTy
  | .hbm, ⟨0, _⟩ => ⟨S32x16x32x1024, .f32⟩
  | .hbm, ⟨1, _⟩ => ⟨S4x16x256x1024, .f32⟩
  | .hbm, ⟨2, _⟩ => ⟨S32x16x32, .f32⟩
  | .hbm, ⟨3, _⟩ => ⟨S4x16x256, .f32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S16x512x32x32, .f32⟩
  | .hbm, ⟨8, _⟩ => ⟨S32x16x32x512, .f32⟩
  | .hbm, ⟨9, _⟩ => ⟨S32x16x32x512, .f32⟩
  | .hbm, ⟨10, _⟩ => ⟨S32x16x32x512, .f32⟩
  | .hbm, ⟨11, _⟩ => ⟨S_, .f32⟩
  | .hbm, ⟨12, _⟩ => ⟨S32x16x32x512, .f32⟩
  | .hbm, ⟨13, _⟩ => ⟨S32x16x32x512, .f32⟩
  | .hbm, ⟨14, _⟩ => ⟨S_, .f32⟩
  | .hbm, ⟨15, _⟩ => ⟨S32x16x32x512, .f32⟩
  | .hbm, ⟨16, _⟩ => ⟨S32x16x32x512, .f32⟩
  | .hbm, ⟨17, _⟩ => ⟨S32x16x32x512, .f32⟩
  | .hbm, ⟨18, _⟩ => ⟨S16x512x32x32, .f32⟩
  | .hbm, ⟨19, _⟩ => ⟨S32x16x32x512, .f32⟩
  | .hbm, ⟨20, _⟩ => ⟨S32x16x32x512, .f32⟩
  | .hbm, ⟨21, _⟩ => ⟨S16x1024x32x32, .f32⟩
  | .hbm, ⟨22, _⟩ => ⟨S32x16x32x1024, .f32⟩
  | .hbm, ⟨23, _⟩ => ⟨S32x16x32x1, .f32⟩
  | .hbm, ⟨24, _⟩ => ⟨S32x16x32x1024, .f32⟩
  | .hbm, ⟨25, _⟩ => ⟨S32x16x32x1024, .f32⟩
  | .hbm, ⟨26, _⟩ => ⟨S16x32x32x1024, .f32⟩
  | .hbm, ⟨27, _⟩ => ⟨S16x1024x1024, .f32⟩
  | .hbm, ⟨28, _⟩ => ⟨S16x1024x1024, .bf16⟩
  | .hbm, ⟨29, _⟩ => ⟨S16x512x4x256, .f32⟩
  | .hbm, ⟨30, _⟩ => ⟨S4x16x256x512, .f32⟩
  | .hbm, ⟨31, _⟩ => ⟨S4x16x256x512, .f32⟩
  | .hbm, ⟨32, _⟩ => ⟨S4x16x256x512, .f32⟩
  | .hbm, ⟨33, _⟩ => ⟨S_, .f32⟩
  | .hbm, ⟨34, _⟩ => ⟨S4x16x256x512, .f32⟩
  | .hbm, ⟨35, _⟩ => ⟨S4x16x256x512, .f32⟩
  | .hbm, ⟨36, _⟩ => ⟨S_, .f32⟩
  | .hbm, ⟨37, _⟩ => ⟨S4x16x256x512, .f32⟩
  | .hbm, ⟨38, _⟩ => ⟨S4x16x256x512, .f32⟩
  | .hbm, ⟨39, _⟩ => ⟨S4x16x256x512, .f32⟩
  | .hbm, ⟨40, _⟩ => ⟨S16x512x4x256, .f32⟩
  | .hbm, ⟨41, _⟩ => ⟨S4x16x256x512, .f32⟩
  | .hbm, ⟨42, _⟩ => ⟨S4x16x256x512, .f32⟩
  | .hbm, ⟨43, _⟩ => ⟨S16x1024x4x256, .f32⟩
  | .hbm, ⟨44, _⟩ => ⟨S4x16x256x1024, .f32⟩
  | .hbm, ⟨45, _⟩ => ⟨S4x16x256x1, .f32⟩
  | .hbm, ⟨46, _⟩ => ⟨S4x16x256x1024, .f32⟩
  | .hbm, ⟨47, _⟩ => ⟨S4x16x256x1024, .f32⟩
  | .hbm, ⟨48, _⟩ => ⟨S16x4x256x1024, .f32⟩
  | .hbm, ⟨49, _⟩ => ⟨S16x1024x1024, .f32⟩
  | .hbm, ⟨50, _⟩ => ⟨S16x1024x1024, .bf16⟩
  | _, _ => ⟨S32x16x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩

abbrev nD : Nat := 1
abbrev τ : Topo := Topo.v7x

variable {F : FTy → Type} [FloatOps F]
-- ==== Kernel3.lean ====
abbrev S32x256x1024 : Shape := ⟨3, ![32, 256, 1024]⟩
abbrev S32x16x256 : Shape := ⟨3, ![32, 16, 256]⟩
abbrev S32x16x32x1024 : Shape := ⟨4, ![32, 16, 32, 1024]⟩
abbrev S8x6x1024 : Shape := ⟨3, ![8, 6, 1024]⟩
abbrev S1024 : Shape := ⟨1, ![1024]⟩
abbrev S8192x1024 : Shape := ⟨2, ![8192, 1024]⟩
abbrev S32x256x16 : Shape := ⟨3, ![32, 256, 16]⟩
abbrev S16x32x32x1024 : Shape := ⟨4, ![16, 32, 32, 1024]⟩
abbrev S16x1024x1024 : Shape := ⟨3, ![16, 1024, 1024]⟩
abbrev S1x1024 : Shape := ⟨2, ![1, 1024]⟩
abbrev S1024x1024 : Shape := ⟨2, ![1024, 1024]⟩
abbrev S4x256x16 : Shape := ⟨3, ![4, 256, 16]⟩
abbrev S16x128x1024 : Shape := ⟨3, ![16, 128, 1024]⟩
abbrev S1x6x1024 : Shape := ⟨3, ![1, 6, 1024]⟩
abbrev S16x512 : Shape := ⟨2, ![16, 512]⟩
abbrev S1x512 : Shape := ⟨2, ![1, 512]⟩
abbrev S1x1x1024 : Shape := ⟨3, ![1, 1, 1024]⟩
abbrev S1x256x16 : Shape := ⟨3, ![1, 256, 16]⟩
abbrev S256x16 : Shape := ⟨2, ![256, 16]⟩
abbrev S256x512 : Shape := ⟨2, ![256, 512]⟩
abbrev S16x32x1024 : Shape := ⟨3, ![16, 32, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 10
  | .smem => 0
  | _ => 0

abbrev bufTy : (tb : Table) → Fin (tcTables nBuf tb) → BufTy
  | .hbm, ⟨0, _⟩ => ⟨S32x256x1024, .f32⟩
  | .hbm, ⟨1, _⟩ => ⟨S32x16x256, .f32⟩
  | .hbm, ⟨2, _⟩ => ⟨S32x16x32x1024, .f32⟩
  | .hbm, ⟨3, _⟩ => ⟨S8x6x1024, .f32⟩
  | .hbm, ⟨4, _⟩ => ⟨S1024, .f32⟩
  | .hbm, ⟨5, _⟩ => ⟨S8192x1024, .f32⟩
  | .hbm, ⟨6, _⟩ => ⟨S8192x1024, .bf16⟩
  | .hbm, ⟨7, _⟩ => ⟨S32x256x16, .f32⟩
  | .hbm, ⟨8, _⟩ => ⟨S16x32x32x1024, .f32⟩
  | .hbm, ⟨9, _⟩ => ⟨S16x1024x1024, .f32⟩
  | .hbm, ⟨10, _⟩ => ⟨S16x1024x1024, .bf16⟩
  | .hbm, ⟨11, _⟩ => ⟨S1x1024, .f32⟩
  | .hbm, ⟨12, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x256x16, .f32⟩
  | .local _ .vmem, ⟨3, _⟩ => ⟨S4x256x16, .f32⟩
  | .local _ .vmem, ⟨4, _⟩ => ⟨S16x128x1024, .bf16⟩
  | .local _ .vmem, ⟨5, _⟩ => ⟨S16x128x1024, .bf16⟩
  | .local _ .vmem, ⟨6, _⟩ => ⟨S1x6x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S32x256x1024 : Shape := ⟨3, ![32, 256, 1024]⟩
abbrev S32x16x256 : Shape := ⟨3, ![32, 16, 256]⟩
abbrev S32x16x32x1024 : Shape := ⟨4, ![32, 16, 32, 1024]⟩
abbrev S8x6x1024 : Shape := ⟨3, ![8, 6, 1024]⟩
abbrev S1024 : Shape := ⟨1, ![1024]⟩
abbrev S1x1x1024 : Shape := ⟨3, ![1, 1, 1024]⟩
abbrev S32 : Shape := ⟨1, ![32]⟩
abbrev S32x16x256x1 : Shape := ⟨4, ![32, 16, 256, 1]⟩
abbrev S1x1x1x32 : Shape := ⟨4, ![1, 1, 1, 32]⟩
abbrev S32x16x256x32 : Shape := ⟨4, ![32, 16, 256, 32]⟩
abbrev S_ : Shape := ⟨0, ![]⟩
abbrev S32x256 : Shape := ⟨2, ![32, 256]⟩
abbrev S32x256x1 : Shape := ⟨3, ![32, 256, 1]⟩
abbrev S8192x1024 : Shape := ⟨2, ![8192, 1024]⟩

abbrev nBuf : Space → Nat
  | .hbm => 40
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S32x16x256, .f32⟩
  | .hbm, ⟨2, _⟩ => ⟨S32x16x32x1024, .f32⟩
  | .hbm, ⟨3, _⟩ => ⟨S8x6x1024, .f32⟩
  | .hbm, ⟨4, _⟩ => ⟨S1024, .f32⟩
  | .hbm, ⟨5, _⟩ => ⟨S1x1x1024, .f32⟩
  | .hbm, ⟨6, _⟩ => ⟨S1024, .f32⟩
  | .hbm, ⟨7, _⟩ => ⟨S32, .f32⟩
  | .hbm, ⟨8, _⟩ => ⟨S32x16x256x1, .f32⟩
  | .hbm, ⟨9, _⟩ => ⟨S1x1x1x32, .f32⟩
  | .hbm, ⟨10, _⟩ => ⟨S32x16x256x32, .f32⟩
  | .hbm, ⟨11, _⟩ => ⟨S32x16x256x32, .f32⟩
  | .hbm, ⟨12, _⟩ => ⟨S32x16x256x32, .i1⟩
  | .hbm, ⟨13, _⟩ => ⟨S_, .f32⟩
  | .hbm, ⟨14, _⟩ => ⟨S_, .f32⟩
  | .hbm, ⟨15, _⟩ => ⟨S32x16x256x32, .f32⟩
  | .hbm, ⟨16, _⟩ => ⟨S32x16x256x32, .f32⟩
  | .hbm, ⟨17, _⟩ => ⟨S32x16x256x32, .f32⟩
  | .hbm, ⟨18, _⟩ => ⟨S32x256x1024, .f32⟩
  | .hbm, ⟨19, _⟩ => ⟨S1x1x1024, .f32⟩
  | .hbm, ⟨20, _⟩ => ⟨S32x256x1024, .f32⟩
  | .hbm, ⟨21, _⟩ => ⟨S32x256x1024, .f32⟩
  | .hbm, ⟨22, _⟩ => ⟨S32x256x1024, .f32⟩
  | .hbm, ⟨23, _⟩ => ⟨S32x256x1024, .f32⟩
  | .hbm, ⟨24, _⟩ => ⟨S_, .f32⟩
  | .hbm, ⟨25, _⟩ => ⟨S32x256, .f32⟩
  | .hbm, ⟨26, _⟩ => ⟨S32x256x1, .f32⟩
  | .hbm, ⟨27, _⟩ => ⟨S_, .f32⟩
  | .hbm, ⟨28, _⟩ => ⟨S32x256x1, .f32⟩
  | .hbm, ⟨29, _⟩ => ⟨S32x256x1, .f32⟩
  | .hbm, ⟨30, _⟩ => ⟨S_, .f32⟩
  | .hbm, ⟨31, _⟩ => ⟨S32x256x1, .f32⟩
  | .hbm, ⟨32, _⟩ => ⟨S32x256x1, .f32⟩
  | .hbm, ⟨33, _⟩ => ⟨S32x256x1, .f32⟩
  | .hbm, ⟨34, _⟩ => ⟨S32x256x1024, .f32⟩
  | .hbm, ⟨35, _⟩ => ⟨S32x256x1024, .f32⟩
  | .hbm, ⟨36, _⟩ => ⟨S1x1x1024, .f32⟩
  | .hbm, ⟨37, _⟩ => ⟨S32x256x1024, .f32⟩
  | .hbm, ⟨38, _⟩ => ⟨S32x256x1024, .f32⟩
  | .hbm, ⟨39, _⟩ => ⟨S8192x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel4.lean ====
abbrev S32x256x1024 : Shape := ⟨3, ![32, 256, 1024]⟩
abbrev S8x6x1024 : Shape := ⟨3, ![8, 6, 1024]⟩
abbrev S1024 : Shape := ⟨1, ![1024]⟩
abbrev S1024x928 : Shape := ⟨2, ![1024, 928]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8x64x64 : Shape := ⟨3, ![8, 64, 64]⟩
abbrev S1024x1024 : Shape := ⟨2, ![1024, 1024]⟩
abbrev S1024x16 : Shape := ⟨2, ![1024, 16]⟩
abbrev S928x1024 : Shape := ⟨2, ![928, 1024]⟩
abbrev S416x1024 : Shape := ⟨2, ![416, 1024]⟩
abbrev S16x1024 : Shape := ⟨2, ![16, 1024]⟩
abbrev S_ : Shape := ⟨0, ![]⟩
abbrev S64x1024 : Shape := ⟨2, ![64, 1024]⟩
abbrev S512x1024 : Shape := ⟨2, ![512, 1024]⟩
abbrev S256x8x96 : Shape := ⟨3, ![256, 8, 96]⟩
abbrev S256x8x32 : Shape := ⟨3, ![256, 8, 32]⟩
abbrev S256x8x128 : Shape := ⟨3, ![256, 8, 128]⟩
abbrev S256x1024 : Shape := ⟨2, ![256, 1024]⟩
abbrev S1024x256 : Shape := ⟨2, ![1024, 256]⟩
abbrev S128x8x128 : Shape := ⟨3, ![128, 8, 128]⟩
abbrev S128x8x64 : Shape := ⟨3, ![128, 8, 64]⟩
abbrev S32x64 : Shape := ⟨2, ![32, 64]⟩
abbrev S32x32 : Shape := ⟨2, ![32, 32]⟩
abbrev S32x128 : Shape := ⟨2, ![32, 128]⟩
abbrev S1x32x1x128 : Shape := ⟨4, ![1, 32, 1, 128]⟩
abbrev S1x32x8x128 : Shape := ⟨4, ![1, 32, 8, 128]⟩
abbrev S32x1024 : Shape := ⟨2, ![32, 1024]⟩
abbrev S128x512 : Shape := ⟨2, ![128, 512]⟩
abbrev S512x128 : Shape := ⟨2, ![512, 128]⟩
abbrev S96x1024 : Shape := ⟨2, ![96, 1024]⟩
abbrev S160x1024 : Shape := ⟨2, ![160, 1024]⟩
abbrev S1024x32 : Shape := ⟨2, ![1024, 32]⟩
abbrev S1024x96 : Shape := ⟨2, ![1024, 96]⟩
abbrev S1024x128 : Shape := ⟨2, ![1024, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x64x64 : Shape := ⟨3, ![4, 64, 64]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S256x512 : Shape := ⟨2, ![256, 512]⟩
abbrev S512x512 : Shape := ⟨2, ![512, 512]⟩
abbrev S256x1 : Shape := ⟨2, ![256, 1]⟩
abbrev S1x256 : Shape := ⟨2, ![1, 256]⟩
abbrev S8192x1024 : Shape := ⟨2, ![8192, 1024]⟩
abbrev S1x1024 : Shape := ⟨2, ![1, 1024]⟩
abbrev S1x128 : Shape := ⟨2, ![1, 128]⟩
abbrev S32x16x256 : Shape := ⟨3, ![32, 16, 256]⟩
abbrev S8192x128 : Shape := ⟨2, ![8192, 128]⟩
abbrev S32x32x256 : Shape := ⟨3, ![32, 32, 256]⟩
abbrev S1x6x1024 : Shape := ⟨3, ![1, 6, 1024]⟩
abbrev S4x16x256 : Shape := ⟨3, ![4, 16, 256]⟩
abbrev S4x32x256 : Shape := ⟨3, ![4, 32, 256]⟩
abbrev S1x1x1024 : Shape := ⟨3, ![1, 1, 1024]⟩
abbrev S1024x1 : Shape := ⟨2, ![1024, 1]⟩
abbrev S1024x512 : Shape := ⟨2, ![1024, 512]⟩
abbrev S256x128 : Shape := ⟨2, ![256, 128]⟩
abbrev S128x256 : Shape := ⟨2, ![128, 256]⟩
abbrev S32x256 : Shape := ⟨2, ![32, 256]⟩
abbrev S1x32x256 : Shape := ⟨3, ![1, 32, 256]⟩
abbrev S512x256 : Shape := ⟨2, ![512, 256]⟩
abbrev S512 : Shape := ⟨1, ![512]⟩
abbrev S1x512 : Shape := ⟨2, ![1, 512]⟩
abbrev S16x256 : Shape := ⟨2, ![16, 256]⟩
abbrev S144x256 : Shape := ⟨2, ![144, 256]⟩
abbrev S144x512 : Shape := ⟨2, ![144, 512]⟩
abbrev S64x256 : Shape := ⟨2, ![64, 256]⟩
abbrev S1x16x256 : Shape := ⟨3, ![1, 16, 256]⟩

abbrev nBuf : Space → Nat
  | .hbm => 231
  | .vmem => 28
  | .smem => 0
  | _ => 0

abbrev hbmTy0_0 (i : Nat) : BufTy := match i % 128 with
  | 0 => ⟨S32x256x1024, .f32⟩
  | 1 => ⟨S8x6x1024, .f32⟩
  | 2 => ⟨S1024, .f32⟩
  | 3 => ⟨S1024x928, .f32⟩
  | 4 => ⟨S256, .f32⟩
  | 5 => ⟨S256x768, .f32⟩
  | 6 => ⟨S128, .f32⟩
  | 7 => ⟨S128x1024, .f32⟩
  | 8 => ⟨S8x64x64, .f32⟩
  | 9 => ⟨S1024x1024, .f32⟩
  | 10 => ⟨S1024, .f32⟩
  | 11 => ⟨S1024x16, .f32⟩
  | 12 => ⟨S928x1024, .f32⟩
  | 13 => ⟨S416x1024, .f32⟩
  | 14 => ⟨S16x1024, .f32⟩
  | 15 => ⟨S16x1024, .f32⟩
  | 16 => ⟨S16x1024, .f32⟩
  | 17 => ⟨S_, .f32⟩
  | 18 => ⟨S64x1024, .f32⟩
  | 19 => ⟨S512x1024, .f32⟩
  | 20 => ⟨S1024x1024, .f32⟩
  | 21 => ⟨S1024x1024, .bf16⟩
  | 22 => ⟨S256x8x96, .f32⟩
  | 23 => ⟨S_, .f32⟩
  | 24 => ⟨S256x8x32, .f32⟩
  | 25 => ⟨S256x8x128, .f32⟩
  | 26 => ⟨S256x1024, .f32⟩
  | 27 => ⟨S1024x256, .f32⟩
  | 28 => ⟨S1024x256, .bf16⟩
  | 29 => ⟨S128x8x128, .f32⟩
  | 30 => ⟨S128x8x64, .f32⟩
  | 31 => ⟨S_, .f32⟩
  | 32 => ⟨S128x8x64, .f32⟩
  | 33 => ⟨S128x8x128, .f32⟩
  | 34 => ⟨S128x1024, .f32⟩
  | 35 => ⟨S_, .f32⟩
  | 36 => ⟨S32x64, .f32⟩
  | 37 => ⟨S32x32, .i32⟩
  | 38 => ⟨S32x32, .i32⟩
  | 39 => ⟨S_, .i32⟩
  | 40 => ⟨S32x32, .i32⟩
  | 41 => ⟨S32x32, .i32⟩
  | 42 => ⟨S32x32, .i1⟩
  | 43 => ⟨S32x32, .f32⟩
  | 44 => ⟨S_, .f32⟩
  | 45 => ⟨S32x32, .f32⟩
  | 46 => ⟨S32x128, .f32⟩
  | 47 => ⟨S1x32x1x128, .f32⟩
  | 48 => ⟨S1x32x8x128, .f32⟩
  | 49 => ⟨S32x1024, .f32⟩
  | 50 => ⟨S_, .f32⟩
  | 51 => ⟨S64x1024, .f32⟩
  | 52 => ⟨S256x1024, .f32⟩
  | 53 => ⟨S256x1024, .bf16⟩
  | 54 => ⟨S128x8x64, .f32⟩
  | 55 => ⟨S128x512, .f32⟩
  | 56 => ⟨S512x128, .f32⟩
  | 57 => ⟨S512x128, .bf16⟩
  | 58 => ⟨S_, .f32⟩
  | 59 => ⟨S_, .f32⟩
  | 60 => ⟨S_, .f32⟩
  | 61 => ⟨S_, .f32⟩
  | 62 => ⟨S_, .f32⟩
  | 63 => ⟨S96x1024, .f32⟩
  | 64 => ⟨S_, .f32⟩
  | 65 => ⟨S160x1024, .f32⟩
  | 66 => ⟨S256x1024, .f32⟩
  | 67 => ⟨S_, .f32⟩
  | 68 => ⟨S1024x32, .f32⟩
  | 69 => ⟨S_, .f32⟩
  | 70 => ⟨S1024x96, .f32⟩
  | 71 => ⟨S1024x128, .f32⟩
  | 72 => ⟨S64, .i32⟩
  | 73 => ⟨S64x1, .i32⟩
  | 74 => ⟨S1x64, .i32⟩
  | 75 => ⟨S64x64, .i32⟩
  | 76 => ⟨S64x64, .i32⟩
  | 77 => ⟨S64x64, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S64x64, .i32⟩
  | 85 => ⟨S64x64, .i32⟩
  | 86 => ⟨S_, .i32⟩
  | 87 => ⟨S64x64, .i32⟩
  | 88 => ⟨S64x64, .i1⟩
  | 89 => ⟨S_, .i32⟩
  | 90 => ⟨S64x64, .i32⟩
  | 91 => ⟨S64x64, .i1⟩
  | 92 => ⟨S_, .i32⟩
  | 93 => ⟨S_, .i1⟩
  | 94 => ⟨S64x64, .i1⟩
  | 95 => ⟨S64x64, .i1⟩
  | 96 => ⟨S64x64, .i1⟩
  | 97 => ⟨S64x64, .i32⟩
  | 98 => ⟨S64x64, .i32⟩
  | 99 => ⟨S64x64, .i32⟩
  | 100 => ⟨S64x64, .f32⟩
  | 101 => ⟨S_, .f32⟩
  | 102 => ⟨S64x64, .f32⟩
  | 103 => ⟨S64x64, .f32⟩
  | 104 => ⟨S64x64, .f32⟩
  | 105 => ⟨S_, .f32⟩
  | 106 => ⟨S64x64, .f32⟩
  | 107 => ⟨S64x64, .f32⟩
  | 108 => ⟨S64x64, .f32⟩
  | 109 => ⟨S_, .f32⟩
  | 110 => ⟨S64x64, .f32⟩
  | 111 => ⟨S64x64, .f32⟩
  | 112 => ⟨S8x64x64, .f32⟩
  | 113 => ⟨S8x64x64, .f32⟩
  | 114 => ⟨S8x64x64, .f32⟩
  | 115 => ⟨S8x64x64, .f32⟩
  | 116 => ⟨S4x64x64, .f32⟩
  | 117 => ⟨S4x4, .i32⟩
  | 118 => ⟨S4x4, .i32⟩
  | 119 => ⟨S_, .i32⟩
  | 120 => ⟨S4x4, .i32⟩
  | 121 => ⟨S4x4, .i32⟩
  | 122 => ⟨S4x4, .i1⟩
  | 123 => ⟨S4x4, .f32⟩
  | 124 => ⟨S4x1x4x1, .f32⟩
  | 125 => ⟨S4x64x1x64, .f32⟩
  | 126 => ⟨S4x64x4x64, .f32⟩
  | 127 => ⟨S4x64x4x64, .f32⟩
  | _ => ⟨S32x256x1024, .f32⟩

abbrev hbmTy0_1 (i : Nat) : BufTy := match i % 128 with
  | 0 => ⟨S4x64x4x64, .f32⟩
  | 1 => ⟨S256x256, .f32⟩
  | 2 => ⟨S4x64x64, .f32⟩
  | 3 => ⟨S4x4, .i32⟩
  | 4 => ⟨S4x4, .i32⟩
  | 5 => ⟨S_, .i32⟩
  | 6 => ⟨S4x4, .i32⟩
  | 7 => ⟨S4x4, .i32⟩
  | 8 => ⟨S4x4, .i1⟩
  | 9 => ⟨S4x4, .f32⟩
  | 10 => ⟨S4x1x4x1, .f32⟩
  | 11 => ⟨S4x64x1x64, .f32⟩
  | 12 => ⟨S4x64x4x64, .f32⟩
  | 13 => ⟨S4x64x4x64, .f32⟩
  | 14 => ⟨S4x64x4x64, .f32⟩
  | 15 => ⟨S256x256, .f32⟩
  | 16 => ⟨S256x512, .f32⟩
  | 17 => ⟨S4x64x64, .f32⟩
  | 18 => ⟨S4x4, .i32⟩
  | 19 => ⟨S4x4, .i32⟩
  | 20 => ⟨S_, .i32⟩
  | 21 => ⟨S4x4, .i32⟩
  | 22 => ⟨S4x4, .i32⟩
  | 23 => ⟨S4x4, .i1⟩
  | 24 => ⟨S4x4, .f32⟩
  | 25 => ⟨S4x1x4x1, .f32⟩
  | 26 => ⟨S4x64x1x64, .f32⟩
  | 27 => ⟨S4x64x4x64, .f32⟩
  | 28 => ⟨S4x64x4x64, .f32⟩
  | 29 => ⟨S4x64x4x64, .f32⟩
  | 30 => ⟨S256x256, .f32⟩
  | 31 => ⟨S4x64x64, .f32⟩
  | 32 => ⟨S4x4, .i32⟩
  | 33 => ⟨S4x4, .i32⟩
  | 34 => ⟨S_, .i32⟩
  | 35 => ⟨S4x4, .i32⟩
  | 36 => ⟨S4x4, .i32⟩
  | 37 => ⟨S4x4, .i1⟩
  | 38 => ⟨S4x4, .f32⟩
  | 39 => ⟨S4x1x4x1, .f32⟩
  | 40 => ⟨S4x64x1x64, .f32⟩
  | 41 => ⟨S4x64x4x64, .f32⟩
  | 42 => ⟨S4x64x4x64, .f32⟩
  | 43 => ⟨S4x64x4x64, .f32⟩
  | 44 => ⟨S256x256, .f32⟩
  | 45 => ⟨S256x512, .f32⟩
  | 46 => ⟨S512x512, .f32⟩
  | 47 => ⟨S512x512, .bf16⟩
  | 48 => ⟨S256, .i32⟩
  | 49 => ⟨S256x1, .i32⟩
  | 50 => ⟨S1x256, .i32⟩
  | 51 => ⟨S256x256, .i32⟩
  | 52 => ⟨S256x256, .i32⟩
  | 53 => ⟨S256x256, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S256x256, .i32⟩
  | 61 => ⟨S256x256, .i32⟩
  | 62 => ⟨S_, .i32⟩
  | 63 => ⟨S256x256, .i32⟩
  | 64 => ⟨S256x256, .i1⟩
  | 65 => ⟨S_, .i32⟩
  | 66 => ⟨S256x256, .i32⟩
  | 67 => ⟨S256x256, .i1⟩
  | 68 => ⟨S_, .i32⟩
  | 69 => ⟨S_, .i1⟩
  | 70 => ⟨S256x256, .i1⟩
  | 71 => ⟨S256x256, .i1⟩
  | 72 => ⟨S256x256, .i1⟩
  | 73 => ⟨S256x256, .i32⟩
  | 74 => ⟨S256x256, .i32⟩
  | 75 => ⟨S256x256, .i32⟩
  | 76 => ⟨S256x256, .f32⟩
  | 77 => ⟨S_, .f32⟩
  | 78 => ⟨S256x256, .f32⟩
  | 79 => ⟨S256x256, .f32⟩
  | 80 => ⟨S256x256, .f32⟩
  | 81 => ⟨S_, .f32⟩
  | 82 => ⟨S256x256, .f32⟩
  | 83 => ⟨S256x256, .f32⟩
  | 84 => ⟨S256x256, .f32⟩
  | 85 => ⟨S_, .f32⟩
  | 86 => ⟨S256x256, .f32⟩
  | 87 => ⟨S256x256, .f32⟩
  | 88 => ⟨S8192x1024, .f32⟩
  | 89 => ⟨S1x1024, .f32⟩
  | 90 => ⟨S1x256, .f32⟩
  | 91 => ⟨S1x128, .f32⟩
  | 92 => ⟨S256x256, .bf16⟩
  | 93 => ⟨S256x256, .bf16⟩
  | 94 => ⟨S1024x1024, .bf16⟩
  | 95 => ⟨S1x1024, .f32⟩
  | 96 => ⟨S16x1024, .f32⟩
  | 97 => ⟨S16x1024, .bf16⟩
  | 98 => ⟨S8192x1024, .bf16⟩
  | 99 => ⟨S8192x1024, .bf16⟩
  | 100 => ⟨S32x16x256, .f32⟩
  | 101 => ⟨S8192x128, .f32⟩
  | 102 => ⟨S32x32x256, .f32⟩
  | _ => ⟨S32x256x1024, .f32⟩

abbrev hbmTy (i : Nat) : BufTy := match i / 128 with
  | 0 => hbmTy0_0 i
  | 1 => hbmTy0_1 i
  | _ => ⟨S32x256x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1024, .f32⟩
  | .local _ .vmem, ⟨4, _⟩ => ⟨S1024x1024, .bf16⟩
  | .local _ .vmem, ⟨5, _⟩ => ⟨S1x256, .f32⟩
  | .local _ .vmem, ⟨6, _⟩ => ⟨S1024x256, .bf16⟩
  | .local _ .vmem, ⟨7, _⟩ => ⟨S1x128, .f32⟩
  | .local _ .vmem, ⟨8, _⟩ => ⟨S256x1024, .bf16⟩
  | .local _ .vmem, ⟨9, _⟩ => ⟨S512x128, .bf16⟩
  | .local _ .vmem, ⟨10, _⟩ => ⟨S512x512, .bf16⟩
  | .local _ .vmem, ⟨11, _⟩ => ⟨S256x1024, .f32⟩
  | .local _ .vmem, ⟨12, _⟩ => ⟨S1024x128, .f32⟩
  | .local _ .vmem, ⟨13, _⟩ => ⟨S256x256, .bf16⟩
  | .local _ .vmem, ⟨14, _⟩ => ⟨S256x256, .bf16⟩
  | .local _ .vmem, ⟨15, _⟩ => ⟨S1024x1024, .bf16⟩
  | .local _ .vmem, ⟨16, _⟩ => ⟨S1x1024, .f32⟩
  | .local _ .vmem, ⟨17, _⟩ => ⟨S16x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S4x16x256, .f32⟩
  | .local _ .vmem, ⟨23, _⟩ => ⟨S4x16x256, .f32⟩
  | .local _ .vmem, ⟨24, _⟩ => ⟨S1024x128, .f32⟩
  | .local _ .vmem, ⟨25, _⟩ => ⟨S1024x128, .f32⟩
  | .local _ .vmem, ⟨26, _⟩ => ⟨S4x32x256, .f32⟩
  | .local _ .vmem, ⟨27, _⟩ => ⟨S4x32x256, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_10 : Ref sig .tc := ⟨.hbm, 78, rfl⟩
abbrev main_call0_v0 : Ref sig .tc := ⟨.hbm, 79, rfl⟩
abbrev main_call0_c : Ref sig .tc := ⟨.hbm, 80, rfl⟩
abbrev main_call0_v1 : Ref sig .tc := ⟨.hbm, 81, rfl⟩
abbrev main_call0_c_0 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_c_1 : Ref sig .tc := ⟨.hbm, 86, rfl⟩
abbrev main_call0_v5 : Ref sig .tc := ⟨.hbm, 87, rfl⟩
abbrev main_call0_v6 : Ref sig .tc := ⟨.hbm, 88, rfl⟩
abbrev main_call0_c_2 : Ref sig .tc := ⟨.hbm, 89, rfl⟩
abbrev main_call0_v7 : Ref sig .tc := ⟨.hbm, 90, rfl⟩
abbrev main_call0_v8 : Ref sig .tc := ⟨.hbm, 91, rfl⟩
abbrev main_call0_c_3 : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_call0_v12 : Ref sig .tc := ⟨.hbm, 96, rfl⟩
abbrev main_call0_v13 : Ref sig .tc := ⟨.hbm, 97, rfl⟩
abbrev main_call0_v14 : Ref sig .tc := ⟨.hbm, 98, rfl⟩
abbrev main_v54 : Ref sig .tc := ⟨.hbm, 99, rfl⟩
abbrev main_v55 : Ref sig .tc := ⟨.hbm, 100, rfl⟩
abbrev main_cst_11 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_12 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_cst_13 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_c_14 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_c_15 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_c_16 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_c_17 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_c_18 : Ref sig .tc := ⟨.hbm, 182, rfl⟩
abbrev main_call1_v0 : Ref sig .tc := ⟨.hbm, 183, rfl⟩
abbrev main_call1_c : Ref sig .tc := ⟨.hbm, 184, rfl⟩
abbrev main_call1_v1 : Ref sig .tc := ⟨.hbm, 185, rfl⟩
abbrev main_call1_c_0 : Ref sig .tc := ⟨.hbm, 186, rfl⟩
abbrev main_call1_v2 : Ref sig .tc := ⟨.hbm, 187, rfl⟩
abbrev main_call1_v3 : Ref sig .tc := ⟨.hbm, 188, rfl⟩
abbrev main_call1_v4 : Ref sig .tc := ⟨.hbm, 189, rfl⟩
abbrev main_call1_c_1 : Ref sig .tc := ⟨.hbm, 190, rfl⟩
abbrev main_call1_v5 : Ref sig .tc := ⟨.hbm, 191, rfl⟩
abbrev main_call1_v6 : Ref sig .tc := ⟨.hbm, 192, rfl⟩
abbrev main_call1_c_2 : Ref sig .tc := ⟨.hbm, 193, rfl⟩
abbrev main_call1_v7 : Ref sig .tc := ⟨.hbm, 194, rfl⟩
abbrev main_call1_v8 : Ref sig .tc := ⟨.hbm, 195, rfl⟩
abbrev main_call1_c_3 : Ref sig .tc := ⟨.hbm, 196, rfl⟩
abbrev main_call1_v9 : Ref sig .tc := ⟨.hbm, 197, rfl⟩
abbrev main_call1_v10 : Ref sig .tc := ⟨.hbm, 198, rfl⟩
abbrev main_call1_v11 : Ref sig .tc := ⟨.hbm, 199, rfl⟩
abbrev main_call1_v12 : Ref sig .tc := ⟨.hbm, 200, rfl⟩
abbrev main_call1_v13 : Ref sig .tc := ⟨.hbm, 201, rfl⟩
abbrev main_call1_v14 : Ref sig .tc := ⟨.hbm, 202, rfl⟩
abbrev main_v130 : Ref sig .tc := ⟨.hbm, 203, rfl⟩
abbrev main_v131 : Ref sig .tc := ⟨.hbm, 204, rfl⟩
abbrev main_cst_19 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_cst_20 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_cst_21 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150_0 : Ref sig .tc := ⟨.hbm, 226, rfl⟩
abbrev main_v150_1 : Ref sig .tc := ⟨.hbm, 227, rfl⟩
abbrev main_v150_2 : Ref sig .tc := ⟨.hbm, 228, rfl⟩
abbrev main_v150_3 : Ref sig .tc := ⟨.hbm, 229, rfl⟩
abbrev main_v150_4 : Ref sig .tc := ⟨.hbm, 230, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S16x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1024x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4x16x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S4x32x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference4Ideal.lean ====
abbrev S32x256x1024 : Shape := ⟨3, ![32, 256, 1024]⟩
abbrev S8x6x1024 : Shape := ⟨3, ![8, 6, 1024]⟩
abbrev S1024 : Shape := ⟨1, ![1024]⟩
abbrev S1024x928 : Shape := ⟨2, ![1024, 928]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8x64x64 : Shape := ⟨3, ![8, 64, 64]⟩
abbrev S1024x1024 : Shape := ⟨2, ![1024, 1024]⟩
abbrev S1024x16 : Shape := ⟨2, ![1024, 16]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x928 : Shape := ⟨3, ![32, 256, 928]⟩
abbrev S32x256x128 : Shape := ⟨3, ![32, 256, 128]⟩
abbrev S1x1x128 : Shape := ⟨3, ![1, 1, 128]⟩
abbrev S32x256x32 : Shape := ⟨3, ![32, 256, 32]⟩
abbrev S8192x128 : Shape := ⟨2, ![8192, 128]⟩
abbrev S32x32x256 : Shape := ⟨3, ![32, 32, 256]⟩

abbrev nBuf : Space → Nat
  | .hbm => 62
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S8x6x1024, .f32⟩
  | .hbm, ⟨2, _⟩ => ⟨S1024, .f32⟩
  | .hbm, ⟨3, _⟩ => ⟨S1024x928, .f32⟩
  | .hbm, ⟨4, _⟩ => ⟨S256, .f32⟩
  | .hbm, ⟨5, _⟩ => ⟨S256x768, .f32⟩
  | .hbm, ⟨6, _⟩ => ⟨S128, .f32⟩
  | .hbm, ⟨7, _⟩ => ⟨S128x1024, .f32⟩
  | .hbm, ⟨8, _⟩ => ⟨S8x64x64, .f32⟩
  | .hbm, ⟨9, _⟩ => ⟨S1024x1024, .f32⟩
  | .hbm, ⟨10, _⟩ => ⟨S1024, .f32⟩
  | .hbm, ⟨11, _⟩ => ⟨S1024x16, .f32⟩
  | .hbm, ⟨12, _⟩ => ⟨S1x1x1024, .f32⟩
  | .hbm, ⟨13, _⟩ => ⟨S1024, .f32⟩
  | .hbm, ⟨14, _⟩ => ⟨S1x1x1024, .f32⟩
  | .hbm, ⟨15, _⟩ => ⟨S1024, .f32⟩
  | .hbm, ⟨16, _⟩ => ⟨S32x256x1024, .f32⟩
  | .hbm, ⟨17, _⟩ => ⟨S_, .f32⟩
  | .hbm, ⟨18, _⟩ => ⟨S32x256, .f32⟩
  | .hbm, ⟨19, _⟩ => ⟨S32x256x1, .f32⟩
  | .hbm, ⟨20, _⟩ => ⟨S_, .f32⟩
  | .hbm, ⟨21, _⟩ => ⟨S32x256x1, .f32⟩
  | .hbm, ⟨22, _⟩ => ⟨S32x256x1, .f32⟩
  | .hbm, ⟨23, _⟩ => ⟨S_, .f32⟩
  | .hbm, ⟨24, _⟩ => ⟨S32x256x1, .f32⟩
  | .hbm, ⟨25, _⟩ => ⟨S32x256x1, .f32⟩
  | .hbm, ⟨26, _⟩ => ⟨S32x256x1, .f32⟩
  | .hbm, ⟨27, _⟩ => ⟨S32x256x1024, .f32⟩
  | .hbm, ⟨28, _⟩ => ⟨S32x256x1024, .f32⟩
  | .hbm, ⟨29, _⟩ => ⟨S1x1x1024, .f32⟩
  | .hbm, ⟨30, _⟩ => ⟨S32x256x1024, .f32⟩
  | .hbm, ⟨31, _⟩ => ⟨S32x256x1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1x1x1024, .f32⟩
  | .hbm, ⟨36, _⟩ => ⟨S32x256x1024, .f32⟩
  | .hbm, ⟨37, _⟩ => ⟨S32x256x1024, .f32⟩
  | .hbm, ⟨38, _⟩ => ⟨S1x1x1024, .f32⟩
  | .hbm, ⟨39, _⟩ => ⟨S32x256x1024, .f32⟩
  | .hbm, ⟨40, _⟩ => ⟨S32x256x1024, .f32⟩
  | .hbm, ⟨41, _⟩ => ⟨S32x256x928, .f32⟩
  | .hbm, ⟨42, _⟩ => ⟨S32x256x128, .f32⟩
  | .hbm, ⟨43, _⟩ => ⟨S32x256x128, .f32⟩
  | .hbm, ⟨44, _⟩ => ⟨S_, .f32⟩
  | .hbm, ⟨45, _⟩ => ⟨S32x256, .f32⟩
  | .hbm, ⟨46, _⟩ => ⟨S32x256x1, .f32⟩
  | .hbm, ⟨47, _⟩ => ⟨S_, .f32⟩
  | .hbm, ⟨48, _⟩ => ⟨S32x256x1, .f32⟩
  | .hbm, ⟨49, _⟩ => ⟨S32x256x1, .f32⟩
  | .hbm, ⟨50, _⟩ => ⟨S_, .f32⟩
  | .hbm, ⟨51, _⟩ => ⟨S32x256x1, .f32⟩
  | .hbm, ⟨52, _⟩ => ⟨S32x256x1, .f32⟩
  | .hbm, ⟨53, _⟩ => ⟨S32x256x1, .f32⟩
  | .hbm, ⟨54, _⟩ => ⟨S32x256x128, .f32⟩
  | .hbm, ⟨55, _⟩ => ⟨S32x256x128, .f32⟩
  | .hbm, ⟨56, _⟩ => ⟨S1x1x128, .f32⟩
  | .hbm, ⟨57, _⟩ => ⟨S32x256x128, .f32⟩
  | .hbm, ⟨58, _⟩ => ⟨S32x256x128, .f32⟩
  | .hbm, ⟨59, _⟩ => ⟨S32x256x32, .f32⟩
  | .hbm, ⟨60, _⟩ => ⟨S8192x128, .f32⟩
  | .hbm, ⟨61, _⟩ => ⟨S32x32x256, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Kernel5.lean ====
abbrev S4x1024 : Shape := ⟨2, ![4, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1x6144 : Shape := ⟨2, ![1, 6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S1x6144, .f32⟩
  | .hbm, ⟨9, _⟩ => ⟨S8x6144, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4x1024 : Shape := ⟨2, ![4, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S8x6144 : Shape := ⟨2, ![8, 6144]⟩
abbrev S1x6144 : Shape := ⟨2, ![1, 6144]⟩

abbrev nBuf : Space → Nat
  | .hbm => 21
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x6144, .f32⟩
  | .hbm, ⟨18, _⟩ => ⟨S1x6144, .f32⟩
  | .hbm, ⟨19, _⟩ => ⟨S8x6144, .f32⟩
  | .hbm, ⟨20, _⟩ => ⟨S8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Kernel6.lean ====
abbrev S4x2048x1024 : Shape := ⟨3, ![4, 2048, 1024]⟩
abbrev S8x6x1024 : Shape := ⟨3, ![8, 6, 1024]⟩
abbrev S1024 : Shape := ⟨1, ![1024]⟩
abbrev S1024x928 : Shape := ⟨2, ![1024, 928]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8x64x64 : Shape := ⟨3, ![8, 64, 64]⟩
abbrev S2048x16 : Shape := ⟨2, ![2048, 16]⟩
abbrev S64x64 : Shape := ⟨2, ![64, 64]⟩
abbrev S928x1024 : Shape := ⟨2, ![928, 1024]⟩
abbrev S416x1024 : Shape := ⟨2, ![416, 1024]⟩
abbrev S16x1024 : Shape := ⟨2, ![16, 1024]⟩
abbrev S_ : Shape := ⟨0, ![]⟩
abbrev S64x1024 : Shape := ⟨2, ![64, 1024]⟩
abbrev S512x1024 : Shape := ⟨2, ![512, 1024]⟩
abbrev S1024x1024 : Shape := ⟨2, ![1024, 1024]⟩
abbrev S256x8x96 : Shape := ⟨3, ![256, 8, 96]⟩
abbrev S256x8x32 : Shape := ⟨3, ![256, 8, 32]⟩
abbrev S256x8x128 : Shape := ⟨3, ![256, 8, 128]⟩
abbrev S256x1024 : Shape := ⟨2, ![256, 1024]⟩
abbrev S256x8x16 : Shape := ⟨3, ![256, 8, 16]⟩
abbrev S256x256 : Shape := ⟨2, ![256, 256]⟩
abbrev S256x1280 : Shape := ⟨2, ![256, 1280]⟩
abbrev S1280x256 : Shape := ⟨2, ![1280, 256]⟩
abbrev S128x8x128 : Shape := ⟨3, ![128, 8, 128]⟩
abbrev S128x8x64 : Shape := ⟨3, ![128, 8, 64]⟩
abbrev S32x64 : Shape := ⟨2, ![32, 64]⟩
abbrev S32x32 : Shape := ⟨2, ![32, 32]⟩
abbrev S32x128 : Shape := ⟨2, ![32, 128]⟩
abbrev S1x32x1x128 : Shape := ⟨4, ![1, 32, 1, 128]⟩
abbrev S1x32x8x128 : Shape := ⟨4, ![1, 32, 8, 128]⟩
abbrev S32x1024 : Shape := ⟨2, ![32, 1024]⟩
abbrev S128x512 : Shape := ⟨2, ![128, 512]⟩
abbrev S512x128 : Shape := ⟨2, ![512, 128]⟩
abbrev S2048x32 : Shape := ⟨2, ![2048, 32]⟩
abbrev S2048x64 : Shape := ⟨2, ![2048, 64]⟩
abbrev S2048x256 : Shape := ⟨2, ![2048, 256]⟩
abbrev S256x2048 : Shape := ⟨2, ![256, 2048]⟩
abbrev S2048x128 : Shape := ⟨2, ![2048, 128]⟩
abbrev S4x64x64 : Shape := ⟨3, ![4, 64, 64]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x512 : Shape := ⟨2, ![256, 512]⟩
abbrev S512x512 : Shape := ⟨2, ![512, 512]⟩
abbrev S8192x1024 : Shape := ⟨2, ![8192, 1024]⟩
abbrev S1x1024 : Shape := ⟨2, ![1, 1024]⟩
abbrev S1x256 : Shape := ⟨2, ![1, 256]⟩
abbrev S1x128 : Shape := ⟨2, ![1, 128]⟩
abbrev S1024x8192 : Shape := ⟨2, ![1024, 8192]⟩
abbrev S512x8192 : Shape := ⟨2, ![512, 8192]⟩
abbrev S8192x512 : Shape := ⟨2, ![8192, 512]⟩
abbrev S1x6x1024 : Shape := ⟨3, ![1, 6, 1024]⟩
abbrev S1024x128 : Shape := ⟨2, ![1024, 128]⟩
abbrev S1024x512 : Shape := ⟨2, ![1024, 512]⟩
abbrev S1x1x1024 : Shape := ⟨3, ![1, 1, 1024]⟩
abbrev S1024x1 : Shape := ⟨2, ![1024, 1]⟩
abbrev S1024x256 : Shape := ⟨2, ![1024, 256]⟩
abbrev S1280x1024 : Shape := ⟨2, ![1280, 1024]⟩

abbrev nBuf : Space → Nat
  | .hbm => 163
  | .vmem => 26
  | .smem => 0
  | _ => 0

abbrev hbmTy0_0 (i : Nat) : BufTy := match i % 128 with
  | 0 => ⟨S4x2048x1024, .f32⟩
  | 1 => ⟨S8x6x1024, .f32⟩
  | 2 => ⟨S1024, .f32⟩
  | 3 => ⟨S1024x928, .f32⟩
  | 4 => ⟨S256, .f32⟩
  | 5 => ⟨S256x768, .f32⟩
  | 6 => ⟨S128, .f32⟩
  | 7 => ⟨S128x1024, .f32⟩
  | 8 => ⟨S8x64x64, .f32⟩
  | 9 => ⟨S2048x16, .f32⟩
  | 10 => ⟨S64x64, .f32⟩
  | 11 => ⟨S64x64, .f32⟩
  | 12 => ⟨S928x1024, .f32⟩
  | 13 => ⟨S416x1024, .f32⟩
  | 14 => ⟨S16x1024, .f32⟩
  | 15 => ⟨S16x1024, .f32⟩
  | 16 => ⟨S16x1024, .f32⟩
  | 17 => ⟨S_, .f32⟩
  | 18 => ⟨S64x1024, .f32⟩
  | 19 => ⟨S512x1024, .f32⟩
  | 20 => ⟨S1024x1024, .f32⟩
  | 21 => ⟨S1024x1024, .bf16⟩
  | 22 => ⟨S256x8x96, .f32⟩
  | 23 => ⟨S_, .f32⟩
  | 24 => ⟨S256x8x32, .f32⟩
  | 25 => ⟨S256x8x128, .f32⟩
  | 26 => ⟨S256x1024, .f32⟩
  | 27 => ⟨S256x8x32, .f32⟩
  | 28 => ⟨S256x8x16, .f32⟩
  | 29 => ⟨S256x8x16, .f32⟩
  | 30 => ⟨S256x8x16, .f32⟩
  | 31 => ⟨S256x8x32, .f32⟩
  | 32 => ⟨S256x256, .f32⟩
  | 33 => ⟨S256x1280, .f32⟩
  | 34 => ⟨S1280x256, .f32⟩
  | 35 => ⟨S1280x256, .bf16⟩
  | 36 => ⟨S128x8x128, .f32⟩
  | 37 => ⟨S128x8x64, .f32⟩
  | 38 => ⟨S_, .f32⟩
  | 39 => ⟨S128x8x64, .f32⟩
  | 40 => ⟨S128x8x128, .f32⟩
  | 41 => ⟨S128x1024, .f32⟩
  | 42 => ⟨S_, .f32⟩
  | 43 => ⟨S32x64, .f32⟩
  | 44 => ⟨S32x32, .i32⟩
  | 45 => ⟨S32x32, .i32⟩
  | 46 => ⟨S_, .i32⟩
  | 47 => ⟨S32x32, .i32⟩
  | 48 => ⟨S32x32, .i32⟩
  | 49 => ⟨S32x32, .i1⟩
  | 50 => ⟨S32x32, .f32⟩
  | 51 => ⟨S_, .f32⟩
  | 52 => ⟨S32x32, .f32⟩
  | 53 => ⟨S32x128, .f32⟩
  | 54 => ⟨S1x32x1x128, .f32⟩
  | 55 => ⟨S1x32x8x128, .f32⟩
  | 56 => ⟨S32x1024, .f32⟩
  | 57 => ⟨S_, .f32⟩
  | 58 => ⟨S64x1024, .f32⟩
  | 59 => ⟨S256x1024, .f32⟩
  | 60 => ⟨S256x1024, .bf16⟩
  | 61 => ⟨S128x8x64, .f32⟩
  | 62 => ⟨S128x512, .f32⟩
  | 63 => ⟨S512x128, .f32⟩
  | 64 => ⟨S512x128, .bf16⟩
  | 65 => ⟨S2048x16, .f32⟩
  | 66 => ⟨S2048x16, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S2048x32, .f32⟩
  | 74 => ⟨S2048x64, .f32⟩
  | 75 => ⟨S2048x16, .f32⟩
  | 76 => ⟨S2048x16, .f32⟩
  | 77 => ⟨S2048x16, .f32⟩
  | 78 => ⟨S2048x16, .f32⟩
  | 79 => ⟨S_, .f32⟩
  | 80 => ⟨S2048x64, .f32⟩
  | 81 => ⟨S2048x16, .f32⟩
  | 82 => ⟨S2048x16, .f32⟩
  | 83 => ⟨S2048x16, .f32⟩
  | 84 => ⟨S2048x16, .f32⟩
  | 85 => ⟨S2048x256, .f32⟩
  | 86 => ⟨S256x2048, .f32⟩
  | 87 => ⟨S_, .f32⟩
  | 88 => ⟨S2048x64, .f32⟩
  | 89 => ⟨S2048x128, .f32⟩
  | 90 => ⟨S8x64x64, .f32⟩
  | 91 => ⟨S8x64x64, .f32⟩
  | 92 => ⟨S8x64x64, .f32⟩
  | 93 => ⟨S8x64x64, .f32⟩
  | 94 => ⟨S4x64x64, .f32⟩
  | 95 => ⟨S4x4, .i32⟩
  | 96 => ⟨S4x4, .i32⟩
  | 97 => ⟨S_, .i32⟩
  | 98 => ⟨S4x4, .i32⟩
  | 99 => ⟨S4x4, .i32⟩
  | 100 => ⟨S4x4, .i1⟩
  | 101 => ⟨S4x4, .f32⟩
  | 102 => ⟨S4x1x4x1, .f32⟩
  | 103 => ⟨S4x64x1x64, .f32⟩
  | 104 => ⟨S4x64x4x64, .f32⟩
  | 105 => ⟨S4x64x4x64, .f32⟩
  | 106 => ⟨S4x64x4x64, .f32⟩
  | 107 => ⟨S256x256, .f32⟩
  | 108 => ⟨S4x64x64, .f32⟩
  | 109 => ⟨S4x4, .i32⟩
  | 110 => ⟨S4x4, .i32⟩
  | 111 => ⟨S_, .i32⟩
  | 112 => ⟨S4x4, .i32⟩
  | 113 => ⟨S4x4, .i32⟩
  | 114 => ⟨S4x4, .i1⟩
  | 115 => ⟨S4x4, .f32⟩
  | 116 => ⟨S4x1x4x1, .f32⟩
  | 117 => ⟨S4x64x1x64, .f32⟩
  | 118 => ⟨S4x64x4x64, .f32⟩
  | 119 => ⟨S4x64x4x64, .f32⟩
  | 120 => ⟨S4x64x4x64, .f32⟩
  | 121 => ⟨S256x256, .f32⟩
  | 122 => ⟨S256x512, .f32⟩
  | 123 => ⟨S4x64x64, .f32⟩
  | 124 => ⟨S4x4, .i32⟩
  | 125 => ⟨S4x4, .i32⟩
  | 126 => ⟨S_, .i32⟩
  | 127 => ⟨S4x4, .i32⟩
  | _ => ⟨S4x2048x1024, .f32⟩

abbrev hbmTy0_1 (i : Nat) : BufTy := match i % 128 with
  | 0 => ⟨S4x4, .i32⟩
  | 1 => ⟨S4x4, .i1⟩
  | 2 => ⟨S4x4, .f32⟩
  | 3 => ⟨S4x1x4x1, .f32⟩
  | 4 => ⟨S4x64x1x64, .f32⟩
  | 5 => ⟨S4x64x4x64, .f32⟩
  | 6 => ⟨S4x64x4x64, .f32⟩
  | 7 => ⟨S4x64x4x64, .f32⟩
  | 8 => ⟨S256x256, .f32⟩
  | 9 => ⟨S4x64x64, .f32⟩
  | 10 => ⟨S4x4, .i32⟩
  | 11 => ⟨S4x4, .i32⟩
  | 12 => ⟨S_, .i32⟩
  | 13 => ⟨S4x4, .i32⟩
  | 14 => ⟨S4x4, .i32⟩
  | 15 => ⟨S4x4, .i1⟩
  | 16 => ⟨S4x4, .f32⟩
  | 17 => ⟨S4x1x4x1, .f32⟩
  | 18 => ⟨S4x64x1x64, .f32⟩
  | 19 => ⟨S4x64x4x64, .f32⟩
  | 20 => ⟨S4x64x4x64, .f32⟩
  | 21 => ⟨S4x64x4x64, .f32⟩
  | 22 => ⟨S256x256, .f32⟩
  | 23 => ⟨S256x512, .f32⟩
  | 24 => ⟨S512x512, .f32⟩
  | 25 => ⟨S512x512, .bf16⟩
  | 26 => ⟨S8192x1024, .f32⟩
  | 27 => ⟨S1x1024, .f32⟩
  | 28 => ⟨S1x256, .f32⟩
  | 29 => ⟨S1x128, .f32⟩
  | 30 => ⟨S1024x8192, .bf16⟩
  | 31 => ⟨S8192x1024, .bf16⟩
  | 32 => ⟨S512x8192, .bf16⟩
  | 33 => ⟨S8192x512, .bf16⟩
  | 34 => ⟨S8192x512, .bf16⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1024, .bf16⟩
  | .local _ .vmem, ⟨6, _⟩ => ⟨S1x256, .f32⟩
  | .local _ .vmem, ⟨7, _⟩ => ⟨S1280x256, .bf16⟩
  | .local _ .vmem, ⟨8, _⟩ => ⟨S1x128, .f32⟩
  | .local _ .vmem, ⟨9, _⟩ => ⟨S256x1024, .bf16⟩
  | .local _ .vmem, ⟨10, _⟩ => ⟨S512x128, .bf16⟩
  | .local _ .vmem, ⟨11, _⟩ => ⟨S512x512, .bf16⟩
  | .local _ .vmem, ⟨12, _⟩ => ⟨S256x1024, .f32⟩
  | .local _ .vmem, ⟨13, _⟩ => ⟨S256x1024, .f32⟩
  | .local _ .vmem, ⟨14, _⟩ => ⟨S1024x128, .f32⟩
  | .local _ .vmem, ⟨15, _⟩ => ⟨S1024x128, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S512x1024, .bf16⟩
  | .local _ .vmem, ⟨21, _⟩ => ⟨S512x1024, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_5 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_cst_7 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_8 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_9 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_10 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_c_11 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_c_12 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_c_13 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130_0 : Ref sig .tc := ⟨.hbm, 158, rfl⟩
abbrev main_v130_1 : Ref sig .tc := ⟨.hbm, 159, rfl⟩
abbrev main_v130_2 : Ref sig .tc := ⟨.hbm, 160, rfl⟩
abbrev main_v130_3 : Ref sig .tc := ⟨.hbm, 161, rfl⟩
abbrev main_v130_4 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_11 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1280x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference6Ideal.lean ====
abbrev S4x2048x1024 : Shape := ⟨3, ![4, 2048, 1024]⟩
abbrev S8x6x1024 : Shape := ⟨3, ![8, 6, 1024]⟩
abbrev S1024 : Shape := ⟨1, ![1024]⟩
abbrev S1024x928 : Shape := ⟨2, ![1024, 928]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8x64x64 : Shape := ⟨3, ![8, 64, 64]⟩
abbrev S2048x16 : Shape := ⟨2, ![2048, 16]⟩
abbrev S64x64 : Shape := ⟨2, ![64, 64]⟩
abbrev S4x1x1024 : Shape := ⟨3, ![4, 1, 1024]⟩
abbrev S4x1024 : Shape := ⟨2, ![4, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x928 : Shape := ⟨3, ![4, 2048, 928]⟩
abbrev S4x2048x256 : Shape := ⟨3, ![4, 2048, 256]⟩
abbrev S1x1x256 : Shape := ⟨3, ![1, 1, 256]⟩
abbrev S4x2048x768 : Shape := ⟨3, ![4, 2048, 768]⟩
abbrev S4x2048x8x96 : Shape := ⟨4, ![4, 2048, 8, 96]⟩
abbrev S4x2048x128 : Shape := ⟨3, ![4, 2048, 128]⟩
abbrev S1x1x128 : Shape := ⟨3, ![1, 1, 128]⟩
abbrev S4x2048x32 : Shape := ⟨3, ![4, 2048, 32]⟩
abbrev S4x2048x8x32 : Shape := ⟨4, ![4, 2048, 8, 32]⟩
abbrev S2048x1x16 : Shape := ⟨3, ![2048, 1, 16]⟩
abbrev S4x2048x8x16 : Shape := ⟨4, ![4, 2048, 8, 16]⟩
abbrev S1x2048x1x16 : Shape := ⟨4, ![1, 2048, 1, 16]⟩
abbrev S4x2048x1x32 : Shape := ⟨4, ![4, 2048, 1, 32]⟩
abbrev S4x2048x1x16 : Shape := ⟨4, ![4, 2048, 1, 16]⟩
abbrev S4x2048x8x128 : Shape := ⟨4, ![4, 2048, 8, 128]⟩
abbrev S4x2048x512 : Shape := ⟨3, ![4, 2048, 512]⟩
abbrev S4x2048x8x64 : Shape := ⟨4, ![4, 2048, 8, 64]⟩
abbrev S8x128x4x2048 : Shape := ⟨4, ![8, 128, 4, 2048]⟩
abbrev S1024x8192 : Shape := ⟨2, ![1024, 8192]⟩
abbrev S8192x1024 : Shape := ⟨2, ![8192, 1024]⟩
abbrev S8x64x4x2048 : Shape := ⟨4, ![8, 64, 4, 2048]⟩
abbrev S512x8192 : Shape := ⟨2, ![512, 8192]⟩
abbrev S8192x512 : Shape := ⟨2, ![8192, 512]⟩

abbrev nBuf : Space → Nat
  | .hbm => 162
  | .vmem => 0
  | .smem => 0
  | _ => 0

abbrev hbmTy0_0 (i : Nat) : BufTy := match i % 128 with
  | 0 => ⟨S4x2048x1024, .f32⟩
  | 1 => ⟨S8x6x1024, .f32⟩
  | 2 => ⟨S1024, .f32⟩
  | 3 => ⟨S1024x928, .f32⟩
  | 4 => ⟨S256, .f32⟩
  | 5 => ⟨S256x768, .f32⟩
  | 6 => ⟨S128, .f32⟩
  | 7 => ⟨S128x1024, .f32⟩
  | 8 => ⟨S8x64x64, .f32⟩
  | 9 => ⟨S2048x16, .f32⟩
  | 10 => ⟨S64x64, .f32⟩
  | 11 => ⟨S64x64, .f32⟩
  | 12 => ⟨S4x1x1024, .f32⟩
  | 13 => ⟨S4x1024, .f32⟩
  | 14 => ⟨S4x1x1024, .f32⟩
  | 15 => ⟨S4x1x1024, .f32⟩
  | 16 => ⟨S4x1024, .f32⟩
  | 17 => ⟨S4x1x1024, .f32⟩
  | 18 => ⟨S4x2048x1024, .f32⟩
  | 19 => ⟨S_, .f32⟩
  | 20 => ⟨S4x2048, .f32⟩
  | 21 => ⟨S4x2048x1, .f32⟩
  | 22 => ⟨S_, .f32⟩
  | 23 => ⟨S4x2048x1, .f32⟩
  | 24 => ⟨S4x2048x1, .f32⟩
  | 25 => ⟨S_, .f32⟩
  | 26 => ⟨S4x2048x1, .f32⟩
  | 27 => ⟨S4x2048x1, .f32⟩
  | 28 => ⟨S4x2048x1, .f32⟩
  | 29 => ⟨S4x2048x1024, .f32⟩
  | 30 => ⟨S4x2048x1024, .f32⟩
  | 31 => ⟨S1x1x1024, .f32⟩
  | 32 => ⟨S4x2048x1024, .f32⟩
  | 33 => ⟨S4x2048x1024, .f32⟩
  | 34 => ⟨S_, .f32⟩
  | 35 => ⟨S4x1x1024, .f32⟩
  | 36 => ⟨S4x1x1024, .f32⟩
  | 37 => ⟨S4x2048x1024, .f32⟩
  | 38 => ⟨S4x2048x1024, .f32⟩
  | 39 => ⟨S4x2048x1024, .f32⟩
  | 40 => ⟨S4x2048x1024, .f32⟩
  | 41 => ⟨S4x2048x928, .f32⟩
  | 42 => ⟨S4x2048x256, .f32⟩
  | 43 => ⟨S4x2048x256, .f32⟩
  | 44 => ⟨S_, .f32⟩
  | 45 => ⟨S4x2048, .f32⟩
  | 46 => ⟨S4x2048x1, .f32⟩
  | 47 => ⟨S_, .f32⟩
  | 48 => ⟨S4x2048x1, .f32⟩
  | 49 => ⟨S4x2048x1, .f32⟩
  | 50 => ⟨S_, .f32⟩
  | 51 => ⟨S4x2048x1, .f32⟩
  | 52 => ⟨S4x2048x1, .f32⟩
  | 53 => ⟨S4x2048x1, .f32⟩
  | 54 => ⟨S4x2048x256, .f32⟩
  | 55 => ⟨S4x2048x256, .f32⟩
  | 56 => ⟨S1x1x256, .f32⟩
  | 57 => ⟨S4x2048x256, .f32⟩
  | 58 => ⟨S4x2048x256, .f32⟩
  | 59 => ⟨S4x2048x768, .f32⟩
  | 60 => ⟨S4x2048x8x96, .f32⟩
  | 61 => ⟨S4x2048x128, .f32⟩
  | 62 => ⟨S4x2048x128, .f32⟩
  | 63 => ⟨S_, .f32⟩
  | 64 => ⟨S4x2048, .f32⟩
  | 65 => ⟨S4x2048x1, .f32⟩
  | 66 => ⟨S_, .f32⟩
  | 67 => ⟨S4x2048x1, .f32⟩
  | 68 => ⟨S4x2048x1, .f32⟩
  | 69 => ⟨S_, .f32⟩
  | 70 => ⟨S4x2048x1, .f32⟩
  | 71 => ⟨S4x2048x1, .f32⟩
  | 72 => ⟨S4x2048x1, .f32⟩
  | 73 => ⟨S4x2048x128, .f32⟩
  | 74 => ⟨S4x2048x128, .f32⟩
  | 75 => ⟨S1x1x128, .f32⟩
  | 76 => ⟨S4x2048x128, .f32⟩
  | 77 => ⟨S4x2048x128, .f32⟩
  | 78 => ⟨S4x2048x32, .f32⟩
  | 79 => ⟨S4x2048x8x32, .f32⟩
  | 80 => ⟨S2048x16, .f32⟩
  | 81 => ⟨S2048x1x16, .f32⟩
  | 82 => ⟨S2048x16, .f32⟩
  | 83 => ⟨S2048x1x16, .f32⟩
  | 84 => ⟨S4x2048x8x16, .f32⟩
  | 85 => ⟨S4x2048x8x16, .f32⟩
  | 86 => ⟨S1x2048x1x16, .f32⟩
  | 87 => ⟨S4x2048x8x16, .f32⟩
  | 88 => ⟨S4x2048x8x16, .f32⟩
  | 89 => ⟨S1x2048x1x16, .f32⟩
  | 90 => ⟨S4x2048x8x16, .f32⟩
  | 91 => ⟨S4x2048x8x16, .f32⟩
  | 92 => ⟨S4x2048x8x16, .f32⟩
  | 93 => ⟨S1x2048x1x16, .f32⟩
  | 94 => ⟨S4x2048x8x16, .f32⟩
  | 95 => ⟨S4x2048x8x16, .f32⟩
  | 96 => ⟨S1x2048x1x16, .f32⟩
  | 97 => ⟨S4x2048x8x16, .f32⟩
  | 98 => ⟨S4x2048x8x16, .f32⟩
  | 99 => ⟨S4x2048x8x16, .f32⟩
  | 100 => ⟨S4x2048x8x32, .f32⟩
  | 101 => ⟨S4x2048x1x32, .f32⟩
  | 102 => ⟨S2048x16, .f32⟩
  | 103 => ⟨S2048x1x16, .f32⟩
  | 104 => ⟨S2048x16, .f32⟩
  | 105 => ⟨S2048x1x16, .f32⟩
  | 106 => ⟨S4x2048x1x16, .f32⟩
  | 107 => ⟨S4x2048x1x16, .f32⟩
  | 108 => ⟨S1x2048x1x16, .f32⟩
  | 109 => ⟨S4x2048x1x16, .f32⟩
  | 110 => ⟨S4x2048x1x16, .f32⟩
  | 111 => ⟨S1x2048x1x16, .f32⟩
  | 112 => ⟨S4x2048x1x16, .f32⟩
  | 113 => ⟨S4x2048x1x16, .f32⟩
  | 114 => ⟨S4x2048x1x16, .f32⟩
  | 115 => ⟨S1x2048x1x16, .f32⟩
  | 116 => ⟨S4x2048x1x16, .f32⟩
  | 117 => ⟨S4x2048x1x16, .f32⟩
  | 118 => ⟨S1x2048x1x16, .f32⟩
  | 119 => ⟨S4x2048x1x16, .f32⟩
  | 120 => ⟨S4x2048x1x16, .f32⟩
  | 121 => ⟨S4x2048x1x16, .f32⟩
  | 122 => ⟨S4x2048x1x32, .f32⟩
  | 123 => ⟨S4x2048x1024, .f32⟩
  | 124 => ⟨S4x2048x8x128, .f32⟩
  | 125 => ⟨S4x2048x512, .f32⟩
  | 126 => ⟨S4x2048x8x64, .f32⟩
  | 127 => ⟨S_, .f32⟩
  | _ => ⟨S4x2048x1024, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S4x2048x8x32, .f32⟩
  | 6 => ⟨S4x2048x8x64, .f32⟩
  | 7 => ⟨S4x2048x8x64, .f32⟩
  | 8 => ⟨S4x2048x8x64, .f32⟩
  | 9 => ⟨S4x2048x8x32, .f32⟩
  | 10 => ⟨S4x2048x8x32, .f32⟩
  | 11 => ⟨S4x2048x8x128, .f32⟩
  | 12 => ⟨S4x2048x8x64, .f32⟩
  | 13 => ⟨S4x2048x8x32, .f32⟩
  | 14 => ⟨S4x2048x8x128, .f32⟩
  | 15 => ⟨S8x128x4x2048, .f32⟩
  | 16 => ⟨S1024x8192, .f32⟩
  | 17 => ⟨S1024x8192, .bf16⟩
  | 18 => ⟨S8192x1024, .f32⟩
  | 19 => ⟨S8192x1024, .bf16⟩
  | 20 => ⟨S4x2048x8x64, .f32⟩
  | 21 => ⟨S8x64x4x2048, .f32⟩
  | 22 => ⟨S512x8192, .f32⟩
  | 23 => ⟨S512x8192, .bf16⟩
  | 24 => ⟨S4x2048x8x64, .f32⟩
  | 25 => ⟨S8x64x4x2048, .f32⟩
  | 26 => ⟨S4x2048x8x64, .f32⟩
  | 27 => ⟨S8192x512, .f32⟩
  | 28 => ⟨S8192x512, .bf16⟩
  | 29 => ⟨S4x2048x8x64, .f32⟩
  | 30 => ⟨S8x64x4x2048, .f32⟩
  | 31 => ⟨S4x2048x8x64, .f32⟩
  | 32 => ⟨S8192x512, .f32⟩
  | 33 => ⟨S8192x512, .bf16⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_cst_9 : Ref sig .tc := ⟨.hbm, 127, rfl⟩
abbrev main_v105 : Ref sig .tc := ⟨.hbm, 128, rfl⟩
abbrev main_cst_10 : Ref sig .tc := ⟨.hbm, 129, rfl⟩
abbrev main_v106 : Ref sig .tc := ⟨.hbm, 130, rfl⟩
abbrev main_v107 : Ref sig .tc := ⟨.hbm, 131, rfl⟩
abbrev main_cst_11 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩

abbrev nD : Nat := 1
abbrev τ : Topo := Topo.v7x

variable {F : FTy → Type} [FloatOps F]
-- ==== Kernel7.lean ====
abbrev S4x1x512x128 : Shape := ⟨4, ![4, 1, 512, 128]⟩
abbrev S4x1x512x32 : Shape := ⟨4, ![4, 1, 512, 32]⟩
abbrev S128x1024 : Shape := ⟨2, ![128, 1024]⟩
abbrev S128x8x128 : Shape := ⟨3, ![128, 8, 128]⟩
abbrev S128x8x64 : Shape := ⟨3, ![128, 8, 64]⟩
abbrev S_ : Shape := ⟨0, ![]⟩
abbrev S32x64 : Shape := ⟨2, ![32, 64]⟩
abbrev S32x32 : Shape := ⟨2, ![32, 32]⟩
abbrev S32x128 : Shape := ⟨2, ![32, 128]⟩
abbrev S1x32x1x128 : Shape := ⟨4, ![1, 32, 1, 128]⟩
abbrev S1x32x8x128 : Shape := ⟨4, ![1, 32, 8, 128]⟩
abbrev S32x1024 : Shape := ⟨2, ![32, 1024]⟩
abbrev S64x1024 : Shape := ⟨2, ![64, 1024]⟩
abbrev S256x1024 : Shape := ⟨2, ![256, 1024]⟩
abbrev S128x512 : Shape := ⟨2, ![128, 512]⟩
abbrev S512x128 : Shape := ⟨2, ![512, 128]⟩
abbrev S4x512x128 : Shape := ⟨3, ![4, 512, 128]⟩
abbrev S4x512x32 : Shape := ⟨3, ![4, 512, 32]⟩
abbrev S4x512x96 : Shape := ⟨3, ![4, 512, 96]⟩
abbrev S4x512x256 : Shape := ⟨3, ![4, 512, 256]⟩
abbrev S2048x256 : Shape := ⟨2, ![2048, 256]⟩
abbrev S2048x1024 : Shape := ⟨2, ![2048, 1024]⟩
abbrev S512x2048 : Shape := ⟨2, ![512, 2048]⟩
abbrev S512x256 : Shape := ⟨2, ![512, 256]⟩
abbrev S512x1024 : Shape := ⟨2, ![512, 1024]⟩
abbrev S512x512 : Shape := ⟨2, ![512, 512]⟩

abbrev nBuf : Space → Nat
  | .hbm => 41
  | .vmem => 8
  | .smem => 0
  | _ => 0

abbrev bufTy : (tb : Table) → Fin (tcTables nBuf tb) → BufTy
  | .hbm, ⟨0, _⟩ => ⟨S4x1x512x128, .f32⟩
  | .hbm, ⟨1, _⟩ => ⟨S4x1x512x32, .f32⟩
  | .hbm, ⟨2, _⟩ => ⟨S128x1024, .f32⟩
  | .hbm, ⟨3, _⟩ => ⟨S128x8x128, .f32⟩
  | .hbm, ⟨4, _⟩ => ⟨S128x8x64, .f32⟩
  | .hbm, ⟨5, _⟩ => ⟨S_, .f32⟩
  | .hbm, ⟨6, _⟩ => ⟨S128x8x64, .f32⟩
  | .hbm, ⟨7, _⟩ => ⟨S128x8x128, .f32⟩
  | .hbm, ⟨8, _⟩ => ⟨S128x1024, .f32⟩
  | .hbm, ⟨9, _⟩ => ⟨S_, .f32⟩
  | .hbm, ⟨10, _⟩ => ⟨S32x64, .f32⟩
  | .hbm, ⟨11, _⟩ => ⟨S32x32, .i32⟩
  | .hbm, ⟨12, _⟩ => ⟨S32x32, .i32⟩
  | .hbm, ⟨13, _⟩ => ⟨S_, .i32⟩
  | .hbm, ⟨14, _⟩ => ⟨S32x32, .i32⟩
  | .hbm, ⟨15, _⟩ => ⟨S32x32, .i32⟩
  | .hbm, ⟨16, _⟩ => ⟨S32x32, .i1⟩
  | .hbm, ⟨17, _⟩ => ⟨S32x32, .f32⟩
  | .hbm, ⟨18, _⟩ => ⟨S_, .f32⟩
  | .hbm, ⟨19, _⟩ => ⟨S32x32, .f32⟩
  | .hbm, ⟨20, _⟩ => ⟨S32x128, .f32⟩
  | .hbm, ⟨21, _⟩ => ⟨S1x32x1x128, .f32⟩
  | .hbm, ⟨22, _⟩ => ⟨S1x32x8x128, .f32⟩
  | .hbm, ⟨23, _⟩ => ⟨S32x1024, .f32⟩
  | .hbm, ⟨24, _⟩ => ⟨S_, .f32⟩
  | .hbm, ⟨25, _⟩ => ⟨S64x1024, .f32⟩
  | .hbm, ⟨26, _⟩ => ⟨S256x1024, .f32⟩
  | .hbm, ⟨27, _⟩ => ⟨S256x1024, .bf16⟩
  | .hbm, ⟨28, _⟩ => ⟨S128x8x64, .f32⟩
  | .hbm, ⟨29, _⟩ => ⟨S128x512, .f32⟩
  | .hbm, ⟨30, _⟩ => ⟨S512x128, .f32⟩
  | .hbm, ⟨31, _⟩ => ⟨S512x128, .bf16⟩
  | .hbm, ⟨32, _⟩ => ⟨S4x512x128, .f32⟩
  | .hbm, ⟨33, _⟩ => ⟨S4x512x32, .f32⟩
  | .hbm, ⟨34, _⟩ => ⟨S_, .f32⟩
  | .hbm, ⟨35, _⟩ => ⟨S4x512x96, .f32⟩
  | .hbm, ⟨36, _⟩ => ⟨S4x512x256, .f32⟩
  | .hbm, ⟨37, _⟩ => ⟨S2048x256, .f32⟩
  | .hbm, ⟨38, _⟩ => ⟨S2048x256, .bf16⟩
  | .hbm, ⟨39, _⟩ => ⟨S2048x1024, .bf16⟩
  | .hbm, ⟨40, _⟩ => ⟨S512x2048, .bf16⟩
  | .local _ .vmem, ⟨0, _⟩ => ⟨S512x256, .bf16⟩
  | .local _ .vmem, ⟨1, _⟩ => ⟨S512x256, .bf16⟩
  | .local _ .vmem, ⟨2, _⟩ => ⟨S256x1024, .bf16⟩
  | .local _ .vmem, ⟨3, _⟩ => ⟨S512x128, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | _, _ => ⟨S4x1x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S4x1x512x128 : Shape := ⟨4, ![4, 1, 512, 128]⟩
abbrev S4x1x512x32 : Shape := ⟨4, ![4, 1, 512, 32]⟩
abbrev S128x1024 : Shape := ⟨2, ![128, 1024]⟩
abbrev S4x512x128 : Shape := ⟨3, ![4, 512, 128]⟩
abbrev S4x512x1024 : Shape := ⟨3, ![4, 512, 1024]⟩
abbrev S4x512x8x128 : Shape := ⟨4, ![4, 512, 8, 128]⟩
abbrev S4x512x32 : Shape := ⟨3, ![4, 512, 32]⟩
abbrev S4x512x1x32 : Shape := ⟨4, ![4, 512, 1, 32]⟩
abbrev S_ : Shape := ⟨0, ![]⟩
abbrev S4x512x8x32 : Shape := ⟨4, ![4, 512, 8, 32]⟩
abbrev S4x512x8x64 : Shape := ⟨4, ![4, 512, 8, 64]⟩
abbrev S2048x1024 : Shape := ⟨2, ![2048, 1024]⟩
abbrev S8x64x4x512 : Shape := ⟨4, ![8, 64, 4, 512]⟩
abbrev S512x2048 : Shape := ⟨2, ![512, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4x1x512x128, .f32⟩
  | .hbm, ⟨1, _⟩ => ⟨S4x1x512x32, .f32⟩
  | .hbm, ⟨2, _⟩ => ⟨S128x1024, .f32⟩
  | .hbm, ⟨3, _⟩ => ⟨S4x512x128, .f32⟩
  | .hbm, ⟨4, _⟩ => ⟨S4x512x1024, .f32⟩
  | .hbm, ⟨5, _⟩ => ⟨S4x512x8x128, .f32⟩
  | .hbm, ⟨6, _⟩ => ⟨S4x512x32, .f32⟩
  | .hbm, ⟨7, _⟩ => ⟨S4x512x1x32, .f32⟩
  | .hbm, ⟨8, _⟩ => ⟨S_, .f32⟩
  | .hbm, ⟨9, _⟩ => ⟨S4x512x8x32, .f32⟩
  | .hbm, ⟨10, _⟩ => ⟨S4x512x8x64, .f32⟩
  | .hbm, ⟨11, _⟩ => ⟨S4x512x8x32, .f32⟩
  | .hbm, ⟨12, _⟩ => ⟨S4x512x8x128, .f32⟩
  | .hbm, ⟨13, _⟩ => ⟨S2048x1024, .f32⟩
  | .hbm, ⟨14, _⟩ => ⟨S2048x1024, .bf16⟩
  | .hbm, ⟨15, _⟩ => ⟨S4x512x8x64, .f32⟩
  | .hbm, ⟨16, _⟩ => ⟨S8x64x4x512, .f32⟩
  | .hbm, ⟨17, _⟩ => ⟨S512x2048, .f32⟩
  | .hbm, ⟨18, _⟩ => ⟨S512x2048, .bf16⟩
  | _, _ => ⟨S4x1x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Proof.SoftmaxMath.lean ====
module

public import Idealize.ShloMosaic.Lib.Pointwise

/-!
# Sums of exponentials over the extended reals

A weighted sum whose weights are real and nonnegative may be multiplied by a nonnegative real term by term, whatever
the (possibly infinite) summands. On that rests the running rescale of a softmax taken chunk by chunk: the kept sum
is the true sum times a power of two, which cancels at the end.
-/

@[expose] public section

noncomputable section

open Idealize.ShloMosaic

namespace Cert.SoftmaxMath

/-- The real power of two. -/
def p2 (x : ℝ) : ℝ := Real.rpow 2 x

theorem p2_pos (x : ℝ) : 0 < p2 x := Real.rpow_pos_of_pos two_pos x

theorem p2_add (x y : ℝ) : p2 (x + y) = p2 x * p2 y := Real.rpow_add two_pos x y

/-- A nonnegative real multiplies a sum of extended reals term by term. -/
theorem mul_sum_coe {ι : Type*} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (by exact_mod_cast ha) (EReal.coe_ne_top _) _ _

/-- A nonnegative real multiplies a sum of two extended reals. -/
theorem mul_add_coe (a : ℝ) (ha : 0 ≤ a) (x y : EReal) : (a : EReal) * (x + y) = a * x + a * y :=
  EReal.left_distrib_of_nonneg_of_ne_top (by exact_mod_cast ha) (EReal.coe_ne_top _) _ _

/-- A sum of reals, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, ← ih, EReal.coe_add]

/-- The maximum of finitely many reals (at least one), started at minus infinity, is a real. -/
theorem fold_max_coe {n : ℕ} (hn : 0 < n) (f : Fin n → ℝ) :
    ∃ r : ℝ, Finset.univ.fold max (⊥ : EReal) (fun k => (f k : EReal)) = r := by
  have h : ∀ s : Finset (Fin n), s.Nonempty → ∃ r : ℝ, s.fold max (⊥ : EReal) (fun k => (f k : EReal)) = r := by
    classical
    intro s hs
    induction hs using Finset.Nonempty.cons_induction with
    | singleton a => exact ⟨f a, by simp⟩
    | cons a s ha hs ih =>
      obtain ⟨r, hr⟩ := ih
      exact ⟨max (f a) r, by rw [Finset.fold_cons, hr]; exact (EReal.coe_strictMono.monotone.map_max).symm⟩
  exact h _ ⟨⟨0, hn⟩, Finset.mem_univ _⟩

/-- The exponential base two of a difference of reals. -/
theorem exp2_sub (a b : ℝ) : Ideal.exp2 ((a : EReal) - (b : EReal)) = ((p2 a * p2 (-b) : ℝ) : EReal) := by
  rw [← EReal.coe_sub, Ideal.exp2_coe, ← p2_add, sub_eq_add_neg]; rfl

/-- The exponential of a difference of reals, as powers of two of the arguments over the logarithm of two. -/
theorem exp_sub (a b : ℝ) :
    Ideal.exp ((a : EReal) - (b : EReal)) = ((p2 (a / Real.log 2) * p2 (-(b / Real.log 2)) : ℝ) : EReal) := by
  have hl : Real.log 2 ≠ 0 := (Real.log_pos one_lt_two).ne'
  have he (x : ℝ) : p2 (x / Real.log 2) = Real.exp x := by
    show (2 : ℝ) ^ (x / Real.log 2) = _
    rw [Real.rpow_def_of_pos two_pos, mul_div_cancel₀ _ hl]
  rw [← EReal.coe_sub, Ideal.exp_coe, ← neg_div, he, he, ← Real.exp_add, sub_eq_add_neg]

/-- One chunk's step: the kept sum, rescaled to the new maximum, plus the chunk's sum at that maximum, is the longer
sum's kept form. -/
theorem step {n : ℕ} (μ μ' : ℝ) (A : EReal) (v : Fin n → EReal) (σ : Fin n → ℝ) :
    Ideal.exp2 ((μ : EReal) - (μ' : EReal)) * ((p2 (-μ) : ℝ) * A) + ∑ k, v k * Ideal.exp2 ((σ k : EReal) - (μ' : EReal))
      = (p2 (-μ') : ℝ) * (A + ∑ k, v k * (p2 (σ k) : ℝ)) := by
  rw [mul_add_coe _ (p2_pos _).le, mul_sum_coe _ _ (p2_pos _).le, exp2_sub, ← mul_assoc, ← EReal.coe_mul]
  congr 1
  · have : p2 μ * p2 (-μ') * p2 (-μ) = p2 (-μ') := by
      have h1 : p2 μ * p2 (-μ) = 1 := by rw [← p2_add, add_neg_cancel]; exact Real.rpow_zero 2
      calc p2 μ * p2 (-μ') * p2 (-μ) = p2 (-μ') * (p2 μ * p2 (-μ)) := by ring
        _ = _ := by rw [h1, mul_one]
    rw [this]
  · refine Finset.sum_congr rfl fun k _ => ?_
    rw [exp2_sub, EReal.coe_mul, mul_comm (p2 (σ k) : EReal), mul_left_comm]

/-- The first chunk's sum at its own maximum, in the kept form. -/
theorem first {n : ℕ} (μ : ℝ) (v : Fin n → EReal) (σ : Fin n → ℝ) :
    ∑ k, v k * Ideal.exp2 ((σ k : EReal) - (μ : EReal)) = (p2 (-μ) : ℝ) * ∑ k, v k * (p2 (σ k) : ℝ) := by
  rw [mul_sum_coe _ _ (p2_pos _).le]
  refine Finset.sum_congr rfl fun k _ => ?_
  rw [exp2_sub, EReal.coe_mul, mul_comm (p2 (σ k) : EReal), mul_left_comm]

/-- The end: the kept value sum times the reciprocal of the kept sum of weights is the value sum over the sum of weights. -/
theorem finish (μ L : ℝ) (hL : 0 < L) (A : EReal) :
    ((p2 (-μ) : ℝ) * A) * Ideal.div 1 ((p2 (-μ) : ℝ) * (L : EReal)) = A * ((L⁻¹ : ℝ) : EReal) := by
  have h := p2_pos (-μ)
  have hne : p2 (-μ) * L ≠ 0 := (mul_pos h hL).ne'
  rw [← EReal.coe_mul, Ideal.div, if_neg (by exact_mod_cast hne), one_mul, ← EReal.coe_inv,
    mul_comm (p2 (-μ) : EReal) A, mul_assoc, ← EReal.coe_mul]
  congr 2
  rw [mul_inv, ← mul_assoc, mul_inv_cancel₀ h.ne', one_mul]

/-- A reference weight: the exponential of a score less any real, over the sum of such exponentials, is the score's
power of two over the sum of the powers of two. -/
theorem weight {n : ℕ} (hn : 0 < n) (x : Fin n → ℝ) (M : ℝ) (k : Fin n) :
    Ideal.div (Ideal.exp ((x k : EReal) - (M : EReal))) (∑ j, Ideal.exp ((x j : EReal) - (M : EReal)))
      = ((p2 (x k / Real.log 2) * (∑ j, p2 (x j / Real.log 2))⁻¹ : ℝ) : EReal) := by
  have h := p2_pos (-(M / Real.log 2))
  have : Nonempty (Fin n) := ⟨⟨0, hn⟩⟩
  have hL : 0 < ∑ j, p2 (x j / Real.log 2) := Finset.sum_pos (fun j _ => p2_pos _) Finset.univ_nonempty
  simp only [exp_sub]
  rw [← coe_sum, ← Finset.sum_mul, Ideal.div, if_neg (by exact_mod_cast (mul_pos hL h).ne'), ← EReal.coe_inv, ← EReal.coe_mul]
  congr 1
  field_simp

/-- A head's weighted mean of past and new values, at real scores in base two. -/
def mean (sP : Fin 512 → ℝ) (sL : Fin 2048 → ℝ) (vP : Fin 512 → EReal) (vL : Fin 2048 → EReal) : EReal :=
  (∑ k, vP k * (p2 (sP k) : ℝ) + ∑ k, vL k * (p2 (sL k) : ℝ)) * (((∑ k, p2 (sP k) + ∑ k, p2 (sL k))⁻¹ : ℝ) : EReal)

/-- The weighted mean from weights normalised beforehand. -/
theorem mean_eq (x : Fin 2560 → ℝ) (vP : Fin 512 → EReal) (vL : Fin 2048 → EReal) (w : Fin 2560 → EReal)
    (hw : ∀ k, w k = ((p2 (x k) * (∑ j, p2 (x j))⁻¹ : ℝ) : EReal)) :
    ∑ k : Fin 512, vP k * w ⟨k.val, by omega⟩ + ∑ k : Fin 2048, vL k * w ⟨512 + k.val, by omega⟩
      = mean (fun k => x ⟨k.val, by omega⟩) (fun k => x ⟨512 + k.val, by omega⟩) vP vL := by
  have hs : ∑ j, p2 (x j) = ∑ k : Fin 512, p2 (x ⟨k.val, by omega⟩) + ∑ k : Fin 2048, p2 (x ⟨512 + k.val, by omega⟩) :=
    Fin.sum_univ_add (a := 512) (b := 2048) fun j => p2 (x j)
  have hp : 0 ≤ (∑ k : Fin 512, p2 (x ⟨k.val, by omega⟩) + ∑ k : Fin 2048, p2 (x ⟨512 + k.val, by omega⟩))⁻¹ :=
    inv_nonneg.2 (add_nonneg (Finset.sum_nonneg fun k _ => (p2_pos _).le) (Finset.sum_nonneg fun k _ => (p2_pos _).le))
  unfold mean
  simp only [hw, hs]
  rw [mul_comm, mul_add_coe _ hp, mul_sum_coe _ _ hp, mul_sum_coe _ _ hp]
  congr 1 <;> refine Finset.sum_congr rfl fun k _ => ?_ <;>
    rw [EReal.coe_mul, ← mul_assoc, mul_comm]

end Cert.SoftmaxMath

end
-- ==== Proof.AttnBlock.lean ====
module

public import proofs.«01_k».proof.Proof.Gen.KernelIdeal.Frame
public import proofs.«01_k».proof.Proof.SoftmaxMath
public import Idealize.ShloMosaic.Lib.Pipeline.ValueKit

/-!
# One grid point of the attention: what the body stores

The body treats its four heads in two pairs. A pair's scores are one product of a key chunk with a block-diagonal
matrix of the two heads' queries, so that columns 0 to 255 belong to the first head and 256 to 511 to the second. The
value matrix carries sixteen rows of ones under the two heads' values, so that row 128 of the kept product is the sum
of the weights. Five chunks of 512 keys are taken in turn.
-/

@[expose] public section

set_option maxRecDepth 16384

noncomputable section

open Idealize.ShloMosaic Idealize.ShloMosaic.TcCoe Idealize.SL.Sem

namespace Cert.KernelIdeal.Block
open Cert.KernelIdeal Cert.KernelIdeal.Gen Cert.SoftmaxMath

/-- A chunk's scores: its keys against the block-diagonal queries. -/
def scores (qbd : FVec Ideal S256x512 .bf16) (k : FVec Ideal S512x256 .bf16) : FVec Ideal S512x512 .bf16 :=
  truncf .bf16 (matmul dot_S512x256_S256x512_S512x512_1_0_0_1_n_n none (shapeCast S512x256 k shapeCasts_S512x256_S512x256) qbd
    (constant S512x512 .f32 0x00000000#32)) bitsLt_bf16_f32

/-- A chunk's column maxima. -/
def colMax (s : FVec Ideal S512x512 .bf16) : FVec Ideal S1x512 .bf16 :=
  shapeCast S1x512 (multiReduction .maximumf [0] S512 s 0xFF80#16 reduces_S512x512_S512 (.inr rfl) rfl) shapeCasts_S512_S1x512

/-- A chunk's values with the rows of ones under them. -/
def withOnes (v : FVec Ideal S128x512 .bf16) : FVec Ideal S144x512 .bf16 :=
  concatenate S144x512 0 [⟨S128x512, shapeCast S128x512 v shapeCasts_S128x512_S128x512⟩,
    ⟨S16x512, broadcast S16x512 (Scalar.ofBits (F := Ideal) .bf16 0x3F80#16)⟩] concatenates_S128x512_S16x512_S144x512_d0

/-- A chunk's product of values and weights at the column shifts `m`. -/
def chunk (s : FVec Ideal S512x512 .bf16) (m : FVec Ideal S1x512 .bf16) (v : FVec Ideal S128x512 .bf16) : FVec Ideal S144x512 .f32 :=
  matmul dot_S144x512_S512x512_S144x512_1_0_0_1_n_n none (withOnes v)
    (exp2 (subf s (broadcastTo S512x512 m broadcasts_S1x512_S512x512))) (constant S144x512 .f32 0x00000000#32)

/-- The kept product after one more chunk: rescaled from the shifts `m` to the shifts `m'`, and the chunk's added. -/
def next (m m' : FVec Ideal S1x512 .bf16) (o : FVec Ideal S144x512 .f32) (s : FVec Ideal S512x512 .bf16)
    (v : FVec Ideal S128x512 .bf16) : FVec Ideal S144x512 .f32 :=
  addf (mulf (broadcastTo S144x512 (exp2 (subf (extf .f32 m bitsLt_bf16_f32) (extf .f32 m' bitsLt_bf16_f32))) broadcasts_S1x512_S144x512) o)
    (chunk s m' v)

/-- The kept product after five chunks of scores and values. -/
def fold5 (s0 s1 s2 s3 s4 : FVec Ideal S512x512 .bf16) (v0 v1 v2 v3 v4 : FVec Ideal S128x512 .bf16) : FVec Ideal S144x512 .f32 :=
  let m1 := colMax s0
  let m2 := maximumf m1 (colMax s1)
  let m3 := maximumf m2 (colMax s2)
  let m4 := maximumf m3 (colMax s3)
  let m5 := maximumf m4 (colMax s4)
  next m4 m5 (next m3 m4 (next m2 m3 (next m1 m2 (chunk s0 m1 v0) s1 v1) s2 v2) s3 v3) s4 v4

/-- What a pair stores: five chunks folded, normalised, and each head's diagonal block transposed. -/
def pair (q0 q1 : FVec Ideal S128x256 .bf16) (k0 k1 k2 k3 k4 : FVec Ideal S512x256 .bf16) (v0 v1 v2 v3 v4 : FVec Ideal S128x512 .bf16) :
    FVec Ideal S256x128 .bf16 :=
  let q := k0_pay4 q0 q1
  k0_pay1 (fold5 (scores q k0) (scores q k1) (scores q k2) (scores q k3) (scores q k4) v0 v1 v2 v3 v4)

/-- The first pair's stored value. -/
theorem pair0_eq (q0 q1 : FVec Ideal S128x256 .bf16) (k0 k1 k2 k3 k4 : FVec Ideal S512x256 .bf16) (v0 v1 v2 v3 v4 : FVec Ideal S128x512 .bf16) :
    k0_pay1 (F := Ideal) (k0_pay18 (k0_pay4 q0 q1) (k0_pay13 (k0_pay4 q0 q1) k3) (k0_pay14 (k0_pay4 q0 q1) (k0_pay7 q0 q1 k1) (k0_pay8 q0 q1 k0) (k0_pay10 k2))
      (k0_pay15 (k0_pay4 q0 q1) (k0_pay7 q0 q1 k1) (k0_pay8 q0 q1 k0) (k0_pay9 q0 q1 k0 v0) (k0_pay10 k2) v1 v2) (k0_pay16 k4) v3 v4)
      = pair q0 q1 k0 k1 k2 k3 k4 v0 v1 v2 v3 v4 := by
  simp only [k0_pay18, k0_pay13, k0_pay14, k0_pay15, k0_pay16, k0_pay12, k0_pay11, k0_pay10, k0_pay9, k0_pay8, k0_pay7, k0_pay6,
    pair, fold5, next, chunk, withOnes, colMax, scores]

/-- The second pair's stored value. -/
theorem pair1_eq (q0 q1 : FVec Ideal S128x256 .bf16) (k0 k1 k2 k3 k4 : FVec Ideal S512x256 .bf16) (v0 v1 v2 v3 v4 : FVec Ideal S128x512 .bf16) :
    (let q := k0_pay5 (F := Ideal) q0 q1
     let s0 := k0_pay17 q k0
     let m2 := k0_pay23 q s0 (k0_pay19 k1)
     let s3 := k0_pay25 q k3
     let c2 := k0_pay26 q k2
     k0_pay2 (k0_pay28 q k4) (k0_pay30 (k0_pay22 q k2) m2 (k0_pay24 q s0 (k0_pay19 k1) v0 v1) s3 c2 v2 v3) (k0_pay31 v4)
       (k0_pay32 q m2 s3 c2 k4) (k0_pay33 m2 s3 c2))
      = pair q0 q1 k0 k1 k2 k3 k4 v0 v1 v2 v3 v4 := by
  simp only [k0_pay1, k0_pay2, k0_pay28, k0_pay30, k0_pay22, k0_pay23, k0_pay24, k0_pay25, k0_pay26, k0_pay27, k0_pay29, k0_pay31, k0_pay32, k0_pay33,
    k0_pay17, k0_pay19, k0_pay20, k0_pay21, k0_pay5, k0_pay4, pair, fold5, next, chunk, withOnes, colMax, scores]

/-! ## The pieces, entry by entry -/

theorem chunk_at (s : FVec Ideal S512x512 .bf16) (m : FVec Ideal S1x512 .bf16) (v : FVec Ideal S128x512 .bf16) (r : Fin 144) (c : Fin 512) :
    chunk s m v (ix2 r c) = ∑ k : Fin 512, withOnes v (ix2 r k) * Ideal.exp2 (s (ix2 k c) - m (ix2 0 c)) := by
  pointwise [chunk]
  rfl

theorem next_at (m m' : FVec Ideal S1x512 .bf16) (o : FVec Ideal S144x512 .f32) (s : FVec Ideal S512x512 .bf16)
    (v : FVec Ideal S128x512 .bf16) (r : Fin 144) (c : Fin 512) :
    next m m' o s v (ix2 r c) = Ideal.exp2 (m (ix2 0 c) - m' (ix2 0 c)) * o (ix2 r c)
      + ∑ k : Fin 512, withOnes v (ix2 r k) * Ideal.exp2 (s (ix2 k c) - m' (ix2 0 c)) := by
  pointwise [next, chunk_at]
  rfl

theorem colMax_at (s : FVec Ideal S512x512 .bf16) (c : Fin 512) :
    colMax s (ix2 0 c) = Finset.univ.fold max ⊥ fun k : Fin 512 => s (ix2 k c) := by
  have hb : Ideal.ofBits .bf16 0xFF80#16 = ⊥ := by simp [Ideal.ofBits, Ideal.ieee]
  pointwise [colMax]
  rw [hb]

/-- A column of real scores has a real maximum. -/
theorem colMax_real (s : FVec Ideal S512x512 .bf16) (c : Fin 512) (σ : Fin 512 → ℝ) (h : ∀ k, s (ix2 k c) = (σ k : EReal)) :
    ∃ μ : ℝ, colMax s (ix2 0 c) = (μ : EReal) := by
  rw [colMax_at]; simp only [h]; exact fold_max_coe (by decide) σ

/-- The larger of two real shifts is real. -/
theorem max_real (m m' : FVec Ideal S1x512 .bf16) (c : Fin 512) (h : ∃ μ : ℝ, m (ix2 0 c) = (μ : EReal)) (h' : ∃ μ : ℝ, m' (ix2 0 c) = (μ : EReal)) :
    ∃ μ : ℝ, maximumf m m' (ix2 0 c) = (μ : EReal) := by
  obtain ⟨a, ha⟩ := h
  obtain ⟨b, hb⟩ := h'
  refine ⟨max a b, ?_⟩
  pointwise
  rw [ha, hb]; exact (EReal.coe_strictMono.monotone.map_max).symm

theorem withOnes_lt (v : FVec Ideal S128x512 .bf16) (j : Fin 128) (k : Fin 512) :
    withOnes v (ix2 (⟨j.val, by omega⟩ : Fin 144) k) = v (ix2 j k) := by
  pointwise [withOnes]

theorem withOnes_one (v : FVec Ideal S128x512 .bf16) (k : Fin 512) : withOnes v (ix2 (128 : Fin 144) k) = 1 := by
  pointwise [withOnes]

/-- A score at a column of the first head. -/
theorem scores_0 (q0 q1 : FVec Ideal S128x256 .bf16) (k : FVec Ideal S512x256 .bf16) (r : Fin 512) (i : Fin 256) :
    scores (k0_pay4 q0 q1) k (ix2 r (⟨i.val, by omega⟩ : Fin 512)) = ∑ d : Fin 128, k (ix2 r (⟨d.val, by omega⟩ : Fin 256)) * q0 (ix2 d i) := by
  pointwise [scores, k0_pay4, k0_pay3]
  simp only [mul_zero, Finset.sum_const_zero, add_zero]

/-- A score at a column of the second head. -/
theorem scores_1 (q0 q1 : FVec Ideal S128x256 .bf16) (k : FVec Ideal S512x256 .bf16) (r : Fin 512) (i : Fin 256) :
    scores (k0_pay4 q0 q1) k (ix2 r (⟨256 + i.val, by omega⟩ : Fin 512)) = ∑ d : Fin 128, k (ix2 r (⟨128 + d.val, by omega⟩ : Fin 256)) * q1 (ix2 d i) := by
  pointwise [scores, k0_pay4, k0_pay3]
  simp only [mul_zero, Finset.sum_const_zero, zero_add]

/-- The stored value at a row of queries and a value column of the first head. -/
theorem fin_0 (o : FVec Ideal S144x512 .f32) (i : Fin 256) (j : Fin 128) (h : j.val < 64) :
    k0_pay1 o (ix2 i j) = o (ix2 (⟨j.val, by omega⟩ : Fin 144) (⟨i.val, by omega⟩ : Fin 512))
      * Ideal.div 1 (o (ix2 (128 : Fin 144) (⟨i.val, by omega⟩ : Fin 512))) := by
  pointwise [k0_pay1]
  rw [dif_pos h]

/-- The stored value at a row of queries and a value column of the second head. -/
theorem fin_1 (o : FVec Ideal S144x512 .f32) (i : Fin 256) (j : Fin 128) (h : ¬ j.val < 64) :
    k0_pay1 o (ix2 i j) = o (ix2 (⟨j.val, by omega⟩ : Fin 144) (⟨256 + i.val, by omega⟩ : Fin 512))
      * Ideal.div 1 (o (ix2 (128 : Fin 144) (⟨256 + i.val, by omega⟩ : Fin 512))) := by
  pointwise [k0_pay1]
  rw [dif_neg h]
  have e : (⟨64 + (j.val - 64), by omega⟩ : Fin 144) = ⟨j.val, by omega⟩ := Fin.ext (by simp only; omega)
  rw [e]

/-! ## Five chunks -/

/-- The kept product's entry after the first chunk. -/
theorem kept_first (s : FVec Ideal S512x512 .bf16) (m : FVec Ideal S1x512 .bf16) (v : FVec Ideal S128x512 .bf16) (c : Fin 512)
    (σ : Fin 512 → ℝ) (h : ∀ k, s (ix2 k c) = (σ k : EReal)) (μ : ℝ) (hm : m (ix2 0 c) = (μ : EReal)) (r : Fin 144) :
    chunk s m v (ix2 r c) = (p2 (-μ) : ℝ) * ∑ k : Fin 512, withOnes v (ix2 r k) * (p2 (σ k) : ℝ) := by
  rw [chunk_at]; simp only [h, hm]; exact first μ _ σ

/-- The kept product's entry after one more chunk. -/
theorem kept_next (m m' : FVec Ideal S1x512 .bf16) (o : FVec Ideal S144x512 .f32) (s : FVec Ideal S512x512 .bf16)
    (v : FVec Ideal S128x512 .bf16) (c : Fin 512) (σ : Fin 512 → ℝ) (h : ∀ k, s (ix2 k c) = (σ k : EReal)) (μ μ' : ℝ)
    (hm : m (ix2 0 c) = (μ : EReal)) (hm' : m' (ix2 0 c) = (μ' : EReal)) (r : Fin 144) (A : EReal)
    (ho : o (ix2 r c) = (p2 (-μ) : ℝ) * A) :
    next m m' o s v (ix2 r c) = (p2 (-μ') : ℝ) * (A + ∑ k : Fin 512, withOnes v (ix2 r k) * (p2 (σ k) : ℝ)) := by
  rw [next_at]; simp only [h, hm, hm', ho]; exact step μ μ' A _ σ

/-- The kept product's entry after five chunks: one power of two, the same for every row, times the sum of the values
weighted by their scores' powers of two. -/
theorem fold5_at (s0 s1 s2 s3 s4 : FVec Ideal S512x512 .bf16) (v0 v1 v2 v3 v4 : FVec Ideal S128x512 .bf16) (c : Fin 512)
    (σ0 σ1 σ2 σ3 σ4 : Fin 512 → ℝ) (h0 : ∀ k, s0 (ix2 k c) = (σ0 k : EReal)) (h1 : ∀ k, s1 (ix2 k c) = (σ1 k : EReal))
    (h2 : ∀ k, s2 (ix2 k c) = (σ2 k : EReal)) (h3 : ∀ k, s3 (ix2 k c) = (σ3 k : EReal)) (h4 : ∀ k, s4 (ix2 k c) = (σ4 k : EReal)) :
    ∃ μ : ℝ, ∀ r : Fin 144, fold5 s0 s1 s2 s3 s4 v0 v1 v2 v3 v4 (ix2 r c) = (p2 (-μ) : ℝ) *
      (∑ k : Fin 512, withOnes v0 (ix2 r k) * (p2 (σ0 k) : ℝ) + ∑ k : Fin 512, withOnes v1 (ix2 r k) * (p2 (σ1 k) : ℝ)
        + ∑ k : Fin 512, withOnes v2 (ix2 r k) * (p2 (σ2 k) : ℝ) + ∑ k : Fin 512, withOnes v3 (ix2 r k) * (p2 (σ3 k) : ℝ)
        + ∑ k : Fin 512, withOnes v4 (ix2 r k) * (p2 (σ4 k) : ℝ)) := by
  have r1 := colMax_real s0 c σ0 h0
  have r2 := max_real _ _ c r1 (colMax_real s1 c σ1 h1)
  have r3 := max_real _ _ c r2 (colMax_real s2 c σ2 h2)
  have r4 := max_real _ _ c r3 (colMax_real s3 c σ3 h3)
  have r5 := max_real _ _ c r4 (colMax_real s4 c σ4 h4)
  obtain ⟨μ1, e1⟩ := r1
  obtain ⟨μ2, e2⟩ := r2
  obtain ⟨μ3, e3⟩ := r3
  obtain ⟨μ4, e4⟩ := r4
  obtain ⟨μ5, e5⟩ := r5
  refine ⟨μ5, fun r => ?_⟩
  exact kept_next _ _ _ _ _ c σ4 h4 μ4 μ5 e4 e5 r _ (kept_next _ _ _ _ _ c σ3 h3 μ3 μ4 e3 e4 r _
    (kept_next _ _ _ _ _ c σ2 h2 μ2 μ3 e2 e3 r _ (kept_next _ _ _ _ _ c σ1 h1 μ1 μ2 e1 e2 r _ (kept_first _ _ _ c σ0 h0 μ1 e1 r))))

/-- The normalised entry: the weighted values' sum over the weights' sum. -/
theorem ratio (s0 s1 s2 s3 s4 : FVec Ideal S512x512 .bf16) (v0 v1 v2 v3 v4 : FVec Ideal S128x512 .bf16) (c : Fin 512)
    (σ0 σ1 σ2 σ3 σ4 : Fin 512 → ℝ) (h0 : ∀ k, s0 (ix2 k c) = (σ0 k : EReal)) (h1 : ∀ k, s1 (ix2 k c) = (σ1 k : EReal))
    (h2 : ∀ k, s2 (ix2 k c) = (σ2 k : EReal)) (h3 : ∀ k, s3 (ix2 k c) = (σ3 k : EReal)) (h4 : ∀ k, s4 (ix2 k c) = (σ4 k : EReal))
    (j : Fin 128) :
    fold5 s0 s1 s2 s3 s4 v0 v1 v2 v3 v4 (ix2 (⟨j.val, by omega⟩ : Fin 144) c)
      * Ideal.div 1 (fold5 s0 s1 s2 s3 s4 v0 v1 v2 v3 v4 (ix2 (128 : Fin 144) c))
      = (∑ k : Fin 512, v0 (ix2 j k) * (p2 (σ0 k) : ℝ) + ∑ k : Fin 512, v1 (ix2 j k) * (p2 (σ1 k) : ℝ)
        + ∑ k : Fin 512, v2 (ix2 j k) * (p2 (σ2 k) : ℝ) + ∑ k : Fin 512, v3 (ix2 j k) * (p2 (σ3 k) : ℝ)
        + ∑ k : Fin 512, v4 (ix2 j k) * (p2 (σ4 k) : ℝ))
        * (((∑ k, p2 (σ0 k) + ∑ k, p2 (σ1 k) + ∑ k, p2 (σ2 k) + ∑ k, p2 (σ3 k) + ∑ k, p2 (σ4 k))⁻¹ : ℝ) : EReal) := by
  obtain ⟨μ, h⟩ := fold5_at s0 s1 s2 s3 s4 v0 v1 v2 v3 v4 c σ0 σ1 σ2 σ3 σ4 h0 h1 h2 h3 h4
  rw [h, h]
  simp only [withOnes_one, withOnes_lt, one_mul, ← coe_sum, ← EReal.coe_add]
  refine finish μ _ ?_ _
  have hp (σ : Fin 512 → ℝ) : 0 < ∑ k, p2 (σ k) := Finset.sum_pos (fun k _ => p2_pos _) ⟨0, Finset.mem_univ _⟩
  exact add_pos (add_pos (add_pos (add_pos (hp _) (hp _)) (hp _)) (hp _)) (hp _)

/-- A pair's stored value at a row of queries and a value column of its first head. -/
theorem pair_0 (q0 q1 : FVec Ideal S128x256 .bf16) (k0 k1 k2 k3 k4 : FVec Ideal S512x256 .bf16) (v0 v1 v2 v3 v4 : FVec Ideal S128x512 .bf16)
    (i : Fin 256) (j : Fin 128) (hj : j.val < 64) (σ0 σ1 σ2 σ3 σ4 : Fin 512 → ℝ)
    (h0 : ∀ k, ∑ d : Fin 128, k0 (ix2 k (⟨d.val, by omega⟩ : Fin 256)) * q0 (ix2 d i) = (σ0 k : EReal))
    (h1 : ∀ k, ∑ d : Fin 128, k1 (ix2 k (⟨d.val, by omega⟩ : Fin 256)) * q0 (ix2 d i) = (σ1 k : EReal))
    (h2 : ∀ k, ∑ d : Fin 128, k2 (ix2 k (⟨d.val, by omega⟩ : Fin 256)) * q0 (ix2 d i) = (σ2 k : EReal))
    (h3 : ∀ k, ∑ d : Fin 128, k3 (ix2 k (⟨d.val, by omega⟩ : Fin 256)) * q0 (ix2 d i) = (σ3 k : EReal))
    (h4 : ∀ k, ∑ d : Fin 128, k4 (ix2 k (⟨d.val, by omega⟩ : Fin 256)) * q0 (ix2 d i) = (σ4 k : EReal)) :
    pair q0 q1 k0 k1 k2 k3 k4 v0 v1 v2 v3 v4 (ix2 i j)
      = (∑ k : Fin 512, v0 (ix2 j k) * (p2 (σ0 k) : ℝ) + ∑ k : Fin 512, v1 (ix2 j k) * (p2 (σ1 k) : ℝ)
        + ∑ k : Fin 512, v2 (ix2 j k) * (p2 (σ2 k) : ℝ) + ∑ k : Fin 512, v3 (ix2 j k) * (p2 (σ3 k) : ℝ)
        + ∑ k : Fin 512, v4 (ix2 j k) * (p2 (σ4 k) : ℝ))
        * (((∑ k, p2 (σ0 k) + ∑ k, p2 (σ1 k) + ∑ k, p2 (σ2 k) + ∑ k, p2 (σ3 k) + ∑ k, p2 (σ4 k))⁻¹ : ℝ) : EReal) := by
  unfold pair
  rw [fin_0 _ i j hj]
  exact ratio _ _ _ _ _ _ _ _ _ _ _ σ0 σ1 σ2 σ3 σ4 (fun k => (scores_0 q0 q1 k0 k i).trans (h0 k)) (fun k => (scores_0 q0 q1 k1 k i).trans (h1 k))
    (fun k => (scores_0 q0 q1 k2 k i).trans (h2 k)) (fun k => (scores_0 q0 q1 k3 k i).trans (h3 k)) (fun k => (scores_0 q0 q1 k4 k i).trans (h4 k)) j

/-- A pair's stored value at a row of queries and a value column of its second head. -/
theorem pair_1 (q0 q1 : FVec Ideal S128x256 .bf16) (k0 k1 k2 k3 k4 : FVec Ideal S512x256 .bf16) (v0 v1 v2 v3 v4 : FVec Ideal S128x512 .bf16)
    (i : Fin 256) (j : Fin 128) (hj : ¬ j.val < 64) (σ0 σ1 σ2 σ3 σ4 : Fin 512 → ℝ)
    (h0 : ∀ k, ∑ d : Fin 128, k0 (ix2 k (⟨128 + d.val, by omega⟩ : Fin 256)) * q1 (ix2 d i) = (σ0 k : EReal))
    (h1 : ∀ k, ∑ d : Fin 128, k1 (ix2 k (⟨128 + d.val, by omega⟩ : Fin 256)) * q1 (ix2 d i) = (σ1 k : EReal))
    (h2 : ∀ k, ∑ d : Fin 128, k2 (ix2 k (⟨128 + d.val, by omega⟩ : Fin 256)) * q1 (ix2 d i) = (σ2 k : EReal))
    (h3 : ∀ k, ∑ d : Fin 128, k3 (ix2 k (⟨128 + d.val, by omega⟩ : Fin 256)) * q1 (ix2 d i) = (σ3 k : EReal))
    (h4 : ∀ k, ∑ d : Fin 128, k4 (ix2 k (⟨128 + d.val, by omega⟩ : Fin 256)) * q1 (ix2 d i) = (σ4 k : EReal)) :
    pair q0 q1 k0 k1 k2 k3 k4 v0 v1 v2 v3 v4 (ix2 i j)
      = (∑ k : Fin 512, v0 (ix2 j k) * (p2 (σ0 k) : ℝ) + ∑ k : Fin 512, v1 (ix2 j k) * (p2 (σ1 k) : ℝ)
        + ∑ k : Fin 512, v2 (ix2 j k) * (p2 (σ2 k) : ℝ) + ∑ k : Fin 512, v3 (ix2 j k) * (p2 (σ3 k) : ℝ)
        + ∑ k : Fin 512, v4 (ix2 j k) * (p2 (σ4 k) : ℝ))
        * (((∑ k, p2 (σ0 k) + ∑ k, p2 (σ1 k) + ∑ k, p2 (σ2 k) + ∑ k, p2 (σ3 k) + ∑ k, p2 (σ4 k))⁻¹ : ℝ) : EReal) := by
  unfold pair
  rw [fin_1 _ i j hj]
  exact ratio _ _ _ _ _ _ _ _ _ _ _ σ0 σ1 σ2 σ3 σ4 (fun k => (scores_1 q0 q1 k0 k i).trans (h0 k)) (fun k => (scores_1 q0 q1 k1 k i).trans (h1 k))
    (fun k => (scores_1 q0 q1 k2 k i).trans (h2 k)) (fun k => (scores_1 q0 q1 k3 k i).trans (h3 k)) (fun k => (scores_1 q0 q1 k4 k i).trans (h4 k)) j

/-- A sum over the 2048 new keys is the sum of its four chunks'. -/
theorem four_chunks {M : Type*} [AddCommMonoid M] (a : M) (f : Fin 2048 → M) :
    a + ∑ k : Fin 512, f ⟨k.val, by omega⟩ + ∑ k : Fin 512, f ⟨512 + k.val, by omega⟩ + ∑ k : Fin 512, f ⟨1024 + k.val, by omega⟩
      + ∑ k : Fin 512, f ⟨1536 + k.val, by omega⟩ = a + ∑ k, f k := by
  rw [Fin.sum_univ_tiles 4 512 rfl f]
  simp only [Fin.sum_univ_four, add_assoc]
  simp

/-- The weighted mean with the new keys taken in four chunks. -/
theorem mean_chunks (sP : Fin 512 → ℝ) (sL : Fin 2048 → ℝ) (vP : Fin 512 → EReal) (vL : Fin 2048 → EReal) :
    (∑ k : Fin 512, vP k * (p2 (sP k) : ℝ) + ∑ k : Fin 512, vL ⟨k.val, by omega⟩ * (p2 (sL ⟨k.val, by omega⟩) : ℝ)
        + ∑ k : Fin 512, vL ⟨512 + k.val, by omega⟩ * (p2 (sL ⟨512 + k.val, by omega⟩) : ℝ)
        + ∑ k : Fin 512, vL ⟨1024 + k.val, by omega⟩ * (p2 (sL ⟨1024 + k.val, by omega⟩) : ℝ)
        + ∑ k : Fin 512, vL ⟨1536 + k.val, by omega⟩ * (p2 (sL ⟨1536 + k.val, by omega⟩) : ℝ))
        * (((∑ k, p2 (sP k) + ∑ k : Fin 512, p2 (sL ⟨k.val, by omega⟩) + ∑ k : Fin 512, p2 (sL ⟨512 + k.val, by omega⟩)
          + ∑ k : Fin 512, p2 (sL ⟨1024 + k.val, by omega⟩) + ∑ k : Fin 512, p2 (sL ⟨1536 + k.val, by omega⟩))⁻¹ : ℝ) : EReal)
      = mean sP sL vP vL := by
  unfold mean
  rw [← four_chunks _ fun k => vL k * (p2 (sL k) : EReal), ← four_chunks _ fun k => p2 (sL k)]

/-- What the body leaves in its result block: at a row of queries and a value column, the mean of the column's head. -/
theorem out_at (q : FVec Ideal S512x256 .bf16) (kP : FVec Ideal S512x512 .bf16) (kL : FVec Ideal S2048x512 .bf16)
    (vP : FVec Ideal S256x512 .bf16) (vL : FVec Ideal S256x2048 .bf16) (i j : Fin 256) (sP : Fin 512 → ℝ) (sL : Fin 2048 → ℝ)
    (hP : ∀ k, ∑ d : Fin 128, kP (ix2 k (⟨j.val / 64 * 128 + d.val, by omega⟩ : Fin 512)) * q (ix2 (⟨j.val / 64 * 128 + d.val, by omega⟩ : Fin 512) i) = (sP k : EReal))
    (hL : ∀ k, ∑ d : Fin 128, kL (ix2 k (⟨j.val / 64 * 128 + d.val, by omega⟩ : Fin 512)) * q (ix2 (⟨j.val / 64 * 128 + d.val, by omega⟩ : Fin 512) i) = (sL k : EReal)) :
    out0_5 (F := Ideal) q kP kL vP vL (ix2 i j) = mean sP sL (fun k => vP (ix2 j k)) (fun k => vL (ix2 j k)) := by
  unfold_out out0_5
  have e0 := @pair0_eq
  have e1 := @pair1_eq
  simp only at e1
  rw [e0, e1]
  clear e0 e1
  canon_tiles x h
  case piece0 =>
    idx_vars x
    obtain rfl : i = x0 := Fin.ext h0
    have hlt : 128 + x1.val < 256 := by omega
    obtain rfl : j = ⟨128 + x1.val, hlt⟩ := Fin.ext h1
    by_cases hb : x1.val < 64
    · refine (pair_0 _ _ _ _ _ _ _ _ _ _ _ _ i x1 hb sP (fun k => sL ⟨k.val, by omega⟩) (fun k => sL ⟨512 + k.val, by omega⟩)
        (fun k => sL ⟨1024 + k.val, by omega⟩) (fun k => sL ⟨1536 + k.val, by omega⟩) (fun k => ?_) (fun k => ?_) (fun k => ?_) (fun k => ?_) (fun k => ?_)).trans ?_
      on_goal 6 =>
        rw [← mean_chunks]
        pointwise
      all_goals
        first | rw [← hP] | rw [← hL]
        refine Finset.sum_congr rfl fun d _ => ?_
        pointwise
        refine congrArg₂ (· * ·) (congrArg _ ?_) (congrArg _ ?_) <;> blk_ext
    · refine (pair_1 _ _ _ _ _ _ _ _ _ _ _ _ i x1 hb sP (fun k => sL ⟨k.val, by omega⟩) (fun k => sL ⟨512 + k.val, by omega⟩)
        (fun k => sL ⟨1024 + k.val, by omega⟩) (fun k => sL ⟨1536 + k.val, by omega⟩) (fun k => ?_) (fun k => ?_) (fun k => ?_) (fun k => ?_) (fun k => ?_)).trans ?_
      on_goal 6 =>
        rw [← mean_chunks]
        pointwise
      all_goals
        first | rw [← hP] | rw [← hL]
        refine Finset.sum_congr rfl fun d _ => ?_
        pointwise
        refine congrArg₂ (· * ·) (congrArg _ ?_) (congrArg _ ?_) <;> blk_ext
  case piece1 =>
    idx_vars x
    obtain rfl : i = x0 := Fin.ext h0
    have hlt : x1.val < 256 := by omega
    obtain rfl : j = ⟨x1.val, hlt⟩ := Fin.ext h1
    by_cases hb : x1.val < 64
    · refine (pair_0 _ _ _ _ _ _ _ _ _ _ _ _ i x1 hb sP (fun k => sL ⟨k.val, by omega⟩) (fun k => sL ⟨512 + k.val, by omega⟩)
        (fun k => sL ⟨1024 + k.val, by omega⟩) (fun k => sL ⟨1536 + k.val, by omega⟩) (fun k => ?_) (fun k => ?_) (fun k => ?_) (fun k => ?_) (fun k => ?_)).trans ?_
      on_goal 6 =>
        rw [← mean_chunks]
        pointwise
      all_goals
        first | rw [← hP] | rw [← hL]
        refine Finset.sum_congr rfl fun d _ => ?_
        pointwise
        refine congrArg₂ (· * ·) (congrArg _ ?_) (congrArg _ ?_) <;> blk_ext
    · refine (pair_1 _ _ _ _ _ _ _ _ _ _ _ _ i x1 hb sP (fun k => sL ⟨k.val, by omega⟩) (fun k => sL ⟨512 + k.val, by omega⟩)
        (fun k => sL ⟨1024 + k.val, by omega⟩) (fun k => sL ⟨1536 + k.val, by omega⟩) (fun k => ?_) (fun k => ?_) (fun k => ?_) (fun k => ?_) (fun k => ?_)).trans ?_
      on_goal 6 =>
        rw [← mean_chunks]
        pointwise
      all_goals
        first | rw [← hP] | rw [← hL]
        refine Finset.sum_congr rfl fun d _ => ?_
        pointwise
        refine congrArg₂ (· * ·) (congrArg _ ?_) (congrArg _ ?_) <;> blk_ext

end Cert.KernelIdeal.Block

end
-- ==== Proof.AttnValue.lean ====
module

public import proofs.«01_k».proof.Proof.AttnBlock
public import proofs.«01_k».proof.Proof.Gen.ReferenceIdeal.Run
public import proofs.«01_k».proof.Proof.Gen.KernelIdeal.Value
public import Idealize.ShloMosaic.Lib.Pipeline.ValueKit
public import Idealize.ShloMosaic.Lib.Pointwise

/-!
# The attention's blocks, from its arguments

The host lays the queries, keys and values out by heads, pads a head's 96 columns with zeros to 128, and scales the
queries. Here are those arrays at an entry, and the blocks that a grid point holds of them.
-/

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.KernelIdeal.Block Cert.SoftmaxMath

variable (m : (ℓ : Loc nD τ sig) → Buf (Elt Ideal) ℓ)

/-- The windows' block indices at a grid point: the point's number counts requests, then head groups, then query tiles. -/
theorem idx : ∀ t : Fin cfg0.N, win0_0.index t = ![t.val / 8 % 2, t.val / 16 * 8 + t.val % 8] ∧ win0_1.index t = ![t.val / 16, t.val / 8 % 2]
    ∧ win0_2.index t = ![t.val / 16, t.val / 8 % 2] ∧ win0_3.index t = ![t.val / 8 % 2, t.val / 16] ∧ win0_4.index t = ![t.val / 8 % 2, t.val / 16]
    ∧ win0_5.index t = ![t.val / 16 * 8 + t.val % 8, t.val / 8 % 2] :=
  (by decide +kernel : ∀ t : Fin grid0.N, _)

theorem lt64 (t : Fin cfg0.N) : t.val < 64 := t.isLt.trans_eq N_0

/-- A grid point's request. -/
def req (t : Fin cfg0.N) : Fin 4 := ⟨t.val / 16, by have := lt64 t; omega⟩

/-- A grid point's head, from the head's number within the group of four. -/
def head (t : Fin cfg0.N) (a : Fin 4) : Fin 8 := ⟨t.val / 8 % 2 * 4 + a.val, by omega⟩

/-- A grid point's query position, from the row within the tile. -/
def pos (t : Fin cfg0.N) (i : Fin 256) : Fin 2048 := ⟨t.val % 8 * 256 + i.val, by omega⟩

/-- The scale that the host puts on the queries. -/
def scale : FVec Ideal S_ .f32 := Host.divf (Host.rsqrt (constant S_ .f32 0x42C00000#32)) (Host.log (constant S_ .f32 0x40000000#32))

/-- The query operand, as a term of the queries. -/
def layQ (qn : FVec Ideal S4x2048x8x64 .f32) (qp : FVec Ideal S4x2048x8x32 .f32) : FVec Ideal S1024x8192 .bf16 :=
  truncf .bf16 (shapeCast S1024x8192 (transpose S8x128x4x2048 [2, 3, 0, 1] (concatenate S4x2048x8x128 3
    [⟨S4x2048x8x64, mulf qn (broadcastInDim S4x2048x8x64 ![] bcast_S_S4x2048x8x64 scale)⟩,
     ⟨S4x2048x8x32, mulf qp (broadcastInDim S4x2048x8x32 ![] bcast_S_S4x2048x8x32 scale)⟩,
     ⟨S4x2048x8x32, broadcastInDim S4x2048x8x32 ![] bcast_S_S4x2048x8x32 (constant S_ .f32 0x00000000#32)⟩]
    concatenates_S4x2048x8x64_S4x2048x8x32_S4x2048x8x32_S4x2048x8x128_d3) transposes_S4x2048x8x128_S8x128x4x2048_2_3_0_1)
    shapeCasts_S8x128x4x2048_S1024x8192) bitsLt_bf16_f32

/-- The past keys' operand, as a term of the past keys. -/
def layKP (kn : FVec Ideal S4x512x8x64 .f32) (kp : FVec Ideal S4x512x32 .f32) : FVec Ideal S2048x1024 .bf16 :=
  truncf .bf16 (shapeCast S2048x1024 (concatenate S4x512x8x128 3
    [⟨S4x512x8x64, kn⟩,
     ⟨S4x512x8x32, broadcastInDim S4x512x8x32 ![0, 1, 2, 3] bcast_S4x512x1x32_S4x512x8x32_0_1_2_3
        (broadcastInDim S4x512x1x32 ![0, 1, 3] bcast_S4x512x32_S4x512x1x32_0_1_3 kp)⟩,
     ⟨S4x512x8x32, broadcastInDim S4x512x8x32 ![] bcast_S_S4x512x8x32 (constant S_ .f32 0x00000000#32)⟩]
    concatenates_S4x512x8x64_S4x512x8x32_S4x512x8x32_S4x512x8x128_d3) shapeCasts_S4x512x8x128_S2048x1024) bitsLt_bf16_f32

/-- The new keys' operand, as a term of the new keys. -/
def layKL (kn : FVec Ideal S4x2048x8x64 .f32) (kp : FVec Ideal S4x2048x32 .f32) : FVec Ideal S8192x1024 .bf16 :=
  truncf .bf16 (shapeCast S8192x1024 (concatenate S4x2048x8x128 3
    [⟨S4x2048x8x64, kn⟩,
     ⟨S4x2048x8x32, broadcastInDim S4x2048x8x32 ![0, 1, 2, 3] bcast_S4x2048x1x32_S4x2048x8x32_0_1_2_3
        (broadcastInDim S4x2048x1x32 ![0, 1, 3] bcast_S4x2048x32_S4x2048x1x32_0_1_3 kp)⟩,
     ⟨S4x2048x8x32, broadcastInDim S4x2048x8x32 ![] bcast_S_S4x2048x8x32 (constant S_ .f32 0x00000000#32)⟩]
    concatenates_S4x2048x8x64_S4x2048x8x32_S4x2048x8x32_S4x2048x8x128_d3) shapeCasts_S4x2048x8x128_S8192x1024) bitsLt_bf16_f32

/-- The past values' operand, as a term of the past values. -/
def layVP (v : FVec Ideal S4x512x8x64 .f32) : FVec Ideal S512x2048 .bf16 :=
  truncf .bf16 (shapeCast S512x2048 (transpose S8x64x4x512 [2, 3, 0, 1] v transposes_S4x512x8x64_S8x64x4x512_2_3_0_1)
    shapeCasts_S8x64x4x512_S512x2048) bitsLt_bf16_f32

/-- The new values' operand, as a term of the new values. -/
def layVL (v : FVec Ideal S4x2048x8x64 .f32) : FVec Ideal S512x8192 .bf16 :=
  truncf .bf16 (shapeCast S512x8192 (transpose S8x64x4x2048 [2, 3, 0, 1] v transposes_S4x2048x8x64_S8x64x4x2048_2_3_0_1)
    shapeCasts_S8x64x4x2048_S512x8192) bitsLt_bf16_f32

set_option maxHeartbeats 2000000 in
theorem V_q (c : Dev nD) : V m c main_v11 = layQ (m ((c : Thread nD τ).loc main_arg0)) (m ((c : Thread nD τ).loc main_arg1)) := by
  unfold V; after_results; try rfl

set_option maxHeartbeats 2000000 in
theorem V_kP (c : Dev nD) : V m c main_v17 = layKP (m ((c : Thread nD τ).loc main_arg2)) (m ((c : Thread nD τ).loc main_arg3)) := by
  unfold V; after_results; try rfl

set_option maxHeartbeats 2000000 in
theorem V_kL (c : Dev nD) : V m c main_v23 = layKL (m ((c : Thread nD τ).loc main_arg5)) (m ((c : Thread nD τ).loc main_arg6)) := by
  unfold V; after_results; try rfl

theorem V_vP (c : Dev nD) : V m c main_v26 = layVP (m ((c : Thread nD τ).loc main_arg4)) := by
  unfold V; after_results; try rfl

theorem V_vL (c : Dev nD) : V m c main_v29 = layVL (m ((c : Thread nD τ).loc main_arg7)) := by
  unfold V; after_results; try rfl

/-- The query operand at a head's first 64 rows. -/
theorem layQ_nope (qn : FVec Ideal S4x2048x8x64 .f32) (qp : FVec Ideal S4x2048x8x32 .f32) (h : Fin 8) (d : Fin 64) (b : Fin 4) (p : Fin 2048) :
    layQ qn qp (ix2 (⟨h.val * 128 + d.val, by omega⟩ : Fin 1024) (⟨b.val * 2048 + p.val, by omega⟩ : Fin 8192))
      = qn (ix4 b p h d) * scale ix0 := by
  pointwise [layQ]
  rw [dif_pos (by omega)]
  refine congrArg (· * scale ix0) ?_
  blk_ext

/-- The query operand at a head's next 32 rows. -/
theorem layQ_pe (qn : FVec Ideal S4x2048x8x64 .f32) (qp : FVec Ideal S4x2048x8x32 .f32) (h : Fin 8) (d : Fin 32) (b : Fin 4) (p : Fin 2048) :
    layQ qn qp (ix2 (⟨h.val * 128 + (64 + d.val), by omega⟩ : Fin 1024) (⟨b.val * 2048 + p.val, by omega⟩ : Fin 8192))
      = qp (ix4 b p h d) * scale ix0 := by
  pointwise [layQ]
  rw [dif_neg (by omega), dif_pos (by omega)]
  refine congrArg (· * scale ix0) ?_
  blk_ext

/-- The past keys' operand at a head's first 64 columns. -/
theorem layKP_nope (kn : FVec Ideal S4x512x8x64 .f32) (kp : FVec Ideal S4x512x32 .f32) (h : Fin 8) (d : Fin 64) (b : Fin 4) (p : Fin 512) :
    layKP kn kp (ix2 (⟨b.val * 512 + p.val, by omega⟩ : Fin 2048) (⟨h.val * 128 + d.val, by omega⟩ : Fin 1024)) = kn (ix4 b p h d) := by
  pointwise [layKP]
  rw [dif_pos (by omega)]
  blk_ext

/-- The past keys' operand at a head's next 32 columns. -/
theorem layKP_pe (kn : FVec Ideal S4x512x8x64 .f32) (kp : FVec Ideal S4x512x32 .f32) (h : Fin 8) (d : Fin 32) (b : Fin 4) (p : Fin 512) :
    layKP kn kp (ix2 (⟨b.val * 512 + p.val, by omega⟩ : Fin 2048) (⟨h.val * 128 + (64 + d.val), by omega⟩ : Fin 1024)) = kp (ix3 b p d) := by
  pointwise [layKP]
  rw [dif_neg (by omega), dif_pos (by omega)]
  blk_ext

/-- The past keys' operand at a head's last 32 columns. -/
theorem layKP_pad (kn : FVec Ideal S4x512x8x64 .f32) (kp : FVec Ideal S4x512x32 .f32) (h : Fin 8) (d : Fin 32) (b : Fin 4) (p : Fin 512) :
    layKP kn kp (ix2 (⟨b.val * 512 + p.val, by omega⟩ : Fin 2048) (⟨h.val * 128 + (96 + d.val), by omega⟩ : Fin 1024)) = (0 : EReal) := by
  pointwise [layKP]
  rw [dif_neg (by omega), dif_neg (by omega)]

/-- The new keys' operand at a head's first 64 columns. -/
theorem layKL_nope (kn : FVec Ideal S4x2048x8x64 .f32) (kp : FVec Ideal S4x2048x32 .f32) (h : Fin 8) (d : Fin 64) (b : Fin 4) (p : Fin 2048) :
    layKL kn kp (ix2 (⟨b.val * 2048 + p.val, by omega⟩ : Fin 8192) (⟨h.val * 128 + d.val, by omega⟩ : Fin 1024)) = kn (ix4 b p h d) := by
  pointwise [layKL]
  rw [dif_pos (by omega)]
  blk_ext

/-- The new keys' operand at a head's next 32 columns. -/
theorem layKL_pe (kn : FVec Ideal S4x2048x8x64 .f32) (kp : FVec Ideal S4x2048x32 .f32) (h : Fin 8) (d : Fin 32) (b : Fin 4) (p : Fin 2048) :
    layKL kn kp (ix2 (⟨b.val * 2048 + p.val, by omega⟩ : Fin 8192) (⟨h.val * 128 + (64 + d.val), by omega⟩ : Fin 1024)) = kp (ix3 b p d) := by
  pointwise [layKL]
  rw [dif_neg (by omega), dif_pos (by omega)]
  blk_ext

/-- The new keys' operand at a head's last 32 columns. -/
theorem layKL_pad (kn : FVec Ideal S4x2048x8x64 .f32) (kp : FVec Ideal S4x2048x32 .f32) (h : Fin 8) (d : Fin 32) (b : Fin 4) (p : Fin 2048) :
    layKL kn kp (ix2 (⟨b.val * 2048 + p.val, by omega⟩ : Fin 8192) (⟨h.val * 128 + (96 + d.val), by omega⟩ : Fin 1024)) = (0 : EReal) := by
  pointwise [layKL]
  rw [dif_neg (by omega), dif_neg (by omega)]

theorem layVP_at (v : FVec Ideal S4x512x8x64 .f32) (R : Fin 512) (C : Fin 2048) :
    layVP v (ix2 R C) = v (ix4 (⟨C.val / 512, by omega⟩ : Fin 4) (⟨C.val % 512, by omega⟩ : Fin 512) (⟨R.val / 64, by omega⟩ : Fin 8) (⟨R.val % 64, by omega⟩ : Fin 64)) := by
  pointwise [layVP]

theorem layVL_at (v : FVec Ideal S4x2048x8x64 .f32) (R : Fin 512) (C : Fin 8192) :
    layVL v (ix2 R C) = v (ix4 (⟨C.val / 2048, by omega⟩ : Fin 4) (⟨C.val % 2048, by omega⟩ : Fin 2048) (⟨R.val / 64, by omega⟩ : Fin 8) (⟨R.val % 64, by omega⟩ : Fin 64)) := by
  pointwise [layVL]

/-- A sum over a head's 128 columns is the sum over its 64, its 32 and its last 32. -/
theorem sum_head {M : Type*} [AddCommMonoid M] (f : Fin 128 → M) :
    ∑ d, f d = ∑ d : Fin 64, f ⟨d.val, by omega⟩ + ∑ d : Fin 32, f ⟨64 + d.val, by omega⟩ + ∑ d : Fin 32, f ⟨96 + d.val, by omega⟩ := by
  have h1 := Fin.sum_univ_add (a := 96) (b := 32) f
  have h2 := Fin.sum_univ_add (a := 64) (b := 32) fun d : Fin 96 => f (Fin.castAdd 32 d)
  rw [h1, h2]
  rfl

/-- The query block's rows of a head, at a column. -/
theorem blk_q (c : Dev nD) (t : Fin cfg0.N) (r : Fin 512) (i : Fin 256) : iblk m c 0 t (ix2 r i)
    = layQ (m ((c : Thread nD τ).loc main_arg0)) (m ((c : Thread nD τ).loc main_arg1))
        (ix2 (⟨t.val / 8 % 2 * 512 + r.val, by omega⟩ : Fin 1024) (⟨(req t).val * 2048 + (pos t i).val, by omega⟩ : Fin 8192)) := by
  blk_simp [iblk]
  rw [V_q]
  blk_ext [req, pos, idx t]

theorem blk_kP (c : Dev nD) (t : Fin cfg0.N) (r k : Fin 512) : iblk m c 1 t (ix2 k r)
    = layKP (m ((c : Thread nD τ).loc main_arg2)) (m ((c : Thread nD τ).loc main_arg3))
        (ix2 (⟨(req t).val * 512 + k.val, by omega⟩ : Fin 2048) (⟨t.val / 8 % 2 * 512 + r.val, by omega⟩ : Fin 1024)) := by
  blk_simp [iblk]
  rw [V_kP]
  blk_ext [req, idx t]

theorem blk_kL (c : Dev nD) (t : Fin cfg0.N) (r : Fin 512) (k : Fin 2048) : iblk m c 2 t (ix2 k r)
    = layKL (m ((c : Thread nD τ).loc main_arg5)) (m ((c : Thread nD τ).loc main_arg6))
        (ix2 (⟨(req t).val * 2048 + k.val, by omega⟩ : Fin 8192) (⟨t.val / 8 % 2 * 512 + r.val, by omega⟩ : Fin 1024)) := by
  blk_simp [iblk]
  rw [V_kL]
  blk_ext [req, idx t]

theorem blk_vP (c : Dev nD) (t : Fin cfg0.N) (j : Fin 256) (k : Fin 512) : iblk m c 3 t (ix2 j k)
    = m ((c : Thread nD τ).loc main_arg4) (ix4 (req t) k (head t ⟨j.val / 64, by omega⟩) (⟨j.val % 64, by omega⟩ : Fin 64)) := by
  blk_simp [iblk]
  rw [V_vP]
  refine Eq.trans (congrArg _ (?_ : _ = ix2 (⟨t.val / 8 % 2 * 256 + j.val, by omega⟩ : Fin 512) (⟨(req t).val * 512 + k.val, by omega⟩ : Fin 2048)))
    ((layVP_at _ _ _).trans ?_)
  all_goals blk_ext [req, head, idx t]

theorem blk_vL (c : Dev nD) (t : Fin cfg0.N) (j : Fin 256) (k : Fin 2048) : iblk m c 4 t (ix2 j k)
    = m ((c : Thread nD τ).loc main_arg7) (ix4 (req t) k (head t ⟨j.val / 64, by omega⟩) (⟨j.val % 64, by omega⟩ : Fin 64)) := by
  blk_simp [iblk]
  rw [V_vL]
  refine Eq.trans (congrArg _ (?_ : _ = ix2 (⟨t.val / 8 % 2 * 256 + j.val, by omega⟩ : Fin 512) (⟨(req t).val * 2048 + k.val, by omega⟩ : Fin 8192)))
    ((layVL_at _ _ _).trans ?_)
  all_goals blk_ext [req, head, idx t]

end Cert.KernelIdeal.Value

end
-- ==== Proof.AttnRef.lean ====
module

public import proofs.«01_k».proof.Proof.SoftmaxMath
public import proofs.«01_k».proof.Proof.Gen.ReferenceIdeal.Run
public import Idealize.ShloMosaic.Lib.Pointwise

/-!
# The attention's reference, at one entry of its result

The reference joins the past and the new keys and values, takes every query's scores against all 2560 keys, and
weighs the values with their softmax. At an entry this is a sum over the 512 past and the 2048 new values.
-/

@[expose] public section

set_option maxRecDepth 16384

noncomputable section

open Idealize.ShloMosaic Idealize.ShloMosaic.TcCoe Idealize.SL.Sem

namespace Cert.ReferenceIdeal.Value
open Cert.ReferenceIdeal Cert.ReferenceIdeal.Gen Cert.SoftmaxMath

/-- The scaled scores, as a term of the queries and keys. -/
def SC (qn : FVec Ideal S4x2048x8x64 .f32) (qp : FVec Ideal S4x2048x8x32 .f32) (knP : FVec Ideal S4x512x8x64 .f32) (kpP : FVec Ideal S4x512x32 .f32)
    (knL : FVec Ideal S4x2048x8x64 .f32) (kpL : FVec Ideal S4x2048x32 .f32) : FVec Ideal S4x8x2048x2560 .f32 :=
  mulf (addf (Host.dotGeneral dot_S4x2048x8x64_S4x2560x8x64_S4x8x2048x2560_3_3_1_1_02_02 none qn (concatenate S4x2560x8x64 1 [⟨S4x512x8x64, knP⟩, ⟨S4x2048x8x64, knL⟩] concatenates_S4x512x8x64_S4x2048x8x64_S4x2560x8x64_d1)) (transpose S4x8x2048x2560 [0, 3, 2, 1] (Host.dotGeneral dot_S4x2560x32_S4x2048x8x32_S4x2560x2048x8_2_3_1_12_0_0 none (concatenate S4x2560x32 1 [⟨S4x512x32, kpP⟩, ⟨S4x2048x32, kpL⟩] concatenates_S4x512x32_S4x2048x32_S4x2560x32_d1) qp) transposes_S4x2560x2048x8_S4x8x2048x2560_0_3_2_1)) (broadcastInDim S4x8x2048x2560 ![] bcast_S_S4x8x2048x2560 (Host.rsqrt (constant S_ .f32 0x42C00000#32)))

/-- The rows' maxima, as a term of the scores. -/
def MX (s : FVec Ideal S4x8x2048x2560 .f32) : FVec Ideal S4x8x2048 .f32 :=
  maximumf (broadcastInDim S4x8x2048 ![] bcast_S_S4x8x2048 (constant S_ .f32 0xFF800000#32)) (Host.reduce FloatOps.maximumf s (constant S_ .f32 0xFF800000#32) reducesTo_S4x8x2048x2560_S4x8x2048_d3 h_S_)

/-- A row's value copied along its keys. -/
def ALONG (r : FVec Ideal S4x8x2048 .f32) : FVec Ideal S4x8x2048x2560 .f32 :=
  broadcastInDim S4x8x2048x2560 ![0, 1, 2, 3] bcast_S4x8x2048x1_S4x8x2048x2560_0_1_2_3 (broadcastInDim S4x8x2048x1 ![0, 1, 2] bcast_S4x8x2048_S4x8x2048x1_0_1_2 r)

/-- The shifted scores' exponentials, as a term of the scores and the shifts. -/
def EX (s : FVec Ideal S4x8x2048x2560 .f32) (r : FVec Ideal S4x8x2048 .f32) : FVec Ideal S4x8x2048x2560 .f32 :=
  Host.exp (subf s (ALONG r))

/-- The exponentials' sums. -/
def SM (e : FVec Ideal S4x8x2048x2560 .f32) : FVec Ideal S4x8x2048 .f32 :=
  Host.reduceAdd e (constant S_ .f32 0x00000000#32) reducesTo_S4x8x2048x2560_S4x8x2048_d3 h_S_

/-- The weighted values, as a term of the weights and the values. -/
def OUT (w : FVec Ideal S4x8x2048x2560 .f32) (vP : FVec Ideal S4x512x8x64 .f32) (vL : FVec Ideal S4x2048x8x64 .f32) : FVec Ideal S8192x512 .bf16 :=
  truncf .bf16 (shapeCast _ (transpose S4x2048x8x64 [0, 3, 1, 2] (Host.dotGeneral dot_S4x2560x8x64_S4x8x2048x2560_S4x8x64x2048_1_3_3_2_02_01 none (concatenate S4x2560x8x64 1 [⟨S4x512x8x64, vP⟩, ⟨S4x2048x8x64, vL⟩] concatenates_S4x512x8x64_S4x2048x8x64_S4x2560x8x64_d1) w) transposes_S4x8x64x2048_S4x2048x8x64_0_3_1_2) shapeCasts_S4x2048x8x64_S8192x512) bitsLt_bf16_f32

/-- The reference's result, as a term of its arguments. -/
def REF (qn : FVec Ideal S4x2048x8x64 .f32) (qp : FVec Ideal S4x2048x8x32 .f32) (knP : FVec Ideal S4x512x8x64 .f32) (kpP : FVec Ideal S4x512x32 .f32)
    (vP : FVec Ideal S4x512x8x64 .f32) (knL : FVec Ideal S4x2048x8x64 .f32) (kpL : FVec Ideal S4x2048x32 .f32) (vL : FVec Ideal S4x2048x8x64 .f32) : FVec Ideal S8192x512 .bf16 :=
  OUT (Host.divf (EX (SC qn qp knP kpP knL kpL) (MX (SC qn qp knP kpP knL kpL))) (ALONG (SM (EX (SC qn qp knP kpP knL kpL) (MX (SC qn qp knP kpP knL kpL)))))) vP vL

theorem SC_past (qn : FVec Ideal S4x2048x8x64 .f32) (qp : FVec Ideal S4x2048x8x32 .f32) (knP : FVec Ideal S4x512x8x64 .f32) (kpP : FVec Ideal S4x512x32 .f32)
    (knL : FVec Ideal S4x2048x8x64 .f32) (kpL : FVec Ideal S4x2048x32 .f32) (b : Fin 4) (h : Fin 8) (p : Fin 2048) (k : Fin 512) :
    SC qn qp knP kpP knL kpL (ix4 b h p (⟨k.val, by omega⟩ : Fin 2560))
      = (∑ d, qn (ix4 b p h d) * knP (ix4 b k h d) + ∑ d, kpP (ix3 b k d) * qp (ix4 b p h d)) * Ideal.rsqrt (Ideal.ofBits .f32 0x42C00000#32) := by
  pointwise [SC]

theorem SC_new (qn : FVec Ideal S4x2048x8x64 .f32) (qp : FVec Ideal S4x2048x8x32 .f32) (knP : FVec Ideal S4x512x8x64 .f32) (kpP : FVec Ideal S4x512x32 .f32)
    (knL : FVec Ideal S4x2048x8x64 .f32) (kpL : FVec Ideal S4x2048x32 .f32) (b : Fin 4) (h : Fin 8) (p : Fin 2048) (k : Fin 2048) :
    SC qn qp knP kpP knL kpL (ix4 b h p (⟨512 + k.val, by omega⟩ : Fin 2560))
      = (∑ d, qn (ix4 b p h d) * knL (ix4 b k h d) + ∑ d, kpL (ix3 b k d) * qp (ix4 b p h d)) * Ideal.rsqrt (Ideal.ofBits .f32 0x42C00000#32) := by
  pointwise [SC]

/-- A maximum along the last of four axes, over real entries and from the least value, is real. -/
theorem reduce_max_real {n0 n1 n2 n3 : ℕ} {t u : Shape} (f : EReal → EReal → EReal) (hf : f = max) (s : (⟨4, ![n0, n1, n2, n3]⟩ : Shape).Idx → EReal) (init : u.Idx → EReal)
    (h : (⟨4, ![n0, n1, n2, n3]⟩ : Shape).ReducesTo [3] t) (hu : 0 < u.numel) (hn : 0 < n3)
    (σ : (⟨4, ![n0, n1, n2, n3]⟩ : Shape).Idx → ℝ) (hs : ∀ i, s i = (σ i : EReal)) (hi : ∀ i, init i = ⊥) :
    ∀ j : t.Idx, ∃ r : ℝ, Host.reduce f s init h hu j = (r : EReal) := by
  subst hf
  intro j
  have e := (Host.reduce_eq_fold (max : EReal → EReal → EReal) s init h hu j).trans (h.fold_fiber_r4_a3 j (max : EReal → EReal → EReal) _ s)
  obtain ⟨r, hr⟩ := fold_max_coe hn fun k => σ (ix4 ⟨(j ⟨0, h.lt_r4_a3_0⟩).val, Shape.coordLt (j ⟨0, h.lt_r4_a3_0⟩) h.size_r4_a3_0⟩ ⟨(j ⟨1, h.lt_r4_a3_1⟩).val, Shape.coordLt (j ⟨1, h.lt_r4_a3_1⟩) h.size_r4_a3_1⟩ ⟨(j ⟨2, h.lt_r4_a3_2⟩).val, Shape.coordLt (j ⟨2, h.lt_r4_a3_2⟩) h.size_r4_a3_2⟩ k)
  refine ⟨r, e.trans ?_⟩
  rw [hi]
  simp only [hs]
  exact hr

theorem least : Ideal.ofBits .f32 0xFF800000#32 = ⊥ := by simp [Ideal.ofBits, Ideal.ieee]

/-- The larger of the least value and real entries is real. -/
theorem max_least_real (R : FVec Ideal S4x8x2048 .f32) (hR : ∀ j, ∃ r : ℝ, R j = (r : EReal)) (b : Fin 4) (h : Fin 8) (p : Fin 2048) :
    ∃ r : ℝ, maximumf (broadcastInDim S4x8x2048 ![] bcast_S_S4x8x2048 (constant (F := Ideal) S_ .f32 0xFF800000#32)) R (ix3 b h p) = (r : EReal) := by
  obtain ⟨r, hr⟩ := hR (ix3 b h p)
  refine ⟨r, ?_⟩
  pointwise
  rw [hr, least, max_eq_right bot_le]

/-- The rows' maxima over real scores are real. -/
theorem MX_real (s : FVec Ideal S4x8x2048x2560 .f32) (σ : S4x8x2048x2560.Idx → ℝ) (hs : ∀ i, s i = (σ i : EReal)) (b : Fin 4) (h : Fin 8) (p : Fin 2048) :
    ∃ r : ℝ, MX s (ix3 b h p) = (r : EReal) := by
  unfold MX
  exact max_least_real _ (reduce_max_real (FloatOps.maximumf : Ideal .f32 → Ideal .f32 → Ideal .f32) Ideal.maximumf_eq_max s _ reducesTo_S4x8x2048x2560_S4x8x2048_d3 h_S_ (by decide) σ hs fun _ => least) b h p

theorem EX_at (s : FVec Ideal S4x8x2048x2560 .f32) (r : FVec Ideal S4x8x2048 .f32) (b : Fin 4) (h : Fin 8) (p : Fin 2048) (k : Fin 2560) :
    EX s r (ix4 b h p k) = Ideal.exp (s (ix4 b h p k) - r (ix3 b h p)) := by
  pointwise [EX, ALONG]

theorem ALONG_at (r : FVec Ideal S4x8x2048 .f32) (b : Fin 4) (h : Fin 8) (p : Fin 2048) (k : Fin 2560) :
    ALONG r (ix4 b h p k) = r (ix3 b h p) := by
  pointwise [ALONG]

theorem SM_at (e : FVec Ideal S4x8x2048x2560 .f32) (b : Fin 4) (h : Fin 8) (p : Fin 2048) :
    SM e (ix3 b h p) = ∑ k : Fin 2560, e (ix4 b h p k) := by
  pointwise [SM]

theorem OUT_at (w : FVec Ideal S4x8x2048x2560 .f32) (vP : FVec Ideal S4x512x8x64 .f32) (vL : FVec Ideal S4x2048x8x64 .f32) (b : Fin 4) (p : Fin 2048) (h : Fin 8) (e : Fin 64) :
    OUT w vP vL (ix2 (⟨b.val * 2048 + p.val, by omega⟩ : Fin 8192) (⟨h.val * 64 + e.val, by omega⟩ : Fin 512))
      = ∑ k : Fin 512, vP (ix4 b k h e) * w (ix4 b h p (⟨k.val, by omega⟩ : Fin 2560)) + ∑ k : Fin 2048, vL (ix4 b k h e) * w (ix4 b h p (⟨512 + k.val, by omega⟩ : Fin 2560)) := by
  pointwise [OUT]

/-- The reference's result at a query and a value column, when the scores are real: the head's weighted mean. -/
theorem REF_at (qn : FVec Ideal S4x2048x8x64 .f32) (qp : FVec Ideal S4x2048x8x32 .f32) (knP : FVec Ideal S4x512x8x64 .f32) (kpP : FVec Ideal S4x512x32 .f32)
    (vP : FVec Ideal S4x512x8x64 .f32) (knL : FVec Ideal S4x2048x8x64 .f32) (kpL : FVec Ideal S4x2048x32 .f32) (vL : FVec Ideal S4x2048x8x64 .f32)
    (X : S4x8x2048x2560.Idx → ℝ) (hX : ∀ i, SC qn qp knP kpP knL kpL i = (X i : EReal)) (b : Fin 4) (p : Fin 2048) (h : Fin 8) (e : Fin 64) :
    REF qn qp knP kpP vP knL kpL vL (ix2 (⟨b.val * 2048 + p.val, by omega⟩ : Fin 8192) (⟨h.val * 64 + e.val, by omega⟩ : Fin 512))
      = mean (fun k => X (ix4 b h p (⟨k.val, by omega⟩ : Fin 2560)) / Real.log 2) (fun k => X (ix4 b h p (⟨512 + k.val, by omega⟩ : Fin 2560)) / Real.log 2)
          (fun k => vP (ix4 b k h e)) (fun k => vL (ix4 b k h e)) := by
  unfold REF
  rw [OUT_at]
  obtain ⟨M, hM⟩ := MX_real _ X hX b h p
  refine mean_eq (fun k => X (ix4 b h p k) / Real.log 2) _ _ (fun k => Host.divf (EX (SC qn qp knP kpP knL kpL) (MX (SC qn qp knP kpP knL kpL))) (ALONG (SM (EX (SC qn qp knP kpP knL kpL) (MX (SC qn qp knP kpP knL kpL))))) (ix4 b h p k)) fun k => ?_
  refine Eq.trans ?_ (weight (by decide) (fun k => X (ix4 b h p k)) M k)
  have hd (x y : FVec Ideal S4x8x2048x2560 .f32) (i) : Host.divf x y i = Ideal.div (x i) (y i) := rfl
  rw [hd, ALONG_at, SM_at]
  simp only [EX_at, hX, hM]

end Cert.ReferenceIdeal.Value

end
-- ==== Proof.AttnFinal.lean ====
module

public import proofs.«01_k».proof.Proof.AttnValue
public import proofs.«01_k».proof.Proof.AttnRef

/-!
# The attention's result is the reference's

With real queries and keys, the kernel's scores in base two are the reference's scores over `log 2`, so both results
are the same weighted mean of the values.
-/

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.KernelIdeal.Block Cert.SoftmaxMath

/-- The scores' scale, one over the root of 96. -/
def rs : ℝ := (Real.sqrt 96)⁻¹

theorem word_96 : Ideal.ofBits .f32 0x42C00000#32 = ((96 : ℝ) : EReal) := by
  simp [Ideal.ofBits, Ideal.ieee, -EReal.coe_mul]; norm_num

theorem word_2 : Ideal.ofBits .f32 0x40000000#32 = ((2 : ℝ) : EReal) := by
  simp [Ideal.ofBits, Ideal.ieee, -EReal.coe_mul]; norm_num

theorem rsqrt_96 : Ideal.rsqrt (Ideal.ofBits .f32 0x42C00000#32) = (rs : EReal) := by
  rw [word_96, Ideal.rsqrt_coe, if_neg (by norm_num), if_neg (by norm_num)]
  rfl

/-- The scale on the kernel's queries: one over the root of 96, over the logarithm of two. -/
theorem scale_eq : scale ix0 = ((rs / Real.log 2 : ℝ) : EReal) := by
  have h : scale ix0 = Ideal.div (Ideal.rsqrt (Ideal.ofBits .f32 0x42C00000#32)) (Ideal.log (Ideal.ofBits .f32 0x40000000#32)) := rfl
  have hl : Real.log 2 ≠ 0 := (Real.log_pos (by norm_num)).ne'
  rw [h, rsqrt_96, word_2, Ideal.log_coe, if_neg (by norm_num), Ideal.div_coe hl, ← EReal.coe_mul]
  congr 1
  ring

/-- A score of the kernel, in base two, from real queries and keys. -/
theorem score (QN KN : Fin 64 → ℝ) (QP KP : Fin 32 → ℝ) (q k : Fin 128 → EReal)
    (hq1 : ∀ d : Fin 64, q ⟨d.val, by omega⟩ = (QN d : EReal) * scale ix0) (hq2 : ∀ d : Fin 32, q ⟨64 + d.val, by omega⟩ = (QP d : EReal) * scale ix0)
    (hk1 : ∀ d : Fin 64, k ⟨d.val, by omega⟩ = (KN d : EReal)) (hk2 : ∀ d : Fin 32, k ⟨64 + d.val, by omega⟩ = (KP d : EReal))
    (hk3 : ∀ d : Fin 32, k ⟨96 + d.val, by omega⟩ = (0 : EReal)) :
    ∑ d, k d * q d = (((∑ d, QN d * KN d + ∑ d, KP d * QP d) * rs / Real.log 2 : ℝ) : EReal) := by
  rw [sum_head]
  simp only [hq1, hq2, hk1, hk2, hk3, zero_mul, Finset.sum_const_zero, add_zero, scale_eq, ← EReal.coe_mul, ← coe_sum, ← EReal.coe_add]
  congr 1
  rw [mul_div_assoc, add_mul, Finset.sum_mul, Finset.sum_mul]
  congr 1 <;> exact Finset.sum_congr rfl fun d _ => by ring

/-- The reference's real score. -/
def X (QN : S4x2048x8x64.Idx → ℝ) (QP : S4x2048x8x32.Idx → ℝ) (NP : S4x512x8x64.Idx → ℝ) (PP : S4x512x32.Idx → ℝ)
    (NL : S4x2048x8x64.Idx → ℝ) (PL : S4x2048x32.Idx → ℝ) (b : Fin 4) (h : Fin 8) (p : Fin 2048) (k : Fin 2560) : ℝ :=
  if hk : k.val < 512 then (∑ d, QN (ix4 b p h d) * NP (ix4 b (⟨k.val, hk⟩ : Fin 512) h d) + ∑ d, PP (ix3 b (⟨k.val, hk⟩ : Fin 512) d) * QP (ix4 b p h d)) * rs
  else (∑ d, QN (ix4 b p h d) * NL (ix4 b (⟨k.val - 512, by omega⟩ : Fin 2048) h d) + ∑ d, PL (ix3 b (⟨k.val - 512, by omega⟩ : Fin 2048) d) * QP (ix4 b p h d)) * rs

theorem X_past (QN : S4x2048x8x64.Idx → ℝ) (QP : S4x2048x8x32.Idx → ℝ) (NP : S4x512x8x64.Idx → ℝ) (PP : S4x512x32.Idx → ℝ)
    (NL : S4x2048x8x64.Idx → ℝ) (PL : S4x2048x32.Idx → ℝ) (b : Fin 4) (h : Fin 8) (p : Fin 2048) (k : Fin 512) :
    X QN QP NP PP NL PL b h p ⟨k.val, by omega⟩ = (∑ d, QN (ix4 b p h d) * NP (ix4 b k h d) + ∑ d, PP (ix3 b k d) * QP (ix4 b p h d)) * rs := by
  unfold X
  rw [dif_pos k.isLt]

theorem X_new (QN : S4x2048x8x64.Idx → ℝ) (QP : S4x2048x8x32.Idx → ℝ) (NP : S4x512x8x64.Idx → ℝ) (PP : S4x512x32.Idx → ℝ)
    (NL : S4x2048x8x64.Idx → ℝ) (PL : S4x2048x32.Idx → ℝ) (b : Fin 4) (h : Fin 8) (p : Fin 2048) (k : Fin 2048) :
    X QN QP NP PP NL PL b h p ⟨512 + k.val, by omega⟩ = (∑ d, QN (ix4 b p h d) * NL (ix4 b k h d) + ∑ d, PL (ix3 b k d) * QP (ix4 b p h d)) * rs := by
  unfold X
  have hk : (⟨512 + k.val - 512, by omega⟩ : Fin 2048) = k := Fin.ext (by simp)
  rw [dif_neg (by simp)]
  simp only [hk]

/-- The reference's scores are real, with real queries and keys. -/
theorem SC_real (qn : FVec Ideal S4x2048x8x64 .f32) (qp : FVec Ideal S4x2048x8x32 .f32) (knP : FVec Ideal S4x512x8x64 .f32) (kpP : FVec Ideal S4x512x32 .f32)
    (knL : FVec Ideal S4x2048x8x64 .f32) (kpL : FVec Ideal S4x2048x32 .f32)
    (QN : S4x2048x8x64.Idx → ℝ) (QP : S4x2048x8x32.Idx → ℝ) (NP : S4x512x8x64.Idx → ℝ) (PP : S4x512x32.Idx → ℝ)
    (NL : S4x2048x8x64.Idx → ℝ) (PL : S4x2048x32.Idx → ℝ)
    (h0 : ∀ i, qn i = (QN i : EReal)) (h1 : ∀ i, qp i = (QP i : EReal)) (h2 : ∀ i, knP i = (NP i : EReal)) (h3 : ∀ i, kpP i = (PP i : EReal))
    (h5 : ∀ i, knL i = (NL i : EReal)) (h6 : ∀ i, kpL i = (PL i : EReal)) (b : Fin 4) (h : Fin 8) (p : Fin 2048) (k : Fin 2560) :
    Cert.ReferenceIdeal.Value.SC qn qp knP kpP knL kpL (ix4 b h p k) = (X QN QP NP PP NL PL b h p k : EReal) := by
  by_cases hk : k.val < 512
  · have e := Cert.ReferenceIdeal.Value.SC_past qn qp knP kpP knL kpL b h p ⟨k.val, hk⟩
    refine e.trans ?_
    have e' := X_past QN QP NP PP NL PL b h p ⟨k.val, hk⟩
    refine Eq.trans ?_ (congrArg _ e'.symm)
    simp only [h0, h1, h2, h3, rsqrt_96, ← EReal.coe_mul, ← coe_sum, ← EReal.coe_add]
  · have hk' : k = ⟨512 + (k.val - 512), by omega⟩ := Fin.ext (by simp; omega)
    rw [hk']
    have e := Cert.ReferenceIdeal.Value.SC_new qn qp knP kpP knL kpL b h p ⟨k.val - 512, by omega⟩
    refine e.trans ?_
    have e' := X_new QN QP NP PP NL PL b h p ⟨k.val - 512, by omega⟩
    refine Eq.trans ?_ (congrArg _ e'.symm)
    simp only [h0, h1, h5, h6, rsqrt_96, ← EReal.coe_mul, ← coe_sum, ← EReal.coe_add]

variable (m : (ℓ : Loc nD τ sig) → Buf (Elt Ideal) ℓ)

/-- The result array is the reference's term of the arguments, when queries and keys are real. -/
theorem final (c : Dev nD)
    (QN : S4x2048x8x64.Idx → ℝ) (QP : S4x2048x8x32.Idx → ℝ) (NP : S4x512x8x64.Idx → ℝ) (PP : S4x512x32.Idx → ℝ)
    (NL : S4x2048x8x64.Idx → ℝ) (PL : S4x2048x32.Idx → ℝ)
    (h0 : ∀ i, (m ((c : Thread nD τ).loc main_arg0) : FVec Ideal S4x2048x8x64 .f32) i = (QN i : EReal)) (h1 : ∀ i, (m ((c : Thread nD τ).loc main_arg1) : FVec Ideal S4x2048x8x32 .f32) i = (QP i : EReal))
    (h2 : ∀ i, (m ((c : Thread nD τ).loc main_arg2) : FVec Ideal S4x512x8x64 .f32) i = (NP i : EReal)) (h3 : ∀ i, (m ((c : Thread nD τ).loc main_arg3) : FVec Ideal S4x512x32 .f32) i = (PP i : EReal))
    (h5 : ∀ i, (m ((c : Thread nD τ).loc main_arg5) : FVec Ideal S4x2048x8x64 .f32) i = (NL i : EReal)) (h6 : ∀ i, (m ((c : Thread nD τ).loc main_arg6) : FVec Ideal S4x2048x32 .f32) i = (PL i : EReal)) :
    (dats m 0 c).arrAt 5 (cfgs 0).N
      = Cert.ReferenceIdeal.Value.REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (dats m 0 c).arrAt_eq_of_covers 5 _ (by decide +kernel) fun t _ y => ?_
  blk_simp
  rw [after0_5]
  idx_vars y
  have he : ((View.whole main_v30).slice (win0_5.rect t)).emb (ix2 y0 y1)
      = ix2 (⟨(req t).val * 2048 + (pos t y0).val, by omega⟩ : Fin 8192) (⟨(head t ⟨y1.val / 64, by omega⟩).val * 64 + y1.val % 64, by omega⟩ : Fin 512) := by
    blk_ext [req, pos, head, idx t]
  refine Eq.trans ?_ (congrArg _ he.symm)
  refine Eq.trans ?_ (Cert.ReferenceIdeal.Value.REF_at _ _ _ _ _ _ _ _
    (fun i => X QN QP NP PP NL PL (i 0) (i 1) (i 2) (i 3)) (fun i => ?_) (req t) (pos t y0) (head t ⟨y1.val / 64, by omega⟩) (⟨y1.val % 64, by omega⟩ : Fin 64)).symm
  swap
  · idx_vars i
    exact SC_real _ _ _ _ _ _ QN QP NP PP NL PL h0 h1 h2 h3 h5 h6 i0 i1 i2 i3
  have hh (d : Nat) : t.val / 8 % 2 * 512 + (y1.val / 64 * 128 + d) = (head t ⟨y1.val / 64, by omega⟩).val * 128 + d := by
    simp only [head]; omega
  refine (out_at _ _ _ _ _ y0 y1
    (fun k => X QN QP NP PP NL PL (req t) (head t ⟨y1.val / 64, by omega⟩) (pos t y0) ⟨k.val, by omega⟩ / Real.log 2)
    (fun k => X QN QP NP PP NL PL (req t) (head t ⟨y1.val / 64, by omega⟩) (pos t y0) ⟨512 + k.val, by omega⟩ / Real.log 2) (fun k => ?_) (fun k => ?_)).trans ?_
  · rw [X_past]
    refine score (fun d => QN (ix4 (req t) (pos t y0) (head t ⟨y1.val / 64, by omega⟩) d)) (fun d => NP (ix4 (req t) k (head t ⟨y1.val / 64, by omega⟩) d))
      (fun d => QP (ix4 (req t) (pos t y0) (head t ⟨y1.val / 64, by omega⟩) d)) (fun d => PP (ix3 (req t) k d)) _ _ (fun d => ?_) (fun d => ?_) (fun d => ?_) (fun d => ?_) (fun d => ?_)
    · simp only [blk_q, hh]
      exact (layQ_nope _ _ _ _ _ _).trans (by rw [h0])
    · simp only [blk_q, hh]
      exact (layQ_pe _ _ _ _ _ _).trans (by rw [h1])
    · simp only [blk_kP, hh]
      exact (layKP_nope _ _ _ _ _ _).trans (h2 _)
    · simp only [blk_kP, hh]
      exact (layKP_pe _ _ _ _ _ _).trans (h3 _)
    · simp only [blk_kP, hh]
      exact layKP_pad _ _ _ _ _ _
  · rw [X_new]
    refine score (fun d => QN (ix4 (req t) (pos t y0) (head t ⟨y1.val / 64, by omega⟩) d)) (fun d => NL (ix4 (req t) k (head t ⟨y1.val / 64, by omega⟩) d))
      (fun d => QP (ix4 (req t) (pos t y0) (head t ⟨y1.val / 64, by omega⟩) d)) (fun d => PL (ix3 (req t) k d)) _ _ (fun d => ?_) (fun d => ?_) (fun d => ?_) (fun d => ?_) (fun d => ?_)
    · simp only [blk_q, hh]
      exact (layQ_nope _ _ _ _ _ _).trans (by rw [h0])
    · simp only [blk_q, hh]
      exact (layQ_pe _ _ _ _ _ _).trans (by rw [h1])
    · simp only [blk_kL, hh]
      exact (layKL_nope _ _ _ _ _ _).trans (h5 _)
    · simp only [blk_kL, hh]
      exact (layKL_pe _ _ _ _ _ _).trans (h6 _)
    · simp only [blk_kL, hh]
      exact layKL_pad _ _ _ _ _ _
  · simp only [blk_vP, blk_vL]
    rfl

end Cert.KernelIdeal.Value

end
-- ==== Proof.AttnFinite.lean ====
module

public import proofs.«01_k».proof.Defs
public import proofs.«01_k».proof.Proof.Gen.Pre_finite_qk
public import Idealize.ShloMosaic.Lib.ReduceAll
public import Idealize.ShloMosaic.Lib.Pointwise

/-!
# The precondition, read

`finite_qk` says of the six query and key arrays that every element's absolute value is below infinity. Over the
extended reals this is that every element is a real number.
-/

@[expose] public section

set_option maxRecDepth 16384

noncomputable section

open Idealize.ShloMosaic

namespace Cert.Finite

/-- Two bits whose `and` is one are both one. -/
theorem both {a b : BitVec 1} (h : IntOp.andi a b = 1#1) : a = 1#1 ∧ b = 1#1 := by
  revert h; revert a b; decide

theorem inf_eq : Ideal.ofBits .f32 0x7F800000#32 = ⊤ := by simp [Ideal.ofBits, Ideal.ieee]

/-- A number whose absolute value is below infinity is real. -/
theorem real_of_abs {x : EReal} (h : Ideal.cmp .olt (max x (-x)) ⊤ = 1#1) : ∃ r : ℝ, x = (r : EReal) := by
  have h' := (Ideal.cmp_olt_eq_one _ _).1 h
  induction x with
  | bot => simp at h'
  | top => simp at h'
  | coe r => exact ⟨r, rfl⟩

/-- An array whose elements all have absolute values below infinity holds real numbers. -/
theorem reals {s t u : Shape} [Subsingleton t.Idx] {axes : List (Fin s.rank)} (x : FVec Ideal s .f32) (init : u.Idx → BitVec 1)
    (hb : (⟨0, ![]⟩ : Shape).BroadcastsInDim s (![] : Fin 0 → Fin s.rank)) (h : s.ReducesTo axes t) (hu : 0 < u.numel) (j : t.Idx)
    (e : Host.reduce IntOp.andi (cmpf .olt (Host.absf x) (broadcastInDim s ![] hb (constant ⟨0, ![]⟩ .f32 0x7F800000#32))) init h hu j = 1#1) :
    ∃ X : s.Idx → ℝ, ∀ i, x i = (X i : EReal) := by
  have hx (i) : ∃ r : ℝ, x i = (r : EReal) := by
    have hi := Host.reduce_andi_all _ _ _ _ j e i
    refine real_of_abs ?_
    rw [← inf_eq]
    exact hi
  exact ⟨fun i => (hx i).choose, fun i => (hx i).choose_spec⟩

open Cert.Pre_finite_qk in
/-- The precondition gives the six arrays' elements as real numbers. -/
theorem opened [Cert.Pre_finite_qk.Facts] (a0 : FVec Ideal S4x2048x8x64 .f32) (a1 : FVec Ideal S4x2048x8x32 .f32) (a2 : FVec Ideal S4x512x8x64 .f32)
    (a3 : FVec Ideal S4x512x32 .f32) (a4 : FVec Ideal S4x512x8x64 .f32) (a5 : FVec Ideal S4x2048x8x64 .f32) (a6 : FVec Ideal S4x2048x32 .f32)
    (a7 : FVec Ideal S4x2048x8x64 .f32) (h : Cert.Pre_finite_qk.fn (F := Ideal) a0 a1 a2 a3 a4 a5 a6 a7 = fun _ => 1#1) :
    (∃ X : S4x2048x8x64.Idx → ℝ, ∀ i, a0 i = (X i : EReal)) ∧ (∃ X : S4x2048x8x32.Idx → ℝ, ∀ i, a1 i = (X i : EReal))
      ∧ (∃ X : S4x512x8x64.Idx → ℝ, ∀ i, a2 i = (X i : EReal)) ∧ (∃ X : S4x512x32.Idx → ℝ, ∀ i, a3 i = (X i : EReal))
      ∧ (∃ X : S4x2048x8x64.Idx → ℝ, ∀ i, a5 i = (X i : EReal)) ∧ (∃ X : S4x2048x32.Idx → ℝ, ∀ i, a6 i = (X i : EReal)) := by
  have h0 := congrFun h ix0
  unfold fn fn_part1 at h0
  obtain ⟨h1, e6⟩ := both h0
  obtain ⟨h2, e5⟩ := both h1
  obtain ⟨h3, e3⟩ := both h2
  obtain ⟨h4, e2⟩ := both h3
  obtain ⟨e0, e1⟩ := both h4
  haveI : Subsingleton S_.Idx := ⟨fun a b => funext fun d => d.elim0⟩
  exact ⟨reals a0 _ _ _ _ _ e0, reals a1 _ _ _ _ _ e1, reals a2 _ _ _ _ _ e2, reals a3 _ _ _ _ _ e3, reals a5 _ _ _ _ _ e5, reals a6 _ _ _ _ _ e6⟩

end Cert.Finite

end
-- ==== Proof.FfnValue.lean ====
module

public import proofs.«01_k».proof.Proof.Gen.Kernel2Ideal.Frame
public import proofs.«01_k».proof.Proof.Gen.Reference2Ideal.Run
public import Idealize.ShloMosaic.Lib.Pipeline.ValueKit
public import Idealize.ShloMosaic.Lib.Pointwise

/-!
# The experts' layer: what the kernel's two result arrays hold

The pipeline's grid has one point per expert, and a point's blocks are the expert's rows, its gates and its three
weight matrices. The value stored at a row and a column of a block is a sum over the expert's hidden units, the
same sum that the reference takes at the row's batch and slot.
-/

@[expose] public section

set_option maxRecDepth 16384

noncomputable section

open Idealize.ShloMosaic Idealize.ShloMosaic.TcCoe Idealize.SL.Sem
open Idealize.ShloMosaic.Pipeline (Dat)

namespace Cert.Reference2Ideal.Value
open Cert.Reference2Ideal Cert.Reference2Ideal.Gen

/-- The reference's result on the context rows, as a term of its rows, gates and weights. -/
def REFc (x : FVec Ideal S32x16x32x1024 .f32) (g : FVec Ideal S32x16x32 .f32) (wg wu : FVec Ideal S16x1024x512 .f32)
    (wd : FVec Ideal S16x512x1024 .f32) : FVec Ideal S16x1024x1024 .bf16 :=
  truncf .bf16 (shapeCast _ (transpose S16x32x32x1024 [1, 0, 2, 3] (mulf (transpose S32x16x32x1024 [2, 0, 3, 1] (Host.dotGeneral dot_S16x512x1024_S32x16x32x512_S16x1024x32x32_1_3_2_02_0_1 none wd (mulf (mulf (transpose S32x16x32x512 [2, 0, 3, 1] (Host.dotGeneral dot_S16x1024x512_S32x16x32x1024_S16x512x32x32_1_3_2_02_0_1 none wg x) transposes_S16x512x32x32_S32x16x32x512_2_0_3_1) (Host.divf (broadcastInDim S32x16x32x512 ![] bcast_S_S32x16x32x512 (constant S_ .f32 0x3F800000#32)) (addf (broadcastInDim S32x16x32x512 ![] bcast_S_S32x16x32x512 (constant S_ .f32 0x3F800000#32)) (Host.exp (Host.negf (transpose S32x16x32x512 [2, 0, 3, 1] (Host.dotGeneral dot_S16x1024x512_S32x16x32x1024_S16x512x32x32_1_3_2_02_0_1 none wg x) transposes_S16x512x32x32_S32x16x32x512_2_0_3_1)))))) (transpose S32x16x32x512 [2, 0, 3, 1] (Host.dotGeneral dot_S16x1024x512_S32x16x32x1024_S16x512x32x32_1_3_2_02_0_1 none wu x) transposes_S16x512x32x32_S32x16x32x512_2_0_3_1))) transposes_S16x1024x32x32_S32x16x32x1024_2_0_3_1) (broadcastInDim S32x16x32x1024 ![0, 1, 2, 3] bcast_S32x16x32x1_S32x16x32x1024_0_1_2_3 (broadcastInDim S32x16x32x1 ![0, 1, 2] bcast_S32x16x32_S32x16x32x1_0_1_2 g))) transposes_S32x16x32x1024_S16x32x32x1024_1_0_2_3) shapeCasts_S16x32x32x1024_S16x1024x1024) bitsLt_bf16_f32

/-- The reference's result on the latent rows, as a term of its rows, gates and weights. -/
def REFl (x : FVec Ideal S4x16x256x1024 .f32) (g : FVec Ideal S4x16x256 .f32) (wg wu : FVec Ideal S16x1024x512 .f32)
    (wd : FVec Ideal S16x512x1024 .f32) : FVec Ideal S16x1024x1024 .bf16 :=
  truncf .bf16 (shapeCast _ (transpose S16x4x256x1024 [1, 0, 2, 3] (mulf (transpose S4x16x256x1024 [2, 0, 3, 1] (Host.dotGeneral dot_S16x512x1024_S4x16x256x512_S16x1024x4x256_1_3_2_02_0_1 none wd (mulf (mulf (transpose S4x16x256x512 [2, 0, 3, 1] (Host.dotGeneral dot_S16x1024x512_S4x16x256x1024_S16x512x4x256_1_3_2_02_0_1 none wg x) transposes_S16x512x4x256_S4x16x256x512_2_0_3_1) (Host.divf (broadcastInDim S4x16x256x512 ![] bcast_S_S4x16x256x512 (constant S_ .f32 0x3F800000#32)) (addf (broadcastInDim S4x16x256x512 ![] bcast_S_S4x16x256x512 (constant S_ .f32 0x3F800000#32)) (Host.exp (Host.negf (transpose S4x16x256x512 [2, 0, 3, 1] (Host.dotGeneral dot_S16x1024x512_S4x16x256x1024_S16x512x4x256_1_3_2_02_0_1 none wg x) transposes_S16x512x4x256_S4x16x256x512_2_0_3_1)))))) (transpose S4x16x256x512 [2, 0, 3, 1] (Host.dotGeneral dot_S16x1024x512_S4x16x256x1024_S16x512x4x256_1_3_2_02_0_1 none wu x) transposes_S16x512x4x256_S4x16x256x512_2_0_3_1))) transposes_S16x1024x4x256_S4x16x256x1024_2_0_3_1) (broadcastInDim S4x16x256x1024 ![0, 1, 2, 3] bcast_S4x16x256x1_S4x16x256x1024_0_1_2_3 (broadcastInDim S4x16x256x1 ![0, 1, 2] bcast_S4x16x256_S4x16x256x1_0_1_2 g))) transposes_S4x16x256x1024_S16x4x256x1024_1_0_2_3) shapeCasts_S16x4x256x1024_S16x1024x1024) bitsLt_bf16_f32

end Cert.Reference2Ideal.Value

namespace Cert.Kernel2Ideal.Value
open Cert.Kernel2Ideal Cert.Kernel2Ideal.Gen Cert.Reference2Ideal.Value

variable (m : (ℓ : Loc nD τ sig) → Buf (Elt Ideal) ℓ)

/-- Every window's block index at a grid point is the point's number, in the expert's axis. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] ∧ win0_8.index t = ![t.val, 0, 0] :=
  (by decide +kernel : ∀ t : Fin grid0.N, _)

/-- A grid point as an expert's number. -/
def ex (t : Fin cfg0.N) : Fin 16 := ⟨t.val, t.isLt.trans_eq N_0⟩

/-- The context rows' block at a point: the expert's rows, batch by batch. -/
theorem blk_xc (c : Dev nD) (t : Fin cfg0.N) (r k : Fin 1024) : iblk m c 0 t (ix3 0 r k)
    = m ((c : Thread nD τ).loc main_arg0) (ix4 (⟨r.val / 32, by omega⟩ : Fin 32) (ex t) (⟨r.val % 32, by omega⟩ : Fin 32) k) := by
  blk_simp [iblk]
  entry_read
  pointwise
  blk_ext [ex, idx t]

/-- The latent rows' block at a point: the expert's rows, batch by batch. -/
theorem blk_xl (c : Dev nD) (t : Fin cfg0.N) (r k : Fin 1024) : iblk m c 1 t (ix3 0 r k)
    = m ((c : Thread nD τ).loc main_arg1) (ix4 (⟨r.val / 256, by omega⟩ : Fin 4) (ex t) (⟨r.val % 256, by omega⟩ : Fin 256) k) := by
  blk_simp [iblk]
  entry_read
  pointwise
  blk_ext [ex, idx t]

/-- The context gates' block at a point. -/
theorem blk_gc (c : Dev nD) (t : Fin cfg0.N) (r : Fin 1024) : iblk m c 2 t (ix3 0 r 0)
    = m ((c : Thread nD τ).loc main_arg2) (ix3 (⟨r.val / 32, by omega⟩ : Fin 32) (ex t) (⟨r.val % 32, by omega⟩ : Fin 32)) := by
  blk_simp [iblk]
  entry_read
  pointwise
  blk_ext [ex, idx t]

/-- The latent gates' block at a point. -/
theorem blk_gl (c : Dev nD) (t : Fin cfg0.N) (r : Fin 1024) : iblk m c 3 t (ix3 0 r 0)
    = m ((c : Thread nD τ).loc main_arg3) (ix3 (⟨r.val / 256, by omega⟩ : Fin 4) (ex t) (⟨r.val % 256, by omega⟩ : Fin 256)) := by
  blk_simp [iblk]
  entry_read
  pointwise
  blk_ext [ex, idx t]

/-- The gate matrix's block at a point is the expert's matrix. -/
theorem blk_wg (c : Dev nD) (t : Fin cfg0.N) (k : Fin 1024) (f : Fin 512) : iblk m c 4 t (ix3 0 k f)
    = m ((c : Thread nD τ).loc main_arg4) (ix3 (ex t) k f) := by
  blk_ext [iblk, V, ex, idx t]

/-- The up matrix's block at a point is the expert's matrix. -/
theorem blk_wu (c : Dev nD) (t : Fin cfg0.N) (k : Fin 1024) (f : Fin 512) : iblk m c 5 t (ix3 0 k f)
    = m ((c : Thread nD τ).loc main_arg5) (ix3 (ex t) k f) := by
  blk_ext [iblk, V, ex, idx t]

/-- The down matrix's block at a point is the expert's matrix. -/
theorem blk_wd (c : Dev nD) (t : Fin cfg0.N) (f : Fin 512) (d : Fin 1024) : iblk m c 6 t (ix3 0 f d)
    = m ((c : Thread nD τ).loc main_arg6) (ix3 (ex t) f d) := by
  blk_ext [iblk, V, ex, idx t]

/-- A row's output with the products of the three contractions taken in the other order. -/
theorem swap_factors (X : Fin 1024 → EReal) (A B : Fin 1024 → Fin 512 → EReal) (D : Fin 512 → EReal) (s : EReal → EReal) (g : EReal) :
    (∑ f, ((∑ k, X k * A k f) * s (∑ k, X k * A k f) * ∑ k, X k * B k f) * D f) * g
      = (∑ f, D f * ((∑ k, A k f * X k) * s (∑ k, A k f * X k) * ∑ k, B k f * X k)) * g := by
  have h (C : Fin 1024 → Fin 512 → EReal) (f) : ∑ k, X k * C k f = ∑ k, C k f * X k :=
    Finset.sum_congr rfl fun k _ => mul_comm _ _
  simp only [h]
  exact congrArg (· * g) (Finset.sum_congr rfl fun f _ => mul_comm _ _)

/-- The context rows' result array is the reference's term of the arguments. -/
theorem final_c (c : Dev nD) : (dats m 0 c).arrAt 7 (cfgs 0).N
    = REFc (m ((c : Thread nD τ).loc main_arg0)) (m ((c : Thread nD τ).loc main_arg2)) (m ((c : Thread nD τ).loc main_arg4))
        (m ((c : Thread nD τ).loc main_arg5)) (m ((c : Thread nD τ).loc main_arg6)) := by
  refine (dats m 0 c).arrAt_eq_of_covers 7 _ (by decide +kernel) fun t _ y => ?_
  blk_simp
  rw [after0_7]; unfold outsAt0; frame_out
  idx_vars y
  have he : ((View.whole main_v12_0).slice (win0_7.rect t)).emb (ix3 y0 y1 y2) = ix3 (ex t) y1 y2 := by
    blk_ext [ex, idx t]
  refine Eq.trans ?_ (congrArg _ he.symm)
  pointwise [k0_pay1, k0_pay3, k0_pay4, k0_pay5, k0_pay6, REFc, Ideal.logistic, blk_xc m c t, blk_gc m c t, blk_wg m c t, blk_wu m c t, blk_wd m c t]
  exact swap_factors _ _ _ _ (fun z => Ideal.div 1 (1 + Ideal.exp (-z))) _

/-- The latent rows' result array is the reference's term of the arguments. -/
theorem final_l (c : Dev nD) : (dats m 0 c).arrAt 8 (cfgs 0).N
    = REFl (m ((c : Thread nD τ).loc main_arg1)) (m ((c : Thread nD τ).loc main_arg3)) (m ((c : Thread nD τ).loc main_arg4))
        (m ((c : Thread nD τ).loc main_arg5)) (m ((c : Thread nD τ).loc main_arg6)) := by
  refine (dats m 0 c).arrAt_eq_of_covers 8 _ (by decide +kernel) fun t _ y => ?_
  blk_simp
  rw [after0_8]; unfold outsAt0; frame_out
  idx_vars y
  have he : ((View.whole main_v12_1).slice (win0_8.rect t)).emb (ix3 y0 y1 y2) = ix3 (ex t) y1 y2 := by
    blk_ext [ex, idx t]
  refine Eq.trans ?_ (congrArg _ he.symm)
  pointwise [k0_pay2, k0_pay3, k0_pay4, k0_pay5, REFl, Ideal.logistic, blk_xl m c t, blk_gl m c t, blk_wg m c t, blk_wu m c t, blk_wd m c t]
  exact swap_factors _ _ _ _ (fun z => Ideal.div 1 (1 + Ideal.exp (-z))) _

end Cert.Kernel2Ideal.Value

end
-- ==== Proof.CombineValue.lean ====
module

public import proofs.«01_k».proof.Proof.Gen.Kernel3Ideal.Frame
public import proofs.«01_k».proof.Proof.Gen.Reference3Ideal.Run
public import Idealize.ShloMosaic.Lib.Pipeline.ValueKit
public import Idealize.ShloMosaic.Lib.Pointwise

/-!
# The context's last step: what the kernel's result array holds

A grid point takes four requests of 256 tokens. A token's slots, one per expert, are compared with the numbers of the
slots, and the experts' rows whose number is the token's slot are added to the token; the sum is then normalised. The
kernel lays the sixteen experts' thirty-two slots out in one axis of 512, and brings a token's slot of an expert to the
expert's thirty-two places by a product with a matrix of ones and zeros.
-/

@[expose] public section

set_option maxRecDepth 16384

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen

/-- The experts' rows at a token's slots, added up in one column. -/
def picked (p : Fin 16 → EReal) (y : Fin 16 → Fin 32 → EReal) : EReal :=
  ∑ e, ∑ s : Fin 32, (if p e = ((s.val : ℝ) : EReal) then 1 else 0) * y e s

/-- The place `w` of the 512 belongs to the expert `w / 32`: the kernel's shift compared with the expert's number. -/
theorem place_expert : ∀ (e : Fin 16) (w : Fin 512), IntOp.cmpi CmpIPredicate.eq
    (IntOp.shrsi ArithUnit.vector (BitVec.ofNat 32 w.val) 5#32) (BitVec.ofNat 32 e.val) = if w.val / 32 = e.val then 1#1 else 0#1 := by
  decide +kernel

/-- The place `w` of the 512 is the slot `w % 32` of its expert. -/
theorem place_slot : ∀ w : Fin 512, (IntOp.andi (BitVec.ofNat 32 w.val) 31#32).toInt = ((w.val % 32 : ℕ) : ℤ) := by
  decide +kernel

/-- A slot's number read as an integer. -/
theorem slot_int : ∀ s : Fin 32, (BitVec.ofNat 32 s.val).toInt = ((s.val : ℕ) : ℤ) := by
  decide +kernel

/-- The matrix of ones and zeros: one where the place is the expert's. -/
theorem spread_at (e : Fin 16) (w : Fin 512) : k0_pay1 (F := Ideal) (ix2 e w) = if w.val / 32 = e.val then 1 else 0 := by
  pointwise [k0_pay1]
  rw [place_expert]
  split <;> rfl

/-- The slots' numbers along the 512 places. -/
theorem slot_at (w : Fin 512) : k0_pay2 (F := Ideal) (ix2 0 w) = (((w.val % 32 : ℕ) : ℝ) : EReal) := by
  pointwise [k0_pay2]
  show (((IntOp.andi (BitVec.ofNat 32 w.val) 31#32).toInt : ℝ) : EReal) = _
  rw [place_slot]
  norm_cast

/-- A sum along the 512 places is a sum over the experts and their slots, and the product with the matrix of ones and
zeros gives every place its expert's entry. -/
theorem places (p : Fin 16 → EReal) (y : Fin 16 → Fin 32 → EReal) :
    (∑ w : Fin 512, (if (∑ e : Fin 16, p e * if w.val / 32 = e.val then (1 : EReal) else 0) = (((w.val % 32 : ℕ) : ℝ) : EReal) then (1 : EReal) else 0)
      * y ⟨w.val / 32, by omega⟩ ⟨w.val % 32, by omega⟩) = picked p y := by
  have h (w : Fin 512) : (∑ e : Fin 16, p e * if w.val / 32 = e.val then (1 : EReal) else 0) = p ⟨w.val / 32, by omega⟩ := by
    rw [Finset.sum_eq_single (⟨w.val / 32, by omega⟩ : Fin 16)]
    · simp
    · intro e _ he
      rw [if_neg (fun h => he (Fin.ext h.symm)), mul_zero]
    · simp
  simp only [h]
  unfold picked
  rw [← Fintype.sum_prod_type' (f := fun (e : Fin 16) (s : Fin 32) => (if p e = ((s.val : ℝ) : EReal) then (1 : EReal) else 0) * y e s)]
  exact Fintype.sum_equiv (finProdFinEquiv (m := 16) (n := 32)).symm _ _ fun w => rfl

/-- A token with its experts' rows, in the first request of a grid point. -/
theorem pay4_at (g : Vec Ideal S1x1x1024 .f32) (p : Vec Ideal S1x256x16 .f32) (y : Vec Ideal S16x32x1024 .bf16)
    (x : Vec Ideal S256x1024 .bf16) (i : Fin 256) (j : Fin 1024) :
    k0_pay4 (F := Ideal) g p y x (ix2 i j)
      = x (ix2 i j) + g (ix3 0 0 j) * picked (fun e => p (ix3 0 i e)) (fun e s => y (ix3 e s j)) := by
  pointwise [k0_pay4, k0_pay3, spread_at, slot_at]
  exact congrArg (fun z => x (ix2 i j) + g (ix3 0 0 j) * z) (places (fun e => p (ix3 0 i e)) (fun e s => y (ix3 e s j)))

/-- A token with its experts' rows, in the second request. -/
theorem pay8_at (g : Vec Ideal S1x1x1024 .f32) (p : Vec Ideal S1x256x16 .f32) (y : Vec Ideal S16x32x1024 .bf16)
    (x : Vec Ideal S256x1024 .bf16) (i : Fin 256) (j : Fin 1024) :
    k0_pay8 (F := Ideal) k0_pay1 k0_pay2 (k0_pay3 g) p y x (ix2 i j)
      = x (ix2 i j) + g (ix3 0 0 j) * picked (fun e => p (ix3 0 i e)) (fun e s => y (ix3 e s j)) := by
  pointwise [k0_pay8, k0_pay3, spread_at, slot_at]
  exact congrArg (fun z => x (ix2 i j) + g (ix3 0 0 j) * z) (places (fun e => p (ix3 0 i e)) (fun e s => y (ix3 e s j)))

/-- A token with its experts' rows, in the third request. -/
theorem pay13_at (g : Vec Ideal S1x1x1024 .f32) (p : Vec Ideal S1x256x16 .f32) (y : Vec Ideal S16x32x1024 .bf16)
    (x : Vec Ideal S256x1024 .bf16) (i : Fin 256) (j : Fin 1024) :
    k0_pay13 (F := Ideal) k0_pay1 k0_pay2 (k0_pay3 g) p y x (ix2 i j)
      = x (ix2 i j) + g (ix3 0 0 j) * picked (fun e => p (ix3 0 i e)) (fun e s => y (ix3 e s j)) := by
  pointwise [k0_pay13, k0_pay3, spread_at, slot_at]
  exact congrArg (fun z => x (ix2 i j) + g (ix3 0 0 j) * z) (places (fun e => p (ix3 0 i e)) (fun e s => y (ix3 e s j)))

/-- A row divided by its root mean square, and scaled. -/
def normed (x : Fin 1024 → EReal) (f : Fin 1024 → EReal) (j : Fin 1024) : EReal :=
  x j * Ideal.rsqrt (Ideal.div (∑ k, x k * x k) (Ideal.ofBits .f32 0x44800000#32) + Ideal.ofBits .f32 0x358637BD#32) * f j

/-- A token with its experts' rows, as a row. -/
def mixed (x : Fin 1024 → EReal) (g : Fin 1024 → EReal) (p : Fin 16 → EReal) (y : Fin 16 → Fin 32 → Fin 1024 → EReal)
    (j : Fin 1024) : EReal :=
  x j + g j * picked p (fun e s => y e s j)

/-- Equal data give equal rows. -/
theorem mixed_congr {x x' g g' : Fin 1024 → EReal} {p p' : Fin 16 → EReal} {y y' : Fin 16 → Fin 32 → Fin 1024 → EReal}
    (hx : x = x') (hg : g = g') (hp : p = p') (hy : y = y') : mixed x g p y = mixed x' g' p' y' := by
  rw [hx, hg, hp, hy]

section
variable (g : Vec Ideal S1x1x1024 .f32) (p : Vec Ideal S1x256x16 .f32) (y : Vec Ideal S16x32x1024 .bf16)
    (x : Vec Ideal S256x1024 .bf16) (f : Vec Ideal S1x1024 .f32) (i : Fin 256) (j : Fin 1024)

/-- What is stored for a token of the first request. -/
theorem req0_at : k0_pay7 (F := Ideal) (k0_pay4 g p y x) (k0_pay5 f) (k0_pay6 g p y x) (ix2 i j)
    = normed (mixed (fun j => x (ix2 i j)) (fun j => g (ix3 0 0 j)) (fun e => p (ix3 0 i e)) (fun e s j => y (ix3 e s j)))
        (fun j => f (ix2 0 j)) j := by
  pointwise [k0_pay7, k0_pay5, k0_pay6, pay4_at]
  rfl

/-- What is stored for a token of the second request. -/
theorem req1_at : k0_pay12 (F := Ideal) (k0_pay8 k0_pay1 k0_pay2 (k0_pay3 g) p y x) (k0_pay9 f)
      (k0_pay10 k0_pay1 k0_pay2 (k0_pay3 g) p y x) (k0_pay11 (F := Ideal)) (ix2 i j)
    = normed (mixed (fun j => x (ix2 i j)) (fun j => g (ix3 0 0 j)) (fun e => p (ix3 0 i e)) (fun e s j => y (ix3 e s j)))
        (fun j => f (ix2 0 j)) j := by
  pointwise [k0_pay12, k0_pay9, k0_pay10, k0_pay11, pay8_at]
  rfl

/-- What is stored for a token of the third request. -/
theorem req2_at : k0_pay16 (F := Ideal) (k0_pay13 k0_pay1 k0_pay2 (k0_pay3 g) p y x) (k0_pay14 f)
      (k0_pay15 k0_pay1 k0_pay2 (k0_pay3 g) p y x) (ix2 i j)
    = normed (mixed (fun j => x (ix2 i j)) (fun j => g (ix3 0 0 j)) (fun e => p (ix3 0 i e)) (fun e s j => y (ix3 e s j)))
        (fun j => f (ix2 0 j)) j := by
  pointwise [k0_pay16, k0_pay14, k0_pay15, pay13_at]
  rfl

/-- The fourth request's stored rows are the third's terms. -/
theorem req3_eq : k0_pay17 (F := Ideal) k0_pay1 k0_pay2 (k0_pay3 g) p y x f
    = k0_pay16 (k0_pay13 k0_pay1 k0_pay2 (k0_pay3 g) p y x) (k0_pay14 f) (k0_pay15 k0_pay1 k0_pay2 (k0_pay3 g) p y x) := rfl

end

/-- What a grid point stores: at row `i`, which is token `i % 256` of the point's request `i / 256`. -/
theorem out_at (x : Vec Ideal S1024x1024 .bf16) (p : Vec Ideal S4x256x16 .f32) (y : Vec Ideal S16x128x1024 .bf16)
    (md : Vec Ideal S1x6x1024 .f32) (f : Vec Ideal S1x1024 .f32) (i j : Fin 1024) :
    out0_5 (F := Ideal) x p y md f (ix2 i j)
      = normed (mixed (fun j => x (ix2 i j)) (fun j => md (ix3 0 5 j))
          (fun e => p (ix3 (⟨i.val / 256, by omega⟩ : Fin 4) (⟨i.val % 256, by omega⟩ : Fin 256) e))
          (fun e s j => y (ix3 e (⟨i.val / 256 * 32 + s.val, by omega⟩ : Fin 128) j)))
        (fun j => f (ix2 0 j)) j := by
  unfold_out out0_5
  rw [req3_eq]
  canon_tiles z h
  all_goals
    idx_vars z
    obtain rfl : j = z1 := Fin.ext h1
    first
      | refine (req0_at _ _ _ _ _ z0 j).trans ?_
      | refine (req1_at _ _ _ _ _ z0 j).trans ?_
      | refine (req2_at _ _ _ _ _ z0 j).trans ?_
    refine congrFun (congrArg₂ normed (mixed_congr (funext fun k => ?_) (funext fun k => ?_) (funext fun e => ?_)
      (funext fun e => funext fun s => funext fun k => ?_)) (funext fun k => ?_)) j
    all_goals
      pointwise
      blk_ext

end Cert.Kernel3Ideal.Value

namespace Cert.Reference3Ideal.Value
open Cert.Reference3Ideal Cert.Reference3Ideal.Gen Cert.Kernel3Ideal.Value

/-- The tokens with their experts' rows, as a term of the reference's arguments. -/
def tok (x : FVec Ideal S32x256x1024 .f32) (p : FVec Ideal S32x16x256 .f32) (y : FVec Ideal S32x16x32x1024 .f32)
    (md : FVec Ideal S8x6x1024 .f32) : FVec Ideal S32x256x1024 .f32 :=
  addf x (mulf (broadcastInDim S32x256x1024 ![0, 1, 2] bcast_S1x1x1024_S32x256x1024_0_1_2 (broadcastInDim S1x1x1024 ![2] bcast_S1024_S1x1x1024_2 (shapeCast _ (extractStridedSlice S1x1x1024 ![4, 5, 0] md slices_S8x6x1024_S1x1x1024_4_5_0) shapeCasts_S1x1x1024_S1024))) (Host.dotGeneral dot_S32x16x256x32_S32x16x32x1024_S32x256x1024_31_21_2_3_0_0 none (select (cmpf .oeq (broadcastInDim S32x16x256x32 ![0, 1, 2, 3] bcast_S32x16x256x1_S32x16x256x32_0_1_2_3 (broadcastInDim S32x16x256x1 ![0, 1, 2] bcast_S32x16x256_S32x16x256x1_0_1_2 p)) (broadcastInDim S32x16x256x32 ![0, 1, 2, 3] bcast_S1x1x1x32_S32x16x256x32_0_1_2_3 (broadcastInDim S1x1x1x32 ![3] bcast_S32_S1x1x1x32_3 (sitofp .f32 (iotaInDim S32 32 0))))) (broadcastInDim S32x16x256x32 ![] bcast_S_S32x16x256x32 (constant S_ .f32 0x3F800000#32)) (broadcastInDim S32x16x256x32 ![] bcast_S_S32x16x256x32 (constant S_ .f32 0x00000000#32))) y))

/-- A token's entry of that term. -/
theorem tok_at (x : FVec Ideal S32x256x1024 .f32) (p : FVec Ideal S32x16x256 .f32) (y : FVec Ideal S32x16x32x1024 .f32)
    (md : FVec Ideal S8x6x1024 .f32) (b : Fin 32) (t : Fin 256) (d : Fin 1024) :
    tok x p y md (ix3 b t d) = x (ix3 b t d) + md (ix3 4 5 d)
      * picked (fun e => p (ix3 b e t)) (fun e s => y (ix4 b e s d)) := by
  pointwise [tok]
  unfold picked
  rw [Finset.sum_comm]
  have h (s : Fin 32) : FloatOps.sitofp (F := Ideal) FTy.f32 (BitVec.ofNat 32 s.val) = ((s.val : ℝ) : EReal) := by
    show (((BitVec.ofNat 32 s.val).toInt : ℝ) : EReal) = _
    rw [slot_int]
    norm_cast
  simp only [h]

/-- The reference's result, as a term of its arguments. -/
def REF (x : FVec Ideal S32x256x1024 .f32) (p : FVec Ideal S32x16x256 .f32) (y : FVec Ideal S32x16x32x1024 .f32)
    (md : FVec Ideal S8x6x1024 .f32) (f : FVec Ideal S1024 .f32) : FVec Ideal S8192x1024 .f32 :=
  shapeCast _ (mulf (mulf (tok x p y md) (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf (tok x p y md) (tok x p y md)) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 f))) shapeCasts_S32x256x1024_S8192x1024

/-- The reference's result at a row and a column. -/
theorem REF_at (x : FVec Ideal S32x256x1024 .f32) (p : FVec Ideal S32x16x256 .f32) (y : FVec Ideal S32x16x32x1024 .f32)
    (md : FVec Ideal S8x6x1024 .f32) (f : FVec Ideal S1024 .f32) (r : Fin 8192) (j : Fin 1024) :
    REF x p y md f (ix2 r j)
      = normed (mixed (fun j => x (ix3 (⟨r.val / 256, by omega⟩ : Fin 32) (⟨r.val % 256, by omega⟩ : Fin 256) j)) (fun j => md (ix3 4 5 j))
          (fun e => p (ix3 (⟨r.val / 256, by omega⟩ : Fin 32) e (⟨r.val % 256, by omega⟩ : Fin 256)))
          (fun e s j => y (ix4 (⟨r.val / 256, by omega⟩ : Fin 32) e s j)))
        (fun j => f (ix1 j)) j := by
  pointwise [REF, tok_at]
  rfl

end Cert.Reference3Ideal.Value

namespace Cert.Kernel3Ideal.Value
open Cert.Kernel3Ideal Cert.Kernel3Ideal.Gen Cert.Reference3Ideal.Value

variable (m : (ℓ : Loc nD τ sig) → Buf (Elt Ideal) ℓ)

/-- The windows' block indices at a grid point. -/
theorem idx : ∀ t : Fin cfg0.N, win0_0.index t = ![t.val, 0] ∧ win0_1.index t = ![t.val, 0, 0] ∧ win0_2.index t = ![0, t.val, 0]
    ∧ win0_3.index t = ![4, 0, 0] ∧ win0_4.index t = ![0, 0] ∧ win0_5.index t = ![t.val, 0] :=
  (by decide +kernel : ∀ t : Fin grid0.N, _)

/-- A grid point's number. -/
def pt (t : Fin cfg0.N) : Fin 8 := ⟨t.val, t.isLt.trans_eq N_0⟩

/-- The tokens' block at a point: four requests' rows. -/
theorem blk_x (c : Dev nD) (t : Fin cfg0.N) (i k : Fin 1024) : iblk m c 0 t (ix2 i k)
    = m ((c : Thread nD τ).loc main_arg0) (ix3 (⟨(pt t).val * 4 + i.val / 256, by omega⟩ : Fin 32) (⟨i.val % 256, by omega⟩ : Fin 256) k) := by
  blk_simp [iblk]
  entry_read
  pointwise
  blk_ext [pt, idx t]

/-- The tokens' slots' block at a point. -/
theorem blk_p (c : Dev nD) (t : Fin cfg0.N) (b : Fin 4) (i : Fin 256) (e : Fin 16) : iblk m c 1 t (ix3 b i e)
    = m ((c : Thread nD τ).loc main_arg1) (ix3 (⟨(pt t).val * 4 + b.val, by omega⟩ : Fin 32) e i) := by
  blk_simp [iblk]
  entry_read
  pointwise
  blk_ext [pt, idx t]

/-- The experts' rows' block at a point: four requests' slots of every expert. -/
theorem blk_y (c : Dev nD) (t : Fin cfg0.N) (e : Fin 16) (s : Fin 128) (k : Fin 1024) : iblk m c 2 t (ix3 e s k)
    = m ((c : Thread nD τ).loc main_arg2) (ix4 (⟨(pt t).val * 4 + s.val / 32, by omega⟩ : Fin 32) e (⟨s.val % 32, by omega⟩ : Fin 32) k) := by
  blk_simp [iblk]
  entry_read
  pointwise
  blk_ext [pt, idx t]

/-- The modulation vectors' block is the context's row at every point. -/
theorem blk_md (c : Dev nD) (t : Fin cfg0.N) (r : Fin 6) (k : Fin 1024) : iblk m c 3 t (ix3 0 r k)
    = m ((c : Thread nD τ).loc main_arg3) (ix3 4 r k) := by
  blk_ext [iblk, V, idx t]

/-- The last scale's block is the scale at every point. -/
theorem blk_f (c : Dev nD) (t : Fin cfg0.N) (k : Fin 1024) : iblk m c 4 t (ix2 0 k)
    = m ((c : Thread nD τ).loc main_arg4) (ix1 k) := by
  blk_simp [iblk]
  entry_read
  pointwise
  blk_ext [idx t]

/-- The result array is the reference's term of the arguments. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  idx_vars y
  have he : ((View.whole main_v7).slice (win0_5.rect t)).emb (ix2 y0 y1) = ix2 (⟨(pt t).val * 1024 + y0.val, by omega⟩ : Fin 8192) y1 := by
    blk_ext [pt, idx t]
  refine Eq.trans ?_ (congrArg _ he.symm)
  refine (out_at _ _ _ _ _ y0 y1).trans (Eq.trans ?_ (REF_at _ _ _ _ _ _ _).symm)
  refine congrFun (congrArg₂ normed (mixed_congr (funext fun k => ?_) (funext fun k => ?_) (funext fun e => ?_)
    (funext fun e => funext fun s => funext fun k => ?_)) (funext fun k => ?_)) y1
  · refine (blk_x m c t y0 k).trans ?_
    blk_ext
  · exact blk_md m c t 5 k
  · refine (blk_p m c t _ _ e).trans ?_
    blk_ext
  · refine (blk_y m c t e _ k).trans ?_
    blk_ext
  · exact blk_f m c t k

end Cert.Kernel3Ideal.Value

end
-- ==== Proof.FrontValue.lean ====
module

public import proofs.«01_k».proof.Proof.Gen.Kernel4Ideal.Frame
public import proofs.«01_k».proof.Proof.Gen.Reference4Ideal.Run
public import Idealize.ShloMosaic.Lib.Pipeline.ValueKit
public import Idealize.ShloMosaic.Lib.Pointwise

/-!
# The context's first step: the latent keys and the rotary keys

A grid point takes four requests of 256 tokens. A token is normalised, modulated, and projected on the rows of the
transposed input matrix. Columns 256 to 383 of the projection, normalised, are the token's latent key, and columns 384
to 415 are its rotary key, which the kernel stores transposed. The kernel multiplies the norm's scale into the
modulation's factor first, the reference multiplies in the other order.
-/

@[expose] public section

set_option maxRecDepth 16384

noncomputable section

open Idealize.ShloMosaic Idealize.ShloMosaic.TcCoe Idealize.SL.Sem
open Idealize.ShloMosaic.Pipeline (Dat)

namespace Cert.Kernel4Ideal.Value
open Cert.Kernel4Ideal Cert.Kernel4Ideal.Gen

/-- A row normalised, scaled and shifted. -/
def modded (x g s b : Fin 1024 → EReal) (k : Fin 1024) : EReal :=
  x k * Ideal.rsqrt (Ideal.div (∑ i, x i * x i) (Ideal.ofBits .f32 0x44800000#32) + Ideal.ofBits .f32 0x358637BD#32) * (g k * (1 + s k)) + b k

/-- A normalised and modulated row's product with a row of weights. -/
def projd (x g s b w : Fin 1024 → EReal) : EReal := ∑ k, modded x g s b k * w k

/-- Equal data give equal products. -/
theorem projd_congr {x x' g g' s s' b b' w w' : Fin 1024 → EReal} (hx : x = x') (hg : g = g') (hs : s = s') (hb : b = b') (hw : w = w') :
    projd x g s b w = projd x' g' s' b' w' := by
  rw [hx, hg, hs, hb, hw]

/-- A latent key: the row of 128 products, normalised and scaled. -/
def latent (p f : Fin 128 → EReal) (j : Fin 128) : EReal :=
  p j * Ideal.rsqrt (Ideal.div (∑ i, p i * p i) (Ideal.ofBits .f32 0x43000000#32) + Ideal.ofBits .f32 0x358637BD#32) * f j

/-- The body's projection at a row and a column. -/
theorem pay2_at (x : Vec Ideal S1024x1024 .f32) (b s : Vec Ideal S1x1x1024 .f32) (g : Vec Ideal S1x1024 .f32)
    (w : Vec Ideal S1024x1024 .bf16) (i n : Fin 1024) : k0_pay2 (F := Ideal) x b s g w (ix2 i n)
      = projd (fun k => x (ix2 i k)) (fun k => g (ix2 0 k)) (fun k => s (ix3 0 0 k)) (fun k => b (ix3 0 0 k)) (fun k => w (ix2 n k)) := by
  pointwise [k0_pay2]
  rfl

/-- The stored latent key, from the projection. -/
theorem pay18_at (z : FVec Ideal S1024x1024 .f32) (f : Vec Ideal S1x128 .f32) (i : Fin 1024) (j : Fin 128) :
    k0_pay18 (F := Ideal) (k0_pay16 f) (k0_pay17 z) (ix2 i j)
      = latent (fun j => z (ix2 i (⟨256 + j.val, by omega⟩ : Fin 1024))) (fun j => f (ix2 0 j)) j := by
  pointwise [k0_pay18, k0_pay17, k0_pay16]
  rfl

section
variable (x0 : Vec Ideal S1024x1024 .f32) (x1 : Vec Ideal S1x6x1024 .f32) (x2 : Vec Ideal S1x1024 .f32) (x3 : Vec Ideal S1024x1024 .bf16)
  (x4 : Vec Ideal S1x256 .f32) (x5 : Vec Ideal S1024x256 .bf16) (x6 : Vec Ideal S1x128 .f32) (x7 : Vec Ideal S256x1024 .bf16)
  (x8 : Vec Ideal S512x128 .bf16) (x9 : Vec Ideal S512x512 .bf16) (x10 : Vec Ideal S256x1024 .f32) (x11 : Vec Ideal S1024x128 .f32)
  (x12 : Vec Ideal S256x256 .bf16) (x13 : Vec Ideal S256x256 .bf16) (x14 : Vec Ideal S1024x1024 .bf16) (x15 : Vec Ideal S1x1024 .f32)
  (x16 : Vec Ideal S16x1024 .bf16)

/-- The projection a grid point takes, at a row and a column. -/
theorem z_at (i n : Fin 1024) : k0_pay105 (F := Ideal) x0 x1 x2 x3 x4 x5 x6 x7 x8 x9 x10 x11 x12 x13 x14 x15 x16 (ix2 i n)
    = projd (fun k => x0 (ix2 i k)) (fun k => x2 (ix2 0 k)) (fun k => x1 (ix3 0 1 k)) (fun k => x1 (ix3 0 0 k)) (fun k => x3 (ix2 n k)) := by
  unfold k0_pay105
  refine (pay2_at _ _ _ _ _ i n).trans ?_
  pointwise
  done

/-- A grid point's stored latent keys. -/
theorem ckv_at (i : Fin 1024) (j : Fin 128) : out0_20 (F := Ideal) x0 x1 x2 x3 x4 x5 x6 x7 x8 x9 x10 x11 x12 x13 x14 x15 x16 (ix2 i j)
    = latent (fun j => projd (fun k => x0 (ix2 i k)) (fun k => x2 (ix2 0 k)) (fun k => x1 (ix3 0 1 k)) (fun k => x1 (ix3 0 0 k))
        (fun k => x3 (ix2 (⟨256 + j.val, by omega⟩ : Fin 1024) k))) (fun j => x6 (ix2 0 j)) j := by
  unfold out0_20 k0_pay118 k0_pay117
  canon_tiles y h
  idx_vars y
  obtain rfl : i = y0 := Fin.ext h0
  obtain rfl : j = y1 := Fin.ext h1
  refine (pay18_at _ _ i j).trans ?_
  simp only [z_at]
  pointwise
  done

/-- A grid point's stored rotary keys. -/
theorem kpe_at (b : Fin 4) (n : Fin 32) (t : Fin 256) : out0_21 (F := Ideal) x0 x1 x2 x3 x4 x5 x6 x7 x8 x9 x10 x11 x12 x13 x14 x15 x16 (ix3 b n t)
    = projd (fun k => x0 (ix2 (⟨b.val * 256 + t.val, by omega⟩ : Fin 1024) k)) (fun k => x2 (ix2 0 k)) (fun k => x1 (ix3 0 1 k)) (fun k => x1 (ix3 0 0 k))
        (fun k => x3 (ix2 (⟨384 + n.val, by omega⟩ : Fin 1024) k)) := by
  refine Eq.trans ?_ (z_at x0 x1 x2 x3 x4 x5 x6 x7 x8 x9 x10 x11 x12 x13 x14 x15 x16 _ _)
  unfold out0_21 k0_pay123
  canon_tiles y h
  all_goals
    idx_vars y
    obtain rfl : n = y1 := Fin.ext h1
    obtain rfl : t = y2 := Fin.ext h2
    pointwise [k0_pay32, k0_pay31, k0_pay30, k0_pay29, k0_pay28, k0_pay27]
    blk_ext

end

end Cert.Kernel4Ideal.Value

namespace Cert.Reference4Ideal.Value
open Cert.Reference4Ideal Cert.Reference4Ideal.Gen Cert.Kernel4Ideal.Value

/-- The normalised and modulated tokens, as a term of the reference's arguments. -/
def hid (x : FVec Ideal S32x256x1024 .f32) (md : FVec Ideal S8x6x1024 .f32) (g : FVec Ideal S1024 .f32) : FVec Ideal S32x256x1024 .f32 :=
  addf (mulf (mulf (mulf x (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf x x) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 g))) (broadcastInDim S32x256x1024 ![0, 1, 2] bcast_S1x1x1024_S32x256x1024_0_1_2 (broadcastInDim S1x1x1024 ![2] bcast_S1024_S1x1x1024_2 (addf (broadcastInDim S1024 ![] bcast_S_S1024 (constant S_ .f32 0x3F800000#32)) (shapeCast _ (extractStridedSlice S1x1x1024 ![4, 1, 0] md slices_S8x6x1024_S1x1x1024_4_1_0) shapeCasts_S1x1x1024_S1024))))) (broadcastInDim S32x256x1024 ![0, 1, 2] bcast_S1x1x1024_S32x256x1024_0_1_2 (broadcastInDim S1x1x1024 ![2] bcast_S1024_S1x1x1024_2 (shapeCast _ (extractStridedSlice S1x1x1024 ![4, 0, 0] md slices_S8x6x1024_S1x1x1024_4_0_0) shapeCasts_S1x1x1024_S1024)))

/-- The projected tokens. -/
def proj (x : FVec Ideal S32x256x1024 .f32) (md : FVec Ideal S8x6x1024 .f32) (g : FVec Ideal S1024 .f32) (w : FVec Ideal S1024x928 .f32) :
    FVec Ideal S32x256x928 .f32 :=
  Host.dotGeneral dot_S32x256x1024_S1024x928_S32x256x928_2_0_01_1_n_n none (hid x md g) w

/-- The reference's latent keys. -/
def REFckv (x : FVec Ideal S32x256x1024 .f32) (md : FVec Ideal S8x6x1024 .f32) (g : FVec Ideal S1024 .f32) (w : FVec Ideal S1024x928 .f32)
    (kg : FVec Ideal S128 .f32) : FVec Ideal S8192x128 .f32 :=
  shapeCast _ (mulf (mulf (extractStridedSlice S32x256x128 ![0, 0, 256] (proj x md g w) slices_S32x256x928_S32x256x128_0_0_256) (broadcastInDim S32x256x128 ![0, 1, 2] bcast_S32x256x1_S32x256x128_0_1_2 (Host.rsqrt (addf (Host.divf (broadcastInDim S32x256x1 ![0, 1] bcast_S32x256_S32x256x1_0_1 (Host.reduceAdd (mulf (extractStridedSlice S32x256x128 ![0, 0, 256] (proj x md g w) slices_S32x256x928_S32x256x128_0_0_256) (extractStridedSlice S32x256x128 ![0, 0, 256] (proj x md g w) slices_S32x256x928_S32x256x128_0_0_256)) (constant S_ .f32 0x00000000#32) reducesTo_S32x256x128_S32x256_d2 h_S_)) (broadcastInDim S32x256x1 ![] bcast_S_S32x256x1 (constant S_ .f32 0x43000000#32))) (broadcastInDim S32x256x1 ![] bcast_S_S32x256x1 (constant S_ .f32 0x358637BD#32)))))) (broadcastInDim S32x256x128 ![0, 1, 2] bcast_S1x1x128_S32x256x128_0_1_2 (broadcastInDim S1x1x128 ![2] bcast_S128_S1x1x128_2 kg))) shapeCasts_S32x256x128_S8192x128

/-- The reference's rotary keys. -/
def REFkpe (x : FVec Ideal S32x256x1024 .f32) (md : FVec Ideal S8x6x1024 .f32) (g : FVec Ideal S1024 .f32) (w : FVec Ideal S1024x928 .f32) :
    FVec Ideal S32x32x256 .f32 :=
  transpose S32x32x256 [0, 2, 1] (extractStridedSlice S32x256x32 ![0, 0, 384] (proj x md g w) slices_S32x256x928_S32x256x32_0_0_384) transposes_S32x256x32_S32x32x256_0_2_1

variable (x : FVec Ideal S32x256x1024 .f32) (md : FVec Ideal S8x6x1024 .f32) (g : FVec Ideal S1024 .f32) (w : FVec Ideal S1024x928 .f32)
  (kg : FVec Ideal S128 .f32)

/-- A normalised and modulated token's entry. -/
theorem hid_at (b : Fin 32) (t : Fin 256) (k : Fin 1024) : hid x md g (ix3 b t k)
    = modded (fun k => x (ix3 b t k)) (fun k => g (ix1 k)) (fun k => md (ix3 4 1 k)) (fun k => md (ix3 4 0 k)) k := by
  pointwise [hid]
  unfold modded
  rw [← mul_assoc]

/-- A projected token's entry. -/
theorem proj_at (b : Fin 32) (t : Fin 256) (n : Fin 928) : proj x md g w (ix3 b t n)
    = projd (fun k => x (ix3 b t k)) (fun k => g (ix1 k)) (fun k => md (ix3 4 1 k)) (fun k => md (ix3 4 0 k)) (fun k => w (ix2 k n)) := by
  pointwise [proj, hid_at]
  rfl

/-- The reference's latent keys at a row and a column. -/
theorem REFckv_at (r : Fin 8192) (j : Fin 128) : REFckv x md g w kg (ix2 r j)
    = latent (fun j => projd (fun k => x (ix3 (⟨r.val / 256, by omega⟩ : Fin 32) (⟨r.val % 256, by omega⟩ : Fin 256) k)) (fun k => g (ix1 k))
        (fun k => md (ix3 4 1 k)) (fun k => md (ix3 4 0 k)) (fun k => w (ix2 k (⟨256 + j.val, by omega⟩ : Fin 928)))) (fun j => kg (ix1 j)) j := by
  pointwise [REFckv, proj_at]
  rfl

/-- The reference's rotary keys at a request, a column and a token. -/
theorem REFkpe_at (b : Fin 32) (n : Fin 32) (t : Fin 256) : REFkpe x md g w (ix3 b n t)
    = projd (fun k => x (ix3 b t k)) (fun k => g (ix1 k)) (fun k => md (ix3 4 1 k)) (fun k => md (ix3 4 0 k))
        (fun k => w (ix2 k (⟨384 + n.val, by omega⟩ : Fin 928))) := by
  pointwise [REFkpe, proj_at]
  done

end Cert.Reference4Ideal.Value

namespace Cert.Kernel4Ideal.Value
open Cert.Kernel4Ideal Cert.Kernel4Ideal.Gen Cert.Reference4Ideal.Value

variable (m : (ℓ : Loc nD τ sig) → Buf (Elt Ideal) ℓ)

/-- The windows' block indices at a grid point. -/
theorem idx : ∀ t : Fin cfg0.N, win0_0.index t = ![t.val, 0] ∧ win0_1.index t = ![4, 0, 0] ∧ win0_2.index t = ![0, 0]
    ∧ win0_3.index t = ![0, 0] ∧ win0_6.index t = ![0, 0] ∧ win0_20.index t = ![t.val, 0] ∧ win0_21.index t = ![t.val, 0, 0] :=
  (by decide +kernel : ∀ t : Fin grid0.N, _)

/-- A grid point's number. -/
def pt (t : Fin cfg0.N) : Fin 8 := ⟨t.val, t.isLt.trans_eq N_0⟩

/-- The weights' operand, as a term of the input matrix. -/
def layW (w : FVec Ideal S1024x928 .f32) : FVec Ideal S1024x1024 .bf16 :=
  truncf .bf16 (concatenate S1024x1024 0
    [⟨S416x1024, extractStridedSlice S416x1024 ![0, 0] (transpose S928x1024 [1, 0] w transposes_S1024x928_S928x1024_1_0) slices_S928x1024_S416x1024_0_0⟩,
     ⟨S16x1024, Host.negf (extractStridedSlice S16x1024 ![400, 0] (transpose S928x1024 [1, 0] w transposes_S1024x928_S928x1024_1_0) slices_S928x1024_S16x1024_400_0)⟩,
     ⟨S16x1024, extractStridedSlice S16x1024 ![384, 0] (transpose S928x1024 [1, 0] w transposes_S1024x928_S928x1024_1_0) slices_S928x1024_S16x1024_384_0⟩,
     ⟨S64x1024, broadcastInDim S64x1024 ![] bcast_S_S64x1024 (constant S_ .f32 0x00000000#32)⟩,
     ⟨S512x1024, extractStridedSlice S512x1024 ![416, 0] (transpose S928x1024 [1, 0] w transposes_S1024x928_S928x1024_1_0) slices_S928x1024_S512x1024_416_0⟩]
    concatenates_S416x1024_S16x1024_S16x1024_S64x1024_S512x1024_S1024x1024_d0) bitsLt_bf16_f32

set_option maxHeartbeats 2000000 in
/-- The weights' operand when the calls start. -/
theorem V_w (c : Dev nD) : V m c main_v8 = layW (m ((c : Thread nD τ).loc main_arg3)) := by
  unfold V
  simp only [hostOps0, hostOps0_1, hostOps0_2, hostOps0_3, hostOps0_4, List.flatten_cons, List.flatten_nil, List.append_nil,
    List.cons_append, List.nil_append]
  after_results_simp <;> rfl

set_option maxHeartbeats 2000000 in
/-- The tokens' operand when the calls start. -/
theorem V_x (c : Dev nD) : V m c main_v140 = shapeCast S8192x1024 (m ((c : Thread nD τ).loc main_arg0)) shapeCasts_S32x256x1024_S8192x1024 := by
  unfold V
  simp only [hostOps0, hostOps0_1, hostOps0_2, hostOps0_3, hostOps0_4, List.flatten_cons, List.flatten_nil, List.append_nil,
    List.cons_append, List.nil_append]
  after_results_simp <;> rfl

set_option maxHeartbeats 2000000 in
/-- The first scale's operand when the calls start. -/
theorem V_g (c : Dev nD) : V m c main_v141 = broadcastInDim S1x1024 ![1] bcast_S1024_S1x1024_1 (m ((c : Thread nD τ).loc main_arg2)) := by
  unfold V
  simp only [hostOps0, hostOps0_1, hostOps0_2, hostOps0_3, hostOps0_4, List.flatten_cons, List.flatten_nil, List.append_nil,
    List.cons_append, List.nil_append]
  after_results_simp <;> rfl

set_option maxHeartbeats 2000000 in
/-- The latent keys' scale's operand when the calls start. -/
theorem V_kg (c : Dev nD) : V m c main_v143 = broadcastInDim S1x128 ![1] bcast_S128_S1x128_1 (m ((c : Thread nD τ).loc main_arg6)) := by
  unfold V
  simp only [hostOps0, hostOps0_1, hostOps0_2, hostOps0_3, hostOps0_4, List.flatten_cons, List.flatten_nil, List.append_nil,
    List.cons_append, List.nil_append]
  after_results_simp <;> rfl

/-- A row of the first piece of the weights' operand. -/
theorem first_piece (a : FVec Ideal S416x1024 .f32) (b d : FVec Ideal S16x1024 .f32) (e : FVec Ideal S64x1024 .f32) (f : FVec Ideal S512x1024 .f32)
    (n : Fin 416) (k : Fin 1024) : concatenate S1024x1024 0 [⟨S416x1024, a⟩, ⟨S16x1024, b⟩, ⟨S16x1024, d⟩, ⟨S64x1024, e⟩, ⟨S512x1024, f⟩]
      concatenates_S416x1024_S16x1024_S16x1024_S64x1024_S512x1024_S1024x1024_d0 (ix2 (⟨n.val, by omega⟩ : Fin 1024) k) = a (ix2 n k) := by
  refine concatenate_apply_piece (t := S1024x1024) 0 [⟨S416x1024, a⟩, ⟨S16x1024, b⟩, ⟨S16x1024, d⟩, ⟨S64x1024, e⟩, ⟨S512x1024, f⟩]
    concatenates_S416x1024_S16x1024_S16x1024_S64x1024_S512x1024_S1024x1024_d0 (ix2 (⟨n.val, by omega⟩ : Fin 1024) k) 0 (Nat.zero_lt_succ _)
    S416x1024 a rfl rfl 0 rfl (ix2 n k) ?_ ?_
  · intro b hb
    match b, hb with
    | ⟨0, _⟩, hb => exact absurd rfl hb
    | ⟨1, _⟩, _ => rfl
  · exact Nat.zero_add _

/-- A row of the weights' operand among the first 416 is a column of the input matrix. -/
theorem layW_at (w : FVec Ideal S1024x928 .f32) (n : Fin 416) (k : Fin 1024) :
    layW w (ix2 (⟨n.val, by omega⟩ : Fin 1024) k) = w (ix2 k (⟨n.val, by omega⟩ : Fin 928)) := by
  refine (first_piece _ _ _ _ _ n k).trans ?_
  pointwise

/-- A row of the tokens laid out request by request. -/
theorem rows_at (x : FVec Ideal S32x256x1024 .f32) (r : Fin 8192) (k : Fin 1024) : shapeCast S8192x1024 x shapeCasts_S32x256x1024_S8192x1024 (ix2 r k)
    = x (ix3 (⟨r.val / 256, by omega⟩ : Fin 32) (⟨r.val % 256, by omega⟩ : Fin 256) k) := by
  pointwise

/-- The tokens' block at a point: four requests' rows. -/
theorem blk_x (c : Dev nD) (t : Fin cfg0.N) (i k : Fin 1024) : iblk m c 0 t (ix2 i k)
    = m ((c : Thread nD τ).loc main_arg0) (ix3 (⟨(pt t).val * 4 + i.val / 256, by omega⟩ : Fin 32) (⟨i.val % 256, by omega⟩ : Fin 256) k) := by
  refine Eq.trans (b := V m c main_v140 (ix2 (⟨(pt t).val * 1024 + i.val, by omega⟩ : Fin 8192) k)) (by blk_ext [iblk, pt, idx t]) ?_
  rw [V_x m c]
  refine (rows_at _ _ k).trans ?_
  blk_ext

/-- The modulation vectors' block is the context's row at every point. -/
theorem blk_md (c : Dev nD) (t : Fin cfg0.N) (r : Fin 6) (k : Fin 1024) : iblk m c 1 t (ix3 0 r k)
    = m ((c : Thread nD τ).loc main_arg1) (ix3 4 r k) := by
  blk_ext [iblk, V, idx t]

/-- The first norm's scale at every point. -/
theorem blk_g (c : Dev nD) (t : Fin cfg0.N) (k : Fin 1024) : iblk m c 2 t (ix2 0 k) = m ((c : Thread nD τ).loc main_arg2) (ix1 k) := by
  refine Eq.trans (b := V m c main_v141 _) (by blk_simp [iblk]; rfl) ?_
  rw [V_g m c]
  pointwise
  blk_ext [pt, idx t]

/-- The latent keys' scale at every point. -/
theorem blk_kg (c : Dev nD) (t : Fin cfg0.N) (k : Fin 128) : iblk m c 6 t (ix2 0 k) = m ((c : Thread nD τ).loc main_arg6) (ix1 k) := by
  refine Eq.trans (b := V m c main_v143 _) (by blk_simp [iblk]; rfl) ?_
  rw [V_kg m c]
  pointwise
  blk_ext [pt, idx t]

/-- The weights' block: its first 416 rows are the input matrix's columns. -/
theorem blk_w (c : Dev nD) (t : Fin cfg0.N) (n : Fin 416) (k : Fin 1024) : iblk m c 3 t (ix2 (⟨n.val, by omega⟩ : Fin 1024) k)
    = m ((c : Thread nD τ).loc main_arg3) (ix2 k (⟨n.val, by omega⟩ : Fin 928)) := by
  refine Eq.trans ?_ (layW_at (m ((c : Thread nD τ).loc main_arg3)) n k)
  rw [← V_w m c]
  blk_ext [iblk, idx t]

/-- The latent keys' result array is the reference's term of the arguments. -/
theorem final_ckv (c : Dev nD) : (dats m 0 c).arrAt 20 (cfgs 0).N
    = REFckv (m ((c : Thread nD τ).loc main_arg0)) (m ((c : Thread nD τ).loc main_arg1)) (m ((c : Thread nD τ).loc main_arg2))
        (m ((c : Thread nD τ).loc main_arg3)) (m ((c : Thread nD τ).loc main_arg6)) := by
  refine (dats m 0 c).arrAt_eq_of_covers 20 _ (by decide +kernel) fun t _ y => ?_
  blk_simp
  rw [after0_20]
  idx_vars y
  have he : ((View.whole main_v150_3).slice (win0_20.rect t)).emb (ix2 y0 y1) = ix2 (⟨(pt t).val * 1024 + y0.val, by omega⟩ : Fin 8192) y1 := by
    blk_ext [pt, idx t]
  refine Eq.trans ?_ (congrArg _ he.symm)
  refine (ckv_at _ _ _ _ _ _ _ _ _ _ _ _ _ _ _ _ _ y0 y1).trans (Eq.trans ?_ (REFckv_at _ _ _ _ _ _ _).symm)
  refine congrFun (congrArg₂ latent (funext fun j => projd_congr (funext fun k => ?_) (funext fun k => ?_) (funext fun k => ?_)
    (funext fun k => ?_) (funext fun k => ?_)) (funext fun k => ?_)) y1
  · refine (blk_x m c t y0 k).trans ?_
    blk_ext
  · exact blk_g m c t k
  · exact blk_md m c t 1 k
  · exact blk_md m c t 0 k
  · exact blk_w m c t ⟨256 + j.val, by omega⟩ k
  · exact blk_kg m c t k

/-- The rotary keys' result array is the reference's term of the arguments. -/
theorem final_kpe (c : Dev nD) : (dats m 0 c).arrAt 21 (cfgs 0).N
    = REFkpe (m ((c : Thread nD τ).loc main_arg0)) (m ((c : Thread nD τ).loc main_arg1)) (m ((c : Thread nD τ).loc main_arg2))
        (m ((c : Thread nD τ).loc main_arg3)) := by
  refine (dats m 0 c).arrAt_eq_of_covers 21 _ (by decide +kernel) fun t _ y => ?_
  blk_simp
  rw [after0_21]
  idx_vars y
  have he : ((View.whole main_v150_4).slice (win0_21.rect t)).emb (ix3 y0 y1 y2) = ix3 (⟨(pt t).val * 4 + y0.val, by omega⟩ : Fin 32) y1 y2 := by
    blk_ext [pt, idx t]
  refine Eq.trans ?_ (congrArg _ he.symm)
  refine (kpe_at _ _ _ _ _ _ _ _ _ _ _ _ _ _ _ _ _ y0 y1 y2).trans (Eq.trans ?_ (REFkpe_at _ _ _ _ _ _ _).symm)
  refine projd_congr (funext fun k => ?_) (funext fun k => ?_) (funext fun k => ?_) (funext fun k => ?_) (funext fun k => ?_)
  · refine (blk_x m c t _ k).trans ?_
    blk_ext
  · exact blk_g m c t k
  · exact blk_md m c t 1 k
  · exact blk_md m c t 0 k
  · exact blk_w m c t ⟨384 + y1.val, by omega⟩ k

end Cert.Kernel4Ideal.Value

end
-- ==== Proof.ModsValue.lean ====
module

public import proofs.«01_k».proof.Proof.Gen.Kernel5Ideal.Frame
public import proofs.«01_k».proof.Proof.Gen.Reference5Ideal.Run
public import Idealize.ShloMosaic.Lib.Pipeline.ValueKit
public import Idealize.ShloMosaic.Lib.Pointwise

/-!
# The modulation vectors: what the kernel's result array holds

A grid point takes 1536 columns. The conditioning rows, times their logistic function, are multiplied by the columns of
the weights, and the offsets are added.
-/

@[expose] public section

set_option maxRecDepth 16384

noncomputable section

open Idealize.ShloMosaic Idealize.ShloMosaic.TcCoe Idealize.SL.Sem
open Idealize.ShloMosaic.Pipeline (Dat)

namespace Cert.Reference5Ideal.Value
open Cert.Reference5Ideal Cert.Reference5Ideal.Gen

/-- The conditioning rows: the requests', the context's, and three of zeros. -/
def rows (x : FVec Ideal S4x1024 .f32) (z : FVec Ideal S1024 .f32) : FVec Ideal S8x1024 .f32 :=
  (concatenate S8x1024 0 [⟨S4x1024, (x : (⟨S4x1024, .f32⟩ : BufTy).Contents (Elt Ideal))⟩, ⟨S1x1024, ((broadcastInDim S1x1024 ![1] bcast_S1024_S1x1024_1 z) : (⟨S1x1024, .f32⟩ : BufTy).Contents (Elt Ideal))⟩, ⟨S3x1024, ((broadcastInDim S3x1024 ![] bcast_S_S3x1024 (constant S_ .f32 0x00000000#32 : FVec Ideal S_ .f32)) : (⟨S3x1024, .f32⟩ : BufTy).Contents (Elt Ideal))⟩] concatenates_S4x1024_S1x1024_S3x1024_S8x1024_d0 : (⟨S8x1024, .f32⟩ : BufTy).Contents (Elt Ideal))

/-- The reference's result, as a term of its arguments. -/
def REF (x : FVec Ideal S4x1024 .f32) (z : FVec Ideal S1024 .f32) (w : FVec Ideal S1024x6144 .f32) (b : FVec Ideal S6144 .f32) :
    FVec Ideal S8x6144 .f32 :=
  addf (Host.dotGeneral dot_S8x1024_S1024x6144_S8x6144_1_0_0_1_n_n none (mulf ((rows x z)) (Host.divf (broadcastInDim S8x1024 ![] bcast_S_S8x1024 (constant S_ .f32 0x3F800000#32)) (addf (broadcastInDim S8x1024 ![] bcast_S_S8x1024 (constant S_ .f32 0x3F800000#32)) (Host.exp (Host.negf ((rows x z))))))) w) (broadcastInDim S8x6144 ![0, 1] bcast_S1x6144_S8x6144_0_1 (broadcastInDim S1x6144 ![1] bcast_S6144_S1x6144_1 b))

/-- A number times its logistic function. -/
def silu (x : EReal) : EReal := x * Ideal.logistic x

/-- The reference's result from rows, at a row and a column. -/
theorem REF_at (x : FVec Ideal S4x1024 .f32) (z : FVec Ideal S1024 .f32) (w : FVec Ideal S1024x6144 .f32) (b : FVec Ideal S6144 .f32)
    (i : Fin 8) (n : Fin 6144) : REF x z w b (ix2 i n) = (∑ k : Fin 1024, silu (rows x z (ix2 i k)) * w (ix2 k n)) + b (ix1 n) := by
  unfold REF
  generalize rows x z = r
  pointwise
  rfl

end Cert.Reference5Ideal.Value

namespace Cert.Kernel5Ideal.Value
open Cert.Kernel5Ideal Cert.Kernel5Ideal.Gen Cert.Reference5Ideal.Value

/-- What a grid point stores. -/
theorem out_at (x : Vec Ideal S8x1024 .f32) (w : Vec Ideal S1024x1536 .f32) (b : Vec Ideal S1x1536 .f32) (i : Fin 8) (n : Fin 1536) :
    out0_3 (F := Ideal) x w b (ix2 i n) = (∑ k : Fin 1024, silu (x (ix2 i k)) * w (ix2 k n)) + b (ix2 0 n) := by
  unfold out0_3
  canon_tiles z h
  idx_vars z
  obtain rfl : i = z0 := Fin.ext h0
  obtain rfl : n = z1 := Fin.ext h1
  pointwise [k0_pay1]
  rfl

variable (m : (ℓ : Loc nD τ sig) → Buf (Elt Ideal) ℓ)

/-- The windows' block indices at a grid point. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- A grid point's number. -/
def pt (t : Fin cfg0.N) : Fin 4 := ⟨t.val, t.isLt.trans_eq N_0⟩

set_option maxHeartbeats 2000000 in
/-- The conditioning rows when the call starts. -/
theorem V_rows (c : Dev nD) : V m c main_v2 = rows (m ((c : Thread nD τ).loc main_arg0)) (m ((c : Thread nD τ).loc main_arg1)) := by
  unfold V
  simp only [hostOps0]
  after_results_simp <;> rfl

/-- The conditioning rows' block is all of them at every point. -/
theorem blk_x (c : Dev nD) (t : Fin cfg0.N) (i : Fin 8) (k : Fin 1024) : iblk m c 0 t (ix2 i k)
    = rows (m ((c : Thread nD τ).loc main_arg0)) (m ((c : Thread nD τ).loc main_arg1)) (ix2 i k) := by
  rw [← V_rows m c]
  blk_ext [iblk, idx t]

/-- The weights' block at a point: 1536 columns. -/
theorem blk_w (c : Dev nD) (t : Fin cfg0.N) (k : Fin 1024) (n : Fin 1536) : iblk m c 1 t (ix2 k n)
    = m ((c : Thread nD τ).loc main_arg2) (ix2 k (⟨(pt t).val * 1536 + n.val, by omega⟩ : Fin 6144)) := by
  blk_ext [iblk, V, pt, idx t]

/-- The offsets' block at a point. -/
theorem blk_b (c : Dev nD) (t : Fin cfg0.N) (n : Fin 1536) : iblk m c 2 t (ix2 0 n)
    = m ((c : Thread nD τ).loc main_arg3) (ix1 (⟨(pt t).val * 1536 + n.val, by omega⟩ : Fin 6144)) := by
  blk_simp [iblk]
  entry_read
  pointwise
  blk_ext [pt, idx t]

/-- The result array is the reference's term of the arguments. -/
theorem final (c : Dev nD) : (dats m 0 c).arrAt 3 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 3 _ (by decide +kernel) fun t _ y => ?_
  blk_simp
  rw [after0_3]
  idx_vars y
  have he : ((View.whole main_v4).slice (win0_3.rect t)).emb (ix2 y0 y1) = ix2 y0 (⟨(pt t).val * 1536 + y1.val, by omega⟩ : Fin 6144) := by
    blk_ext [pt, idx t]
  refine Eq.trans ?_ (congrArg _ he.symm)
  refine (out_at _ _ _ y0 y1).trans (Eq.trans ?_ (REF_at _ _ _ _ _ _).symm)
  refine congrArg₂ (· + ·) (Finset.sum_congr rfl fun k _ => congrArg₂ (fun p q => silu p * q) ?_ ?_) ?_
  · exact blk_x m c t y0 k
  · exact blk_w m c t k y1
  · exact blk_b m c t y1

end Cert.Kernel5Ideal.Value

end
-- ==== Proof.PremixRef.lean ====
module

public import proofs.«01_k».proof.Proof.FrontValue
public import proofs.«01_k».proof.Proof.Gen.Reference6Ideal.Run
public import Idealize.ShloMosaic.Lib.Pointwise

/-!
# The latent tokens' queries, keys and values: the reference at an entry

The three results as terms of the arguments, step by step, and what they hold at an index.
-/

@[expose] public section

set_option maxRecDepth 16384

noncomputable section

open Idealize.ShloMosaic Idealize.ShloMosaic.TcCoe Idealize.SL.Sem

namespace Cert.Reference6Ideal.Value
open Cert.Reference6Ideal Cert.Reference6Ideal.Gen
open Cert.Kernel4Ideal.Value (modded projd latent)

/-- The projected tokens. -/
def proj (x : FVec Ideal S4x2048x1024 .f32) (md : FVec Ideal S8x6x1024 .f32) (g : FVec Ideal S1024 .f32) (w : FVec Ideal S1024x928 .f32) : FVec Ideal S4x2048x928 .f32 :=
  (Host.dotGeneral dot_S4x2048x1024_S1024x928_S4x2048x928_2_0_01_1_n_n none (addf (mulf (mulf (mulf x (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf x x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 g))) (broadcastInDim S4x2048x1024 ![0, 1, 2] bcast_S4x1x1024_S4x2048x1024_0_1_2 (addf (broadcastInDim S4x1x1024 ![] bcast_S_S4x1x1024 (constant S_ .f32 0x3F800000#32)) (broadcastInDim S4x1x1024 ![0, 2] bcast_S4x1024_S4x1x1024_0_2 (shapeCast S4x1024 ((extractStridedSlice S4x1x1024 ![0, 1, 0] md slices_S8x6x1024_S4x1x1024_0_1_0)) shapeCasts_S4x1x1024_S4x1024))))) (broadcastInDim S4x2048x1024 ![0, 1, 2] bcast_S4x1x1024_S4x2048x1024_0_1_2 (broadcastInDim S4x1x1024 ![0, 2] bcast_S4x1024_S4x1x1024_0_2 (shapeCast S4x1024 ((extractStridedSlice S4x1x1024 ![0, 0, 0] md slices_S8x6x1024_S4x1x1024_0_0_0)) shapeCasts_S4x1x1024_S4x1024)))) w)

/-- The normalised query latents. -/
def qn (p : FVec Ideal S4x2048x928 .f32) (qg : FVec Ideal S256 .f32) : FVec Ideal S4x2048x256 .f32 :=
  (mulf (mulf ((extractStridedSlice S4x2048x256 ![0, 0, 0] p slices_S4x2048x928_S4x2048x256_0_0_0)) (broadcastInDim S4x2048x256 ![0, 1, 2] bcast_S4x2048x1_S4x2048x256_0_1_2 (Host.rsqrt (addf (Host.divf (broadcastInDim S4x2048x1 ![0, 1] bcast_S4x2048_S4x2048x1_0_1 (Host.reduceAdd (mulf ((extractStridedSlice S4x2048x256 ![0, 0, 0] p slices_S4x2048x928_S4x2048x256_0_0_0)) ((extractStridedSlice S4x2048x256 ![0, 0, 0] p slices_S4x2048x928_S4x2048x256_0_0_0))) (constant S_ .f32 0x00000000#32) reducesTo_S4x2048x256_S4x2048_d2 h_S_)) (broadcastInDim S4x2048x1 ![] bcast_S_S4x2048x1 (constant S_ .f32 0x43800000#32))) (broadcastInDim S4x2048x1 ![] bcast_S_S4x2048x1 (constant S_ .f32 0x358637BD#32)))))) (broadcastInDim S4x2048x256 ![0, 1, 2] bcast_S1x1x256_S4x2048x256_0_1_2 (broadcastInDim S1x1x256 ![2] bcast_S256_S1x1x256_2 qg)))

/-- The queries, head by head. -/
def qh (q : FVec Ideal S4x2048x256 .f32) (uq : FVec Ideal S256x768 .f32) : FVec Ideal S4x2048x8x96 .f32 :=
  (shapeCast S4x2048x8x96 (Host.dotGeneral dot_S4x2048x256_S256x768_S4x2048x768_2_0_01_1_n_n none q uq) shapeCasts_S4x2048x768_S4x2048x8x96)

/-- The latent keys. -/
def lat (p : FVec Ideal S4x2048x928 .f32) (kg : FVec Ideal S128 .f32) : FVec Ideal S4x2048x128 .f32 :=
  (mulf (mulf ((extractStridedSlice S4x2048x128 ![0, 0, 256] p slices_S4x2048x928_S4x2048x128_0_0_256)) (broadcastInDim S4x2048x128 ![0, 1, 2] bcast_S4x2048x1_S4x2048x128_0_1_2 (Host.rsqrt (addf (Host.divf (broadcastInDim S4x2048x1 ![0, 1] bcast_S4x2048_S4x2048x1_0_1 (Host.reduceAdd (mulf ((extractStridedSlice S4x2048x128 ![0, 0, 256] p slices_S4x2048x928_S4x2048x128_0_0_256)) ((extractStridedSlice S4x2048x128 ![0, 0, 256] p slices_S4x2048x928_S4x2048x128_0_0_256))) (constant S_ .f32 0x00000000#32) reducesTo_S4x2048x128_S4x2048_d2 h_S_)) (broadcastInDim S4x2048x1 ![] bcast_S_S4x2048x1 (constant S_ .f32 0x43000000#32))) (broadcastInDim S4x2048x1 ![] bcast_S_S4x2048x1 (constant S_ .f32 0x358637BD#32)))))) (broadcastInDim S4x2048x128 ![0, 1, 2] bcast_S1x1x128_S4x2048x128_0_1_2 (broadcastInDim S1x1x128 ![2] bcast_S128_S1x1x128_2 kg)))

/-- The keys and values, head by head. -/
def kvh (l : FVec Ideal S4x2048x128 .f32) (ukv : FVec Ideal S128x1024 .f32) : FVec Ideal S4x2048x8x128 .f32 :=
  (shapeCast S4x2048x8x128 (Host.dotGeneral dot_S4x2048x128_S128x1024_S4x2048x1024_2_0_01_1_n_n none l ukv) shapeCasts_S4x2048x1024_S4x2048x8x128)

/-- The rotated part of the queries. -/
def rotq (q : FVec Ideal S4x2048x8x96 .f32) (ang : FVec Ideal S2048x16 .f32) : FVec Ideal S4x2048x8x32 .f32 :=
  (concatenate S4x2048x8x32 3 [⟨S4x2048x8x16, (subf (mulf ((extractStridedSlice S4x2048x8x16 ![0, 0, 0, 0] ((extractStridedSlice S4x2048x8x32 ![0, 0, 0, 64] q slices_S4x2048x8x96_S4x2048x8x32_0_0_0_64)) slices_S4x2048x8x32_S4x2048x8x16_0_0_0_0)) (broadcastInDim S4x2048x8x16 ![0, 1, 2, 3] bcast_S1x2048x1x16_S4x2048x8x16_0_1_2_3 (broadcastInDim S1x2048x1x16 ![1, 2, 3] bcast_S2048x1x16_S1x2048x1x16_1_2_3 (broadcastInDim S2048x1x16 ![0, 2] bcast_S2048x16_S2048x1x16_0_2 (Host.cos ang))))) (mulf ((extractStridedSlice S4x2048x8x16 ![0, 0, 0, 16] ((extractStridedSlice S4x2048x8x32 ![0, 0, 0, 64] q slices_S4x2048x8x96_S4x2048x8x32_0_0_0_64)) slices_S4x2048x8x32_S4x2048x8x16_0_0_0_16)) (broadcastInDim S4x2048x8x16 ![0, 1, 2, 3] bcast_S1x2048x1x16_S4x2048x8x16_0_1_2_3 (broadcastInDim S1x2048x1x16 ![1, 2, 3] bcast_S2048x1x16_S1x2048x1x16_1_2_3 (broadcastInDim S2048x1x16 ![0, 2] bcast_S2048x16_S2048x1x16_0_2 (Host.sin ang))))))⟩, ⟨S4x2048x8x16, (addf (mulf ((extractStridedSlice S4x2048x8x16 ![0, 0, 0, 0] ((extractStridedSlice S4x2048x8x32 ![0, 0, 0, 64] q slices_S4x2048x8x96_S4x2048x8x32_0_0_0_64)) slices_S4x2048x8x32_S4x2048x8x16_0_0_0_0)) (broadcastInDim S4x2048x8x16 ![0, 1, 2, 3] bcast_S1x2048x1x16_S4x2048x8x16_0_1_2_3 (broadcastInDim S1x2048x1x16 ![1, 2, 3] bcast_S2048x1x16_S1x2048x1x16_1_2_3 (broadcastInDim S2048x1x16 ![0, 2] bcast_S2048x16_S2048x1x16_0_2 (Host.sin ang))))) (mulf ((extractStridedSlice S4x2048x8x16 ![0, 0, 0, 16] ((extractStridedSlice S4x2048x8x32 ![0, 0, 0, 64] q slices_S4x2048x8x96_S4x2048x8x32_0_0_0_64)) slices_S4x2048x8x32_S4x2048x8x16_0_0_0_16)) (broadcastInDim S4x2048x8x16 ![0, 1, 2, 3] bcast_S1x2048x1x16_S4x2048x8x16_0_1_2_3 (broadcastInDim S1x2048x1x16 ![1, 2, 3] bcast_S2048x1x16_S1x2048x1x16_1_2_3 (broadcastInDim S2048x1x16 ![0, 2] bcast_S2048x16_S2048x1x16_0_2 (Host.cos ang))))))⟩] concatenates_S4x2048x8x16_S4x2048x8x16_S4x2048x8x32_d3)

/-- The rotated keys. -/
def rotk (p : FVec Ideal S4x2048x928 .f32) (ang : FVec Ideal S2048x16 .f32) : FVec Ideal S4x2048x1x32 .f32 :=
  (concatenate S4x2048x1x32 3 [⟨S4x2048x1x16, (subf (mulf ((extractStridedSlice S4x2048x1x16 ![0, 0, 0, 0] (broadcastInDim S4x2048x1x32 ![0, 1, 3] bcast_S4x2048x32_S4x2048x1x32_0_1_3 ((extractStridedSlice S4x2048x32 ![0, 0, 384] p slices_S4x2048x928_S4x2048x32_0_0_384))) slices_S4x2048x1x32_S4x2048x1x16_0_0_0_0)) (broadcastInDim S4x2048x1x16 ![0, 1, 2, 3] bcast_S1x2048x1x16_S4x2048x1x16_0_1_2_3 (broadcastInDim S1x2048x1x16 ![1, 2, 3] bcast_S2048x1x16_S1x2048x1x16_1_2_3 (broadcastInDim S2048x1x16 ![0, 2] bcast_S2048x16_S2048x1x16_0_2 (Host.cos ang))))) (mulf ((extractStridedSlice S4x2048x1x16 ![0, 0, 0, 16] (broadcastInDim S4x2048x1x32 ![0, 1, 3] bcast_S4x2048x32_S4x2048x1x32_0_1_3 ((extractStridedSlice S4x2048x32 ![0, 0, 384] p slices_S4x2048x928_S4x2048x32_0_0_384))) slices_S4x2048x1x32_S4x2048x1x16_0_0_0_16)) (broadcastInDim S4x2048x1x16 ![0, 1, 2, 3] bcast_S1x2048x1x16_S4x2048x1x16_0_1_2_3 (broadcastInDim S1x2048x1x16 ![1, 2, 3] bcast_S2048x1x16_S1x2048x1x16_1_2_3 (broadcastInDim S2048x1x16 ![0, 2] bcast_S2048x16_S2048x1x16_0_2 (Host.sin ang))))))⟩, ⟨S4x2048x1x16, (addf (mulf ((extractStridedSlice S4x2048x1x16 ![0, 0, 0, 0] (broadcastInDim S4x2048x1x32 ![0, 1, 3] bcast_S4x2048x32_S4x2048x1x32_0_1_3 ((extractStridedSlice S4x2048x32 ![0, 0, 384] p slices_S4x2048x928_S4x2048x32_0_0_384))) slices_S4x2048x1x32_S4x2048x1x16_0_0_0_0)) (broadcastInDim S4x2048x1x16 ![0, 1, 2, 3] bcast_S1x2048x1x16_S4x2048x1x16_0_1_2_3 (broadcastInDim S1x2048x1x16 ![1, 2, 3] bcast_S2048x1x16_S1x2048x1x16_1_2_3 (broadcastInDim S2048x1x16 ![0, 2] bcast_S2048x16_S2048x1x16_0_2 (Host.sin ang))))) (mulf ((extractStridedSlice S4x2048x1x16 ![0, 0, 0, 16] (broadcastInDim S4x2048x1x32 ![0, 1, 3] bcast_S4x2048x32_S4x2048x1x32_0_1_3 ((extractStridedSlice S4x2048x32 ![0, 0, 384] p slices_S4x2048x928_S4x2048x32_0_0_384))) slices_S4x2048x1x32_S4x2048x1x16_0_0_0_16)) (broadcastInDim S4x2048x1x16 ![0, 1, 2, 3] bcast_S1x2048x1x16_S4x2048x1x16_0_1_2_3 (broadcastInDim S1x2048x1x16 ![1, 2, 3] bcast_S2048x1x16_S1x2048x1x16_1_2_3 (broadcastInDim S2048x1x16 ![0, 2] bcast_S2048x16_S2048x1x16_0_2 (Host.cos ang))))))⟩] concatenates_S4x2048x1x16_S4x2048x1x16_S4x2048x1x32_d3)

/-- The queries in the attention's layout. -/
def outq (q : FVec Ideal S4x2048x8x96 .f32) (r : FVec Ideal S4x2048x8x32 .f32) : FVec Ideal S1024x8192 .bf16 :=
  ((truncf .bf16 (shapeCast S1024x8192 ((transpose S8x128x4x2048 [2, 3, 0, 1] ((concatenate S4x2048x8x128 3 [⟨S4x2048x8x64, ((mulf ((extractStridedSlice S4x2048x8x64 ![0, 0, 0, 0] q slices_S4x2048x8x96_S4x2048x8x64_0_0_0_0)) (broadcastInDim S4x2048x8x64 ![] bcast_S_S4x2048x8x64 (Host.divf (Host.rsqrt (constant S_ .f32 0x42C00000#32)) (Host.log (constant S_ .f32 0x40000000#32))))))⟩, ⟨S4x2048x8x32, ((mulf r (broadcastInDim S4x2048x8x32 ![] bcast_S_S4x2048x8x32 (Host.divf (Host.rsqrt (constant S_ .f32 0x42C00000#32)) (Host.log (constant S_ .f32 0x40000000#32))))))⟩, ⟨S4x2048x8x32, ((broadcastInDim S4x2048x8x32 ![] bcast_S_S4x2048x8x32 (constant S_ .f32 0x00000000#32)))⟩] concatenates_S4x2048x8x64_S4x2048x8x32_S4x2048x8x32_S4x2048x8x128_d3)) transposes_S4x2048x8x128_S8x128x4x2048_2_3_0_1)) shapeCasts_S8x128x4x2048_S1024x8192) bitsLt_bf16_f32))

/-- The keys in the attention's layout. -/
def outk (kv : FVec Ideal S4x2048x8x128 .f32) (r : FVec Ideal S4x2048x1x32 .f32) : FVec Ideal S8192x1024 .bf16 :=
  ((truncf .bf16 (shapeCast S8192x1024 ((concatenate S4x2048x8x128 3 [⟨S4x2048x8x64, (((extractStridedSlice S4x2048x8x64 ![0, 0, 0, 0] kv slices_S4x2048x8x128_S4x2048x8x64_0_0_0_0)))⟩, ⟨S4x2048x8x32, ((broadcastInDim S4x2048x8x32 ![0, 1, 2, 3] bcast_S4x2048x1x32_S4x2048x8x32_0_1_2_3 r))⟩, ⟨S4x2048x8x32, ((broadcastInDim S4x2048x8x32 ![] bcast_S_S4x2048x8x32 (constant S_ .f32 0x00000000#32)))⟩] concatenates_S4x2048x8x64_S4x2048x8x32_S4x2048x8x32_S4x2048x8x128_d3)) shapeCasts_S4x2048x8x128_S8192x1024) bitsLt_bf16_f32))

/-- The values in the attention's layout. -/
def outv (kv : FVec Ideal S4x2048x8x128 .f32) : FVec Ideal S512x8192 .bf16 :=
  ((truncf .bf16 (shapeCast S512x8192 ((transpose S8x64x4x2048 [2, 3, 0, 1] ((extractStridedSlice S4x2048x8x64 ![0, 0, 0, 64] kv slices_S4x2048x8x128_S4x2048x8x64_0_0_0_64)) transposes_S4x2048x8x64_S8x64x4x2048_2_3_0_1)) shapeCasts_S8x64x4x2048_S512x8192) bitsLt_bf16_f32))

/-- A query latent: the row of 256 products, normalised and scaled. -/
def qlatent (p f : Fin 256 → EReal) (j : Fin 256) : EReal :=
  p j * Ideal.rsqrt (Ideal.div (∑ i, p i * p i) (Ideal.ofBits .f32 0x43800000#32) + Ideal.ofBits .f32 0x358637BD#32) * f j

/-- The scale on the queries. -/
def scale : EReal := Ideal.div (Ideal.rsqrt (Ideal.ofBits .f32 0x42C00000#32)) (Ideal.log (Ideal.ofBits .f32 0x40000000#32))

/-- A row of 32 turned by an angle: the first half and the second half. -/
def turned (a : Fin 32 → EReal) (th : Fin 16 → EReal) (n : Fin 32) : EReal :=
  if h : n.val < 16 then a n * Ideal.cos (th ⟨n.val, h⟩) - a (⟨16 + n.val, by omega⟩ : Fin 32) * Ideal.sin (th ⟨n.val, h⟩)
  else a (⟨n.val - 16, by omega⟩ : Fin 32) * Ideal.sin (th ⟨n.val - 16, by omega⟩) + a (⟨16 + (n.val - 16), by omega⟩ : Fin 32) * Ideal.cos (th ⟨n.val - 16, by omega⟩)

/-- A projected token's entry. -/
theorem proj_at (x : FVec Ideal S4x2048x1024 .f32) (md : FVec Ideal S8x6x1024 .f32) (g : FVec Ideal S1024 .f32) (w : FVec Ideal S1024x928 .f32)
    (b : Fin 4) (t : Fin 2048) (n : Fin 928) : proj x md g w (ix3 b t n)
    = projd (fun k => x (ix3 b t k)) (fun k => g (ix1 k)) (fun k => md (ix3 (⟨b.val, by omega⟩ : Fin 8) 1 k))
        (fun k => md (ix3 (⟨b.val, by omega⟩ : Fin 8) 0 k)) (fun k => w (ix2 k n)) := by
  pointwise [proj]
  unfold projd modded
  refine Finset.sum_congr rfl fun k _ => ?_
  rw [← mul_assoc]

/-- A query latent's entry. -/
theorem qn_at (p : FVec Ideal S4x2048x928 .f32) (qg : FVec Ideal S256 .f32) (b : Fin 4) (t : Fin 2048) (j : Fin 256) : qn p qg (ix3 b t j)
    = qlatent (fun j => p (ix3 b t (⟨j.val, by omega⟩ : Fin 928))) (fun j => qg (ix1 j)) j := by
  pointwise [qn]
  rfl

/-- A query's entry. -/
theorem qh_at (q : FVec Ideal S4x2048x256 .f32) (uq : FVec Ideal S256x768 .f32) (b : Fin 4) (t : Fin 2048) (h : Fin 8) (j : Fin 96) :
    qh q uq (ix4 b t h j) = ∑ k : Fin 256, q (ix3 b t k) * uq (ix2 k (⟨h.val * 96 + j.val, by omega⟩ : Fin 768)) := by
  pointwise [qh]

/-- A latent key's entry. -/
theorem lat_at (p : FVec Ideal S4x2048x928 .f32) (kg : FVec Ideal S128 .f32) (b : Fin 4) (t : Fin 2048) (j : Fin 128) : lat p kg (ix3 b t j)
    = latent (fun j => p (ix3 b t (⟨256 + j.val, by omega⟩ : Fin 928))) (fun j => kg (ix1 j)) j := by
  pointwise [lat]
  rfl

/-- A key's or a value's entry. -/
theorem kvh_at (l : FVec Ideal S4x2048x128 .f32) (ukv : FVec Ideal S128x1024 .f32) (b : Fin 4) (t : Fin 2048) (h : Fin 8) (j : Fin 128) :
    kvh l ukv (ix4 b t h j) = ∑ k : Fin 128, l (ix3 b t k) * ukv (ix2 k (⟨h.val * 128 + j.val, by omega⟩ : Fin 1024)) := by
  pointwise [kvh]

/-- A rotated query's entry. -/
theorem rotq_at (q : FVec Ideal S4x2048x8x96 .f32) (ang : FVec Ideal S2048x16 .f32) (b : Fin 4) (t : Fin 2048) (h : Fin 8) (n : Fin 32) :
    rotq q ang (ix4 b t h n) = turned (fun n => q (ix4 b t h (⟨64 + n.val, by omega⟩ : Fin 96))) (fun n => ang (ix2 t n)) n := by
  pointwise [rotq]
  unfold turned
  split <;> rfl

/-- A rotated key's entry. -/
theorem rotk_at (p : FVec Ideal S4x2048x928 .f32) (ang : FVec Ideal S2048x16 .f32) (b : Fin 4) (t : Fin 2048) (n : Fin 32) :
    rotk p ang (ix4 b t 0 n) = turned (fun n => p (ix3 b t (⟨384 + n.val, by omega⟩ : Fin 928))) (fun n => ang (ix2 t n)) n := by
  pointwise [rotk]
  unfold turned
  split <;> rfl

/-- A query in the attention's layout, at a head's row and a token. -/
theorem outq_at (q : FVec Ideal S4x2048x8x96 .f32) (r : FVec Ideal S4x2048x8x32 .f32) (h : Fin 8) (j : Fin 128) (c : Fin 8192) :
    outq q r (ix2 (⟨h.val * 128 + j.val, by omega⟩ : Fin 1024) c)
    = if hj : j.val < 64 then q (ix4 (⟨c.val / 2048, by omega⟩ : Fin 4) (⟨c.val % 2048, by omega⟩ : Fin 2048) h (⟨j.val, by omega⟩ : Fin 96)) * scale
      else if hj : j.val - 64 < 32 then r (ix4 (⟨c.val / 2048, by omega⟩ : Fin 4) (⟨c.val % 2048, by omega⟩ : Fin 2048) h (⟨j.val - 64, by omega⟩ : Fin 32)) * scale
      else 0 := by
  pointwise [outq]
  rfl

/-- A key in the attention's layout, at a token and a head's column. -/
theorem outk_at (kv : FVec Ideal S4x2048x8x128 .f32) (r : FVec Ideal S4x2048x1x32 .f32) (h : Fin 8) (j : Fin 128) (c : Fin 8192) :
    outk kv r (ix2 c (⟨h.val * 128 + j.val, by omega⟩ : Fin 1024))
    = if hj : j.val < 64 then kv (ix4 (⟨c.val / 2048, by omega⟩ : Fin 4) (⟨c.val % 2048, by omega⟩ : Fin 2048) h (⟨j.val, by omega⟩ : Fin 128))
      else if hj : j.val - 64 < 32 then r (ix4 (⟨c.val / 2048, by omega⟩ : Fin 4) (⟨c.val % 2048, by omega⟩ : Fin 2048) 0 (⟨j.val - 64, by omega⟩ : Fin 32))
      else 0 := by
  pointwise [outk]
  try rfl

/-- A value in the attention's layout, at a head's row and a token. -/
theorem outv_at (kv : FVec Ideal S4x2048x8x128 .f32) (h : Fin 8) (j : Fin 64) (c : Fin 8192) :
    outv kv (ix2 (⟨h.val * 64 + j.val, by omega⟩ : Fin 512) c)
    = kv (ix4 (⟨c.val / 2048, by omega⟩ : Fin 4) (⟨c.val % 2048, by omega⟩ : Fin 2048) h (⟨64 + j.val, by omega⟩ : Fin 128)) := by
  pointwise [outv]

end Cert.Reference6Ideal.Value

end
-- ==== Proof.PremixHost.lean ====
module

public import proofs.«01_k».proof.Proof.PremixRef
public import proofs.«01_k».proof.Proof.Gen.Kernel6Ideal.Frame
public import Idealize.ShloMosaic.Lib.Pipeline.ValueKit
public import Idealize.ShloMosaic.Lib.Pointwise

/-!
# The latent tokens' queries, keys and values: the operands as the program lays them out

The projection's matrix is transposed and padded: its rows 416 to 447 hold the rotary columns with the halves swapped
and the first half negated. The query matrix is padded to 128 rows a head, and carries the rotary rows again, swapped and
negated. The key matrix carries, under the latent keys' rows, the places of the rotary keys in a head's columns. The two
tables hold the angles' cosines and sines, for the queries with the scale multiplied in.
-/

@[expose] public section

set_option maxRecDepth 16384

noncomputable section

open Idealize.ShloMosaic Idealize.ShloMosaic.TcCoe Idealize.SL.Sem

namespace Cert.Kernel6Ideal.Value
open Cert.Kernel6Ideal Cert.Kernel6Ideal.Gen
open Cert.Reference6Ideal.Value (scale)

/-- The projection's rows, as a term of the input matrix. -/
def layWin (w : FVec Ideal S1024x928 .f32) : FVec Ideal S1024x1024 .bf16 :=
  ((truncf .bf16 ((concatenate S1024x1024 0 [⟨S416x1024, ((extractStridedSlice S416x1024 ![0, 0] ((transpose S928x1024 [1, 0] w transposes_S1024x928_S928x1024_1_0)) slices_S928x1024_S416x1024_0_0))⟩, ⟨S16x1024, (Host.negf ((extractStridedSlice S16x1024 ![400, 0] ((transpose S928x1024 [1, 0] w transposes_S1024x928_S928x1024_1_0)) slices_S928x1024_S16x1024_400_0)))⟩, ⟨S16x1024, ((extractStridedSlice S16x1024 ![384, 0] ((transpose S928x1024 [1, 0] w transposes_S1024x928_S928x1024_1_0)) slices_S928x1024_S16x1024_384_0))⟩, ⟨S64x1024, (broadcastInDim S64x1024 ![] bcast_S_S64x1024 (constant S_ .f32 0x00000000#32))⟩, ⟨S512x1024, ((extractStridedSlice S512x1024 ![416, 0] ((transpose S928x1024 [1, 0] w transposes_S1024x928_S928x1024_1_0)) slices_S928x1024_S512x1024_416_0))⟩] concatenates_S416x1024_S16x1024_S16x1024_S64x1024_S512x1024_S1024x1024_d0)) bitsLt_bf16_f32))

/-- The queries' rows. -/
def layWuq (uq : FVec Ideal S256x768 .f32) : FVec Ideal S1280x256 .bf16 :=
  ((truncf .bf16 ((transpose S1280x256 [1, 0] (concatenate S256x1280 1 [⟨S256x1024, (shapeCast S256x1024 (concatenate S256x8x128 2 [⟨S256x8x96, (shapeCast S256x8x96 uq shapeCasts_S256x768_S256x8x96)⟩, ⟨S256x8x32, (broadcastInDim S256x8x32 ![] bcast_S_S256x8x32 (constant S_ .f32 0x00000000#32))⟩] concatenates_S256x8x96_S256x8x32_S256x8x128_d2) shapeCasts_S256x8x128_S256x1024)⟩, ⟨S256x256, (shapeCast S256x256 (concatenate S256x8x32 2 [⟨S256x8x16, (Host.negf ((extractStridedSlice S256x8x16 ![0, 0, 16] ((extractStridedSlice S256x8x32 ![0, 0, 64] (shapeCast S256x8x96 uq shapeCasts_S256x768_S256x8x96) slices_S256x8x96_S256x8x32_0_0_64)) slices_S256x8x32_S256x8x16_0_0_16)))⟩, ⟨S256x8x16, ((extractStridedSlice S256x8x16 ![0, 0, 0] ((extractStridedSlice S256x8x32 ![0, 0, 64] (shapeCast S256x8x96 uq shapeCasts_S256x768_S256x8x96) slices_S256x8x96_S256x8x32_0_0_64)) slices_S256x8x32_S256x8x16_0_0_0))⟩] concatenates_S256x8x16_S256x8x16_S256x8x32_d2) shapeCasts_S256x8x32_S256x256)⟩] concatenates_S256x1024_S256x256_S256x1280_d1) transposes_S256x1280_S1280x256_1_0)) bitsLt_bf16_f32))

/-- The rotary keys' places in a head's columns. -/
def place : FVec Ideal S32x128 .f32 :=
  concatenate S32x128 1 [⟨S32x64, (broadcastInDim S32x64 ![] bcast_S_S32x64 (constant S_ .f32 0x00000000#32))⟩, ⟨S32x32, (uitofp .f32 (cmpi .eq (addi (iotaInDim S32x32 32 0) (broadcastInDim S32x32 ![] bcast_S_S32x32 (constantI S_ 32 0#32))) (iotaInDim S32x32 32 1)))⟩, ⟨S32x32, (broadcastInDim S32x32 ![] bcast_S_S32x32 (constant S_ .f32 0x00000000#32))⟩] concatenates_S32x64_S32x32_S32x32_S32x128_d1

/-- The keys' matrix. -/
def layWk (ukv : FVec Ideal S128x1024 .f32) : FVec Ideal S256x1024 .bf16 :=
  ((truncf .bf16 ((concatenate S256x1024 0 [⟨S128x1024, (shapeCast S128x1024 (concatenate S128x8x128 2 [⟨S128x8x64, ((extractStridedSlice S128x8x64 ![0, 0, 0] (shapeCast S128x8x128 ukv shapeCasts_S128x1024_S128x8x128) slices_S128x8x128_S128x8x64_0_0_0))⟩, ⟨S128x8x64, (broadcastInDim S128x8x64 ![] bcast_S_S128x8x64 (constant S_ .f32 0x00000000#32))⟩] concatenates_S128x8x64_S128x8x64_S128x8x128_d2) shapeCasts_S128x8x128_S128x1024)⟩, ⟨S32x1024, (shapeCast S32x1024 (broadcastInDim S1x32x8x128 ![0, 1, 2, 3] bcast_S1x32x1x128_S1x32x8x128_0_1_2_3 (shapeCast S1x32x1x128 place shapeCasts_S32x128_S1x32x1x128)) shapeCasts_S1x32x8x128_S32x1024)⟩, ⟨S32x1024, (shapeCast S32x1024 (broadcastInDim S1x32x8x128 ![0, 1, 2, 3] bcast_S1x32x1x128_S1x32x8x128_0_1_2_3 (shapeCast S1x32x1x128 place shapeCasts_S32x128_S1x32x1x128)) shapeCasts_S1x32x8x128_S32x1024)⟩, ⟨S64x1024, (broadcastInDim S64x1024 ![] bcast_S_S64x1024 (constant S_ .f32 0x00000000#32))⟩] concatenates_S128x1024_S32x1024_S32x1024_S64x1024_S256x1024_d0)) bitsLt_bf16_f32))

/-- The values' rows. -/
def layWv (ukv : FVec Ideal S128x1024 .f32) : FVec Ideal S512x128 .bf16 :=
  ((truncf .bf16 ((transpose S512x128 [1, 0] (shapeCast S128x512 ((extractStridedSlice S128x8x64 ![0, 0, 64] (shapeCast S128x8x128 ukv shapeCasts_S128x1024_S128x8x128) slices_S128x8x128_S128x8x64_0_0_64)) shapeCasts_S128x8x64_S128x512) transposes_S128x512_S512x128_1_0)) bitsLt_bf16_f32))

/-- The queries' table before it is transposed. -/
def layTqT (ang : FVec Ideal S2048x16 .f32) : FVec Ideal S2048x256 .f32 :=
  (concatenate S2048x256 1 [⟨S2048x64, (broadcastInDim S2048x64 ![] bcast_S_S2048x64 (Host.divf (Host.rsqrt (constant S_ .f32 0x42C00000#32)) (Host.log (constant S_ .f32 0x40000000#32))))⟩, ⟨S2048x16, (mulf (Host.cos ang) (broadcastInDim S2048x16 ![] bcast_S_S2048x16 (Host.divf (Host.rsqrt (constant S_ .f32 0x42C00000#32)) (Host.log (constant S_ .f32 0x40000000#32)))))⟩, ⟨S2048x16, (mulf (Host.cos ang) (broadcastInDim S2048x16 ![] bcast_S_S2048x16 (Host.divf (Host.rsqrt (constant S_ .f32 0x42C00000#32)) (Host.log (constant S_ .f32 0x40000000#32)))))⟩, ⟨S2048x32, (broadcastInDim S2048x32 ![] bcast_S_S2048x32 (constant S_ .f32 0x00000000#32))⟩, ⟨S2048x64, (broadcastInDim S2048x64 ![] bcast_S_S2048x64 (constant S_ .f32 0x00000000#32))⟩, ⟨S2048x16, (mulf (Host.sin ang) (broadcastInDim S2048x16 ![] bcast_S_S2048x16 (Host.divf (Host.rsqrt (constant S_ .f32 0x42C00000#32)) (Host.log (constant S_ .f32 0x40000000#32)))))⟩, ⟨S2048x16, (mulf (Host.sin ang) (broadcastInDim S2048x16 ![] bcast_S_S2048x16 (Host.divf (Host.rsqrt (constant S_ .f32 0x42C00000#32)) (Host.log (constant S_ .f32 0x40000000#32)))))⟩, ⟨S2048x32, (broadcastInDim S2048x32 ![] bcast_S_S2048x32 (constant S_ .f32 0x00000000#32))⟩] concatenates_S2048x64_S2048x16_S2048x16_S2048x32_S2048x64_S2048x16_S2048x16_S2048x32_S2048x256_d1)

/-- The queries' table. -/
def layTq (ang : FVec Ideal S2048x16 .f32) : FVec Ideal S256x2048 .f32 :=
  transpose S256x2048 [1, 0] (layTqT ang) transposes_S2048x256_S256x2048_1_0

/-- The table transposed. -/
theorem layTq_at (ang : FVec Ideal S2048x16 .f32) (r : Fin 256) (t : Fin 2048) : layTq ang (ix2 r t) = layTqT ang (ix2 t r) := by
  pointwise [layTq]

/-- The keys' table. -/
def layTk (ang : FVec Ideal S2048x16 .f32) : FVec Ideal S2048x128 .f32 :=
  ((concatenate S2048x128 1 [⟨S2048x16, (Host.cos ang)⟩, ⟨S2048x16, (Host.cos ang)⟩, ⟨S2048x16, (Host.sin ang)⟩, ⟨S2048x16, (Host.sin ang)⟩, ⟨S2048x64, (broadcastInDim S2048x64 ![] bcast_S_S2048x64 (constant S_ .f32 0x00000000#32))⟩] concatenates_S2048x16_S2048x16_S2048x16_S2048x16_S2048x64_S2048x128_d1))

/-- A row of piece 0 of the projection's rows. -/
theorem win_piece0 (a0 : FVec Ideal S416x1024 .f32) (a1 : FVec Ideal S16x1024 .f32) (a2 : FVec Ideal S16x1024 .f32) (a3 : FVec Ideal S64x1024 .f32) (a4 : FVec Ideal S512x1024 .f32) (n : Fin 416) (k : Fin 1024) :
    concatenate S1024x1024 0 [⟨S416x1024, a0⟩, ⟨S16x1024, a1⟩, ⟨S16x1024, a2⟩, ⟨S64x1024, a3⟩, ⟨S512x1024, a4⟩] concatenates_S416x1024_S16x1024_S16x1024_S64x1024_S512x1024_S1024x1024_d0 (ix2 (⟨0 + n.val, by omega⟩ : Fin 1024) k) = a0 (ix2 n k) := by
  refine concatenate_apply_piece (t := S1024x1024) 0 [⟨S416x1024, a0⟩, ⟨S16x1024, a1⟩, ⟨S16x1024, a2⟩, ⟨S64x1024, a3⟩, ⟨S512x1024, a4⟩]
    concatenates_S416x1024_S16x1024_S16x1024_S64x1024_S512x1024_S1024x1024_d0 (ix2 (⟨0 + n.val, by omega⟩ : Fin 1024) k) 0 (show 0 < 5 by decide) S416x1024 a0 rfl rfl 0 rfl (ix2 n k) ?_ ?_
  · intro b hb
    match b, hb with
    | ⟨0, _⟩, hb => exact absurd rfl hb
    | ⟨1, _⟩, _ => rfl
  · rfl

/-- A row of piece 1 of the projection's rows. -/
theorem win_piece1 (a0 : FVec Ideal S416x1024 .f32) (a1 : FVec Ideal S16x1024 .f32) (a2 : FVec Ideal S16x1024 .f32) (a3 : FVec Ideal S64x1024 .f32) (a4 : FVec Ideal S512x1024 .f32) (n : Fin 16) (k : Fin 1024) :
    concatenate S1024x1024 0 [⟨S416x1024, a0⟩, ⟨S16x1024, a1⟩, ⟨S16x1024, a2⟩, ⟨S64x1024, a3⟩, ⟨S512x1024, a4⟩] concatenates_S416x1024_S16x1024_S16x1024_S64x1024_S512x1024_S1024x1024_d0 (ix2 (⟨416 + n.val, by omega⟩ : Fin 1024) k) = a1 (ix2 n k) := by
  refine concatenate_apply_piece (t := S1024x1024) 0 [⟨S416x1024, a0⟩, ⟨S16x1024, a1⟩, ⟨S16x1024, a2⟩, ⟨S64x1024, a3⟩, ⟨S512x1024, a4⟩]
    concatenates_S416x1024_S16x1024_S16x1024_S64x1024_S512x1024_S1024x1024_d0 (ix2 (⟨416 + n.val, by omega⟩ : Fin 1024) k) 1 (show 1 < 5 by decide) S16x1024 a1 rfl rfl 416 rfl (ix2 n k) ?_ ?_
  · intro b hb
    match b, hb with
    | ⟨0, _⟩, hb => exact absurd rfl hb
    | ⟨1, _⟩, _ => rfl
  · rfl

/-- A row of piece 2 of the projection's rows. -/
theorem win_piece2 (a0 : FVec Ideal S416x1024 .f32) (a1 : FVec Ideal S16x1024 .f32) (a2 : FVec Ideal S16x1024 .f32) (a3 : FVec Ideal S64x1024 .f32) (a4 : FVec Ideal S512x1024 .f32) (n : Fin 16) (k : Fin 1024) :
    concatenate S1024x1024 0 [⟨S416x1024, a0⟩, ⟨S16x1024, a1⟩, ⟨S16x1024, a2⟩, ⟨S64x1024, a3⟩, ⟨S512x1024, a4⟩] concatenates_S416x1024_S16x1024_S16x1024_S64x1024_S512x1024_S1024x1024_d0 (ix2 (⟨432 + n.val, by omega⟩ : Fin 1024) k) = a2 (ix2 n k) := by
  refine concatenate_apply_piece (t := S1024x1024) 0 [⟨S416x1024, a0⟩, ⟨S16x1024, a1⟩, ⟨S16x1024, a2⟩, ⟨S64x1024, a3⟩, ⟨S512x1024, a4⟩]
    concatenates_S416x1024_S16x1024_S16x1024_S64x1024_S512x1024_S1024x1024_d0 (ix2 (⟨432 + n.val, by omega⟩ : Fin 1024) k) 2 (show 2 < 5 by decide) S16x1024 a2 rfl rfl 432 rfl (ix2 n k) ?_ ?_
  · intro b hb
    match b, hb with
    | ⟨0, _⟩, hb => exact absurd rfl hb
    | ⟨1, _⟩, _ => rfl
  · rfl

/-- A row of piece 0 of the keys' matrix. -/
theorem wk_piece0 (a0 : FVec Ideal S128x1024 .f32) (a1 : FVec Ideal S32x1024 .f32) (a2 : FVec Ideal S32x1024 .f32) (a3 : FVec Ideal S64x1024 .f32) (n : Fin 128) (k : Fin 1024) :
    concatenate S256x1024 0 [⟨S128x1024, a0⟩, ⟨S32x1024, a1⟩, ⟨S32x1024, a2⟩, ⟨S64x1024, a3⟩] concatenates_S128x1024_S32x1024_S32x1024_S64x1024_S256x1024_d0 (ix2 (⟨0 + n.val, by omega⟩ : Fin 256) k) = a0 (ix2 n k) := by
  refine concatenate_apply_piece (t := S256x1024) 0 [⟨S128x1024, a0⟩, ⟨S32x1024, a1⟩, ⟨S32x1024, a2⟩, ⟨S64x1024, a3⟩]
    concatenates_S128x1024_S32x1024_S32x1024_S64x1024_S256x1024_d0 (ix2 (⟨0 + n.val, by omega⟩ : Fin 256) k) 0 (show 0 < 4 by decide) S128x1024 a0 rfl rfl 0 rfl (ix2 n k) ?_ ?_
  · intro b hb
    match b, hb with
    | ⟨0, _⟩, hb => exact absurd rfl hb
    | ⟨1, _⟩, _ => rfl
  · rfl

/-- A row of piece 1 of the keys' matrix. -/
theorem wk_piece1 (a0 : FVec Ideal S128x1024 .f32) (a1 : FVec Ideal S32x1024 .f32) (a2 : FVec Ideal S32x1024 .f32) (a3 : FVec Ideal S64x1024 .f32) (n : Fin 32) (k : Fin 1024) :
    concatenate S256x1024 0 [⟨S128x1024, a0⟩, ⟨S32x1024, a1⟩, ⟨S32x1024, a2⟩, ⟨S64x1024, a3⟩] concatenates_S128x1024_S32x1024_S32x1024_S64x1024_S256x1024_d0 (ix2 (⟨128 + n.val, by omega⟩ : Fin 256) k) = a1 (ix2 n k) := by
  refine concatenate_apply_piece (t := S256x1024) 0 [⟨S128x1024, a0⟩, ⟨S32x1024, a1⟩, ⟨S32x1024, a2⟩, ⟨S64x1024, a3⟩]
    concatenates_S128x1024_S32x1024_S32x1024_S64x1024_S256x1024_d0 (ix2 (⟨128 + n.val, by omega⟩ : Fin 256) k) 1 (show 1 < 4 by decide) S32x1024 a1 rfl rfl 128 rfl (ix2 n k) ?_ ?_
  · intro b hb
    match b, hb with
    | ⟨0, _⟩, hb => exact absurd rfl hb
    | ⟨1, _⟩, _ => rfl
  · rfl

/-- A row of piece 2 of the keys' matrix. -/
theorem wk_piece2 (a0 : FVec Ideal S128x1024 .f32) (a1 : FVec Ideal S32x1024 .f32) (a2 : FVec Ideal S32x1024 .f32) (a3 : FVec Ideal S64x1024 .f32) (n : Fin 32) (k : Fin 1024) :
    concatenate S256x1024 0 [⟨S128x1024, a0⟩, ⟨S32x1024, a1⟩, ⟨S32x1024, a2⟩, ⟨S64x1024, a3⟩] concatenates_S128x1024_S32x1024_S32x1024_S64x1024_S256x1024_d0 (ix2 (⟨160 + n.val, by omega⟩ : Fin 256) k) = a2 (ix2 n k) := by
  refine concatenate_apply_piece (t := S256x1024) 0 [⟨S128x1024, a0⟩, ⟨S32x1024, a1⟩, ⟨S32x1024, a2⟩, ⟨S64x1024, a3⟩]
    concatenates_S128x1024_S32x1024_S32x1024_S64x1024_S256x1024_d0 (ix2 (⟨160 + n.val, by omega⟩ : Fin 256) k) 2 (show 2 < 4 by decide) S32x1024 a2 rfl rfl 160 rfl (ix2 n k) ?_ ?_
  · intro b hb
    match b, hb with
    | ⟨0, _⟩, hb => exact absurd rfl hb
    | ⟨1, _⟩, _ => rfl
  · rfl

/-- A row of piece 3 of the keys' matrix. -/
theorem wk_piece3 (a0 : FVec Ideal S128x1024 .f32) (a1 : FVec Ideal S32x1024 .f32) (a2 : FVec Ideal S32x1024 .f32) (a3 : FVec Ideal S64x1024 .f32) (n : Fin 64) (k : Fin 1024) :
    concatenate S256x1024 0 [⟨S128x1024, a0⟩, ⟨S32x1024, a1⟩, ⟨S32x1024, a2⟩, ⟨S64x1024, a3⟩] concatenates_S128x1024_S32x1024_S32x1024_S64x1024_S256x1024_d0 (ix2 (⟨192 + n.val, by omega⟩ : Fin 256) k) = a3 (ix2 n k) := by
  refine concatenate_apply_piece (t := S256x1024) 0 [⟨S128x1024, a0⟩, ⟨S32x1024, a1⟩, ⟨S32x1024, a2⟩, ⟨S64x1024, a3⟩]
    concatenates_S128x1024_S32x1024_S32x1024_S64x1024_S256x1024_d0 (ix2 (⟨192 + n.val, by omega⟩ : Fin 256) k) 3 (show 3 < 4 by decide) S64x1024 a3 rfl rfl 192 rfl (ix2 n k) ?_ ?_
  · intro b hb
    match b, hb with
    | ⟨0, _⟩, hb => exact absurd rfl hb
    | ⟨1, _⟩, _ => rfl
  · rfl

/-- A column of piece 0 of the queries' table. -/
theorem tq_piece0 (a0 : FVec Ideal S2048x64 .f32) (a1 : FVec Ideal S2048x16 .f32) (a2 : FVec Ideal S2048x16 .f32) (a3 : FVec Ideal S2048x32 .f32) (a4 : FVec Ideal S2048x64 .f32) (a5 : FVec Ideal S2048x16 .f32) (a6 : FVec Ideal S2048x16 .f32) (a7 : FVec Ideal S2048x32 .f32) (k : Fin 2048) (n : Fin 64) :
    concatenate S2048x256 1 [⟨S2048x64, a0⟩, ⟨S2048x16, a1⟩, ⟨S2048x16, a2⟩, ⟨S2048x32, a3⟩, ⟨S2048x64, a4⟩, ⟨S2048x16, a5⟩, ⟨S2048x16, a6⟩, ⟨S2048x32, a7⟩] concatenates_S2048x64_S2048x16_S2048x16_S2048x32_S2048x64_S2048x16_S2048x16_S2048x32_S2048x256_d1 (ix2 k (⟨0 + n.val, by omega⟩ : Fin 256)) = a0 (ix2 k n) := by
  refine concatenate_apply_piece (t := S2048x256) 1 [⟨S2048x64, a0⟩, ⟨S2048x16, a1⟩, ⟨S2048x16, a2⟩, ⟨S2048x32, a3⟩, ⟨S2048x64, a4⟩, ⟨S2048x16, a5⟩, ⟨S2048x16, a6⟩, ⟨S2048x32, a7⟩]
    concatenates_S2048x64_S2048x16_S2048x16_S2048x32_S2048x64_S2048x16_S2048x16_S2048x32_S2048x256_d1 (ix2 k (⟨0 + n.val, by omega⟩ : Fin 256)) 0 (show 0 < 8 by decide) S2048x64 a0 rfl rfl 0 rfl (ix2 k n) ?_ ?_
  · intro b hb
    match b, hb with
    | ⟨0, _⟩, _ => rfl
    | ⟨1, _⟩, hb => exact absurd rfl hb
  · rfl

/-- A column of piece 1 of the queries' table. -/
theorem tq_piece1 (a0 : FVec Ideal S2048x64 .f32) (a1 : FVec Ideal S2048x16 .f32) (a2 : FVec Ideal S2048x16 .f32) (a3 : FVec Ideal S2048x32 .f32) (a4 : FVec Ideal S2048x64 .f32) (a5 : FVec Ideal S2048x16 .f32) (a6 : FVec Ideal S2048x16 .f32) (a7 : FVec Ideal S2048x32 .f32) (k : Fin 2048) (n : Fin 16) :
    concatenate S2048x256 1 [⟨S2048x64, a0⟩, ⟨S2048x16, a1⟩, ⟨S2048x16, a2⟩, ⟨S2048x32, a3⟩, ⟨S2048x64, a4⟩, ⟨S2048x16, a5⟩, ⟨S2048x16, a6⟩, ⟨S2048x32, a7⟩] concatenates_S2048x64_S2048x16_S2048x16_S2048x32_S2048x64_S2048x16_S2048x16_S2048x32_S2048x256_d1 (ix2 k (⟨64 + n.val, by omega⟩ : Fin 256)) = a1 (ix2 k n) := by
  refine concatenate_apply_piece (t := S2048x256) 1 [⟨S2048x64, a0⟩, ⟨S2048x16, a1⟩, ⟨S2048x16, a2⟩, ⟨S2048x32, a3⟩, ⟨S2048x64, a4⟩, ⟨S2048x16, a5⟩, ⟨S2048x16, a6⟩, ⟨S2048x32, a7⟩]
    concatenates_S2048x64_S2048x16_S2048x16_S2048x32_S2048x64_S2048x16_S2048x16_S2048x32_S2048x256_d1 (ix2 k (⟨64 + n.val, by omega⟩ : Fin 256)) 1 (show 1 < 8 by decide) S2048x16 a1 rfl rfl 64 rfl (ix2 k n) ?_ ?_
  · intro b hb
    match b, hb with
    | ⟨0, _⟩, _ => rfl
    | ⟨1, _⟩, hb => exact absurd rfl hb
  · rfl

/-- A column of piece 2 of the queries' table. -/
theorem tq_piece2 (a0 : FVec Ideal S2048x64 .f32) (a1 : FVec Ideal S2048x16 .f32) (a2 : FVec Ideal S2048x16 .f32) (a3 : FVec Ideal S2048x32 .f32) (a4 : FVec Ideal S2048x64 .f32) (a5 : FVec Ideal S2048x16 .f32) (a6 : FVec Ideal S2048x16 .f32) (a7 : FVec Ideal S2048x32 .f32) (k : Fin 2048) (n : Fin 16) :
    concatenate S2048x256 1 [⟨S2048x64, a0⟩, ⟨S2048x16, a1⟩, ⟨S2048x16, a2⟩, ⟨S2048x32, a3⟩, ⟨S2048x64, a4⟩, ⟨S2048x16, a5⟩, ⟨S2048x16, a6⟩, ⟨S2048x32, a7⟩] concatenates_S2048x64_S2048x16_S2048x16_S2048x32_S2048x64_S2048x16_S2048x16_S2048x32_S2048x256_d1 (ix2 k (⟨80 + n.val, by omega⟩ : Fin 256)) = a2 (ix2 k n) := by
  refine concatenate_apply_piece (t := S2048x256) 1 [⟨S2048x64, a0⟩, ⟨S2048x16, a1⟩, ⟨S2048x16, a2⟩, ⟨S2048x32, a3⟩, ⟨S2048x64, a4⟩, ⟨S2048x16, a5⟩, ⟨S2048x16, a6⟩, ⟨S2048x32, a7⟩]
    concatenates_S2048x64_S2048x16_S2048x16_S2048x32_S2048x64_S2048x16_S2048x16_S2048x32_S2048x256_d1 (ix2 k (⟨80 + n.val, by omega⟩ : Fin 256)) 2 (show 2 < 8 by decide) S2048x16 a2 rfl rfl 80 rfl (ix2 k n) ?_ ?_
  · intro b hb
    match b, hb with
    | ⟨0, _⟩, _ => rfl
    | ⟨1, _⟩, hb => exact absurd rfl hb
  · rfl

/-- A column of piece 3 of the queries' table. -/
theorem tq_piece3 (a0 : FVec Ideal S2048x64 .f32) (a1 : FVec Ideal S2048x16 .f32) (a2 : FVec Ideal S2048x16 .f32) (a3 : FVec Ideal S2048x32 .f32) (a4 : FVec Ideal S2048x64 .f32) (a5 : FVec Ideal S2048x16 .f32) (a6 : FVec Ideal S2048x16 .f32) (a7 : FVec Ideal S2048x32 .f32) (k : Fin 2048) (n : Fin 32) :
    concatenate S2048x256 1 [⟨S2048x64, a0⟩, ⟨S2048x16, a1⟩, ⟨S2048x16, a2⟩, ⟨S2048x32, a3⟩, ⟨S2048x64, a4⟩, ⟨S2048x16, a5⟩, ⟨S2048x16, a6⟩, ⟨S2048x32, a7⟩] concatenates_S2048x64_S2048x16_S2048x16_S2048x32_S2048x64_S2048x16_S2048x16_S2048x32_S2048x256_d1 (ix2 k (⟨96 + n.val, by omega⟩ : Fin 256)) = a3 (ix2 k n) := by
  refine concatenate_apply_piece (t := S2048x256) 1 [⟨S2048x64, a0⟩, ⟨S2048x16, a1⟩, ⟨S2048x16, a2⟩, ⟨S2048x32, a3⟩, ⟨S2048x64, a4⟩, ⟨S2048x16, a5⟩, ⟨S2048x16, a6⟩, ⟨S2048x32, a7⟩]
    concatenates_S2048x64_S2048x16_S2048x16_S2048x32_S2048x64_S2048x16_S2048x16_S2048x32_S2048x256_d1 (ix2 k (⟨96 + n.val, by omega⟩ : Fin 256)) 3 (show 3 < 8 by decide) S2048x32 a3 rfl rfl 96 rfl (ix2 k n) ?_ ?_
  · intro b hb
    match b, hb with
    | ⟨0, _⟩, _ => rfl
    | ⟨1, _⟩, hb => exact absurd rfl hb
  · rfl

/-- A column of piece 5 of the queries' table. -/
theorem tq_piece5 (a0 : FVec Ideal S2048x64 .f32) (a1 : FVec Ideal S2048x16 .f32) (a2 : FVec Ideal S2048x16 .f32) (a3 : FVec Ideal S2048x32 .f32) (a4 : FVec Ideal S2048x64 .f32) (a5 : FVec Ideal S2048x16 .f32) (a6 : FVec Ideal S2048x16 .f32) (a7 : FVec Ideal S2048x32 .f32) (k : Fin 2048) (n : Fin 16) :
    concatenate S2048x256 1 [⟨S2048x64, a0⟩, ⟨S2048x16, a1⟩, ⟨S2048x16, a2⟩, ⟨S2048x32, a3⟩, ⟨S2048x64, a4⟩, ⟨S2048x16, a5⟩, ⟨S2048x16, a6⟩, ⟨S2048x32, a7⟩] concatenates_S2048x64_S2048x16_S2048x16_S2048x32_S2048x64_S2048x16_S2048x16_S2048x32_S2048x256_d1 (ix2 k (⟨192 + n.val, by omega⟩ : Fin 256)) = a5 (ix2 k n) := by
  refine concatenate_apply_piece (t := S2048x256) 1 [⟨S2048x64, a0⟩, ⟨S2048x16, a1⟩, ⟨S2048x16, a2⟩, ⟨S2048x32, a3⟩, ⟨S2048x64, a4⟩, ⟨S2048x16, a5⟩, ⟨S2048x16, a6⟩, ⟨S2048x32, a7⟩]
    concatenates_S2048x64_S2048x16_S2048x16_S2048x32_S2048x64_S2048x16_S2048x16_S2048x32_S2048x256_d1 (ix2 k (⟨192 + n.val, by omega⟩ : Fin 256)) 5 (show 5 < 8 by decide) S2048x16 a5 rfl rfl 192 rfl (ix2 k n) ?_ ?_
  · intro b hb
    match b, hb with
    | ⟨0, _⟩, _ => rfl
    | ⟨1, _⟩, hb => exact absurd rfl hb
  · rfl

/-- A column of piece 6 of the queries' table. -/
theorem tq_piece6 (a0 : FVec Ideal S2048x64 .f32) (a1 : FVec Ideal S2048x16 .f32) (a2 : FVec Ideal S2048x16 .f32) (a3 : FVec Ideal S2048x32 .f32) (a4 : FVec Ideal S2048x64 .f32) (a5 : FVec Ideal S2048x16 .f32) (a6 : FVec Ideal S2048x16 .f32) (a7 : FVec Ideal S2048x32 .f32) (k : Fin 2048) (n : Fin 16) :
    concatenate S2048x256 1 [⟨S2048x64, a0⟩, ⟨S2048x16, a1⟩, ⟨S2048x16, a2⟩, ⟨S2048x32, a3⟩, ⟨S2048x64, a4⟩, ⟨S2048x16, a5⟩, ⟨S2048x16, a6⟩, ⟨S2048x32, a7⟩] concatenates_S2048x64_S2048x16_S2048x16_S2048x32_S2048x64_S2048x16_S2048x16_S2048x32_S2048x256_d1 (ix2 k (⟨208 + n.val, by omega⟩ : Fin 256)) = a6 (ix2 k n) := by
  refine concatenate_apply_piece (t := S2048x256) 1 [⟨S2048x64, a0⟩, ⟨S2048x16, a1⟩, ⟨S2048x16, a2⟩, ⟨S2048x32, a3⟩, ⟨S2048x64, a4⟩, ⟨S2048x16, a5⟩, ⟨S2048x16, a6⟩, ⟨S2048x32, a7⟩]
    concatenates_S2048x64_S2048x16_S2048x16_S2048x32_S2048x64_S2048x16_S2048x16_S2048x32_S2048x256_d1 (ix2 k (⟨208 + n.val, by omega⟩ : Fin 256)) 6 (show 6 < 8 by decide) S2048x16 a6 rfl rfl 208 rfl (ix2 k n) ?_ ?_
  · intro b hb
    match b, hb with
    | ⟨0, _⟩, _ => rfl
    | ⟨1, _⟩, hb => exact absurd rfl hb
  · rfl

/-- A column of piece 0 of the keys' table. -/
theorem tk_piece0 (a0 : FVec Ideal S2048x16 .f32) (a1 : FVec Ideal S2048x16 .f32) (a2 : FVec Ideal S2048x16 .f32) (a3 : FVec Ideal S2048x16 .f32) (a4 : FVec Ideal S2048x64 .f32) (k : Fin 2048) (n : Fin 16) :
    concatenate S2048x128 1 [⟨S2048x16, a0⟩, ⟨S2048x16, a1⟩, ⟨S2048x16, a2⟩, ⟨S2048x16, a3⟩, ⟨S2048x64, a4⟩] concatenates_S2048x16_S2048x16_S2048x16_S2048x16_S2048x64_S2048x128_d1 (ix2 k (⟨0 + n.val, by omega⟩ : Fin 128)) = a0 (ix2 k n) := by
  refine concatenate_apply_piece (t := S2048x128) 1 [⟨S2048x16, a0⟩, ⟨S2048x16, a1⟩, ⟨S2048x16, a2⟩, ⟨S2048x16, a3⟩, ⟨S2048x64, a4⟩]
    concatenates_S2048x16_S2048x16_S2048x16_S2048x16_S2048x64_S2048x128_d1 (ix2 k (⟨0 + n.val, by omega⟩ : Fin 128)) 0 (show 0 < 5 by decide) S2048x16 a0 rfl rfl 0 rfl (ix2 k n) ?_ ?_
  · intro b hb
    match b, hb with
    | ⟨0, _⟩, _ => rfl
    | ⟨1, _⟩, hb => exact absurd rfl hb
  · rfl

/-- A column of piece 1 of the keys' table. -/
theorem tk_piece1 (a0 : FVec Ideal S2048x16 .f32) (a1 : FVec Ideal S2048x16 .f32) (a2 : FVec Ideal S2048x16 .f32) (a3 : FVec Ideal S2048x16 .f32) (a4 : FVec Ideal S2048x64 .f32) (k : Fin 2048) (n : Fin 16) :
    concatenate S2048x128 1 [⟨S2048x16, a0⟩, ⟨S2048x16, a1⟩, ⟨S2048x16, a2⟩, ⟨S2048x16, a3⟩, ⟨S2048x64, a4⟩] concatenates_S2048x16_S2048x16_S2048x16_S2048x16_S2048x64_S2048x128_d1 (ix2 k (⟨16 + n.val, by omega⟩ : Fin 128)) = a1 (ix2 k n) := by
  refine concatenate_apply_piece (t := S2048x128) 1 [⟨S2048x16, a0⟩, ⟨S2048x16, a1⟩, ⟨S2048x16, a2⟩, ⟨S2048x16, a3⟩, ⟨S2048x64, a4⟩]
    concatenates_S2048x16_S2048x16_S2048x16_S2048x16_S2048x64_S2048x128_d1 (ix2 k (⟨16 + n.val, by omega⟩ : Fin 128)) 1 (show 1 < 5 by decide) S2048x16 a1 rfl rfl 16 rfl (ix2 k n) ?_ ?_
  · intro b hb
    match b, hb with
    | ⟨0, _⟩, _ => rfl
    | ⟨1, _⟩, hb => exact absurd rfl hb
  · rfl

/-- A column of piece 2 of the keys' table. -/
theorem tk_piece2 (a0 : FVec Ideal S2048x16 .f32) (a1 : FVec Ideal S2048x16 .f32) (a2 : FVec Ideal S2048x16 .f32) (a3 : FVec Ideal S2048x16 .f32) (a4 : FVec Ideal S2048x64 .f32) (k : Fin 2048) (n : Fin 16) :
    concatenate S2048x128 1 [⟨S2048x16, a0⟩, ⟨S2048x16, a1⟩, ⟨S2048x16, a2⟩, ⟨S2048x16, a3⟩, ⟨S2048x64, a4⟩] concatenates_S2048x16_S2048x16_S2048x16_S2048x16_S2048x64_S2048x128_d1 (ix2 k (⟨32 + n.val, by omega⟩ : Fin 128)) = a2 (ix2 k n) := by
  refine concatenate_apply_piece (t := S2048x128) 1 [⟨S2048x16, a0⟩, ⟨S2048x16, a1⟩, ⟨S2048x16, a2⟩, ⟨S2048x16, a3⟩, ⟨S2048x64, a4⟩]
    concatenates_S2048x16_S2048x16_S2048x16_S2048x16_S2048x64_S2048x128_d1 (ix2 k (⟨32 + n.val, by omega⟩ : Fin 128)) 2 (show 2 < 5 by decide) S2048x16 a2 rfl rfl 32 rfl (ix2 k n) ?_ ?_
  · intro b hb
    match b, hb with
    | ⟨0, _⟩, _ => rfl
    | ⟨1, _⟩, hb => exact absurd rfl hb
  · rfl

/-- A column of piece 3 of the keys' table. -/
theorem tk_piece3 (a0 : FVec Ideal S2048x16 .f32) (a1 : FVec Ideal S2048x16 .f32) (a2 : FVec Ideal S2048x16 .f32) (a3 : FVec Ideal S2048x16 .f32) (a4 : FVec Ideal S2048x64 .f32) (k : Fin 2048) (n : Fin 16) :
    concatenate S2048x128 1 [⟨S2048x16, a0⟩, ⟨S2048x16, a1⟩, ⟨S2048x16, a2⟩, ⟨S2048x16, a3⟩, ⟨S2048x64, a4⟩] concatenates_S2048x16_S2048x16_S2048x16_S2048x16_S2048x64_S2048x128_d1 (ix2 k (⟨48 + n.val, by omega⟩ : Fin 128)) = a3 (ix2 k n) := by
  refine concatenate_apply_piece (t := S2048x128) 1 [⟨S2048x16, a0⟩, ⟨S2048x16, a1⟩, ⟨S2048x16, a2⟩, ⟨S2048x16, a3⟩, ⟨S2048x64, a4⟩]
    concatenates_S2048x16_S2048x16_S2048x16_S2048x16_S2048x64_S2048x128_d1 (ix2 k (⟨48 + n.val, by omega⟩ : Fin 128)) 3 (show 3 < 5 by decide) S2048x16 a3 rfl rfl 48 rfl (ix2 k n) ?_ ?_
  · intro b hb
    match b, hb with
    | ⟨0, _⟩, _ => rfl
    | ⟨1, _⟩, hb => exact absurd rfl hb
  · rfl

/-- A row among the first 416 is a column of the input matrix. -/
theorem layWin_lo (w : FVec Ideal S1024x928 .f32) (n : Fin 416) (k : Fin 1024) :
    layWin w (ix2 (⟨0 + n.val, by omega⟩ : Fin 1024) k) = w (ix2 k (⟨n.val, by omega⟩ : Fin 928)) := by
  refine (win_piece0 _ _ _ _ _ _ _).trans ?_
  pointwise

/-- The rotary columns' second half, negated. -/
theorem layWin_neg (w : FVec Ideal S1024x928 .f32) (n : Fin 16) (k : Fin 1024) :
    layWin w (ix2 (⟨416 + n.val, by omega⟩ : Fin 1024) k) = -w (ix2 k (⟨400 + n.val, by omega⟩ : Fin 928)) := by
  refine (win_piece1 _ _ _ _ _ _ _).trans ?_
  pointwise
  try rfl

/-- The rotary columns' first half. -/
theorem layWin_mid (w : FVec Ideal S1024x928 .f32) (n : Fin 16) (k : Fin 1024) :
    layWin w (ix2 (⟨432 + n.val, by omega⟩ : Fin 1024) k) = w (ix2 k (⟨384 + n.val, by omega⟩ : Fin 928)) := by
  refine (win_piece2 _ _ _ _ _ _ _).trans ?_
  pointwise

/-- A query row of a head. -/
theorem layWuq_head (uq : FVec Ideal S256x768 .f32) (h : Fin 8) (j : Fin 128) (k : Fin 256) :
    layWuq uq (ix2 (⟨h.val * 128 + j.val, by omega⟩ : Fin 1280) k) = if hj : j.val < 96 then uq (ix2 k (⟨h.val * 96 + j.val, by omega⟩ : Fin 768)) else 0 := by
  pointwise [layWuq]
  rw [dif_pos (by omega)]

/-- A rotary row of a head, swapped and negated. -/
theorem layWuq_rot (uq : FVec Ideal S256x768 .f32) (h : Fin 8) (n : Fin 32) (k : Fin 256) :
    layWuq uq (ix2 (⟨1024 + h.val * 32 + n.val, by omega⟩ : Fin 1280) k) = if hn : n.val < 16 then -uq (ix2 k (⟨h.val * 96 + (64 + (16 + n.val)), by omega⟩ : Fin 768))
      else uq (ix2 k (⟨h.val * 96 + (64 + (n.val - 16)), by omega⟩ : Fin 768)) := by
  refine (congrArg (fun r => layWuq uq (ix2 r k)) (a₂ := (⟨1024 + (h.val * 32 + n.val), by omega⟩ : Fin 1280)) (Fin.ext (Nat.add_assoc _ _ _))).trans ?_
  pointwise [layWuq]

/-- Two places compared, as a bit. -/
theorem same_bit : ∀ a b : Fin 32, IntOp.cmpi CmpIPredicate.eq (IntOp.addi (BitVec.ofNat 32 a.val) 0#32) (BitVec.ofNat 32 b.val)
    = if a.val = b.val then 1#1 else 0#1 := by decide +kernel

/-- Two places compared, as a number. -/
theorem place_bit (a b : Fin 32) : (FloatOps.uitofp FTy.f32
    (IntOp.cmpi CmpIPredicate.eq (IntOp.addi (BitVec.ofNat 32 a.val) 0#32) (BitVec.ofNat 32 b.val)) : Ideal .f32) = if a.val = b.val then 1 else 0 := by
  rw [same_bit a b]
  split
  · show ((((1#1 : BitVec 1).toNat : ℝ)) : EReal) = 1
    simp
  · show ((((0#1 : BitVec 1).toNat : ℝ)) : EReal) = 0
    simp

/-- The places' entries. -/
theorem place_at (n : Fin 32) (j : Fin 128) : place (ix2 n j) = if hj : j.val < 64 then 0 else if hj : j.val - 64 < 32 then (if n.val = j.val - 64 then 1 else 0) else 0 := by
  pointwise [place]
  refine dite_congr rfl (fun _ => rfl) fun h0 => dite_congr rfl (fun h1 => ?_) fun _ => rfl
  exact place_bit n ⟨j.val - 64, h1⟩

/-- The latent keys' rows. -/
theorem layWk_top (ukv : FVec Ideal S128x1024 .f32) (i : Fin 128) (h : Fin 8) (j : Fin 128) :
    layWk ukv (ix2 (⟨0 + i.val, by omega⟩ : Fin 256) (⟨h.val * 128 + j.val, by omega⟩ : Fin 1024))
      = if hj : j.val < 64 then ukv (ix2 i (⟨h.val * 128 + j.val, by omega⟩ : Fin 1024)) else 0 := by
  refine (wk_piece0 _ _ _ _ _ _).trans ?_
  pointwise
  try rfl

/-- The first places' rows. -/
theorem layWk_one (ukv : FVec Ideal S128x1024 .f32) (n : Fin 32) (h : Fin 8) (j : Fin 128) :
    layWk ukv (ix2 (⟨128 + n.val, by omega⟩ : Fin 256) (⟨h.val * 128 + j.val, by omega⟩ : Fin 1024)) = place (ix2 n j) := by
  refine (wk_piece1 _ _ _ _ _ _).trans ?_
  pointwise

/-- The second places' rows. -/
theorem layWk_two (ukv : FVec Ideal S128x1024 .f32) (n : Fin 32) (h : Fin 8) (j : Fin 128) :
    layWk ukv (ix2 (⟨160 + n.val, by omega⟩ : Fin 256) (⟨h.val * 128 + j.val, by omega⟩ : Fin 1024)) = place (ix2 n j) := by
  refine (wk_piece2 _ _ _ _ _ _).trans ?_
  pointwise

/-- The rows below are zero. -/
theorem layWk_low (ukv : FVec Ideal S128x1024 .f32) (n : Fin 64) (q : Fin 1024) : layWk ukv (ix2 (⟨192 + n.val, by omega⟩ : Fin 256) q) = 0 := by
  refine (wk_piece3 _ _ _ _ _ _).trans ?_
  pointwise
  try rfl

/-- A value row of a head. -/
theorem layWv_at (ukv : FVec Ideal S128x1024 .f32) (h : Fin 8) (j : Fin 64) (k : Fin 128) :
    layWv ukv (ix2 (⟨h.val * 64 + j.val, by omega⟩ : Fin 512) k) = ukv (ix2 k (⟨h.val * 128 + (64 + j.val), by omega⟩ : Fin 1024)) := by
  pointwise [layWv]

/-- The scale on a head's first 64 rows. -/
theorem layTq_nope (ang : FVec Ideal S2048x16 .f32) (n : Fin 64) (t : Fin 2048) : layTq ang (ix2 (⟨0 + n.val, by omega⟩ : Fin 256) t) = scale := by
  refine (layTq_at ang _ t).trans ((tq_piece0 _ _ _ _ _ _ _ _ t n).trans ?_)
  pointwise
  try rfl

/-- The scaled cosines on the first half. -/
theorem layTq_cos1 (ang : FVec Ideal S2048x16 .f32) (n : Fin 16) (t : Fin 2048) : layTq ang (ix2 (⟨64 + n.val, by omega⟩ : Fin 256) t) = Ideal.cos (ang (ix2 t n)) * scale := by
  refine (layTq_at ang _ t).trans ((tq_piece1 _ _ _ _ _ _ _ _ t n).trans ?_)
  pointwise
  try rfl

/-- The scaled cosines on the second half. -/
theorem layTq_cos2 (ang : FVec Ideal S2048x16 .f32) (n : Fin 16) (t : Fin 2048) : layTq ang (ix2 (⟨80 + n.val, by omega⟩ : Fin 256) t) = Ideal.cos (ang (ix2 t n)) * scale := by
  refine (layTq_at ang _ t).trans ((tq_piece2 _ _ _ _ _ _ _ _ t n).trans ?_)
  pointwise
  try rfl

/-- Zero on a head's last 32 rows. -/
theorem layTq_zero (ang : FVec Ideal S2048x16 .f32) (n : Fin 32) (t : Fin 2048) : layTq ang (ix2 (⟨96 + n.val, by omega⟩ : Fin 256) t) = 0 := by
  refine (layTq_at ang _ t).trans ((tq_piece3 _ _ _ _ _ _ _ _ t n).trans ?_)
  pointwise
  try rfl

/-- The scaled sines on the first half. -/
theorem layTq_sin1 (ang : FVec Ideal S2048x16 .f32) (n : Fin 16) (t : Fin 2048) : layTq ang (ix2 (⟨192 + n.val, by omega⟩ : Fin 256) t) = Ideal.sin (ang (ix2 t n)) * scale := by
  refine (layTq_at ang _ t).trans ((tq_piece5 _ _ _ _ _ _ _ _ t n).trans ?_)
  pointwise
  try rfl

/-- The scaled sines on the second half. -/
theorem layTq_sin2 (ang : FVec Ideal S2048x16 .f32) (n : Fin 16) (t : Fin 2048) : layTq ang (ix2 (⟨208 + n.val, by omega⟩ : Fin 256) t) = Ideal.sin (ang (ix2 t n)) * scale := by
  refine (layTq_at ang _ t).trans ((tq_piece6 _ _ _ _ _ _ _ _ t n).trans ?_)
  pointwise
  try rfl

/-- The keys' table, piece 0. -/
theorem layTk_cos1 (ang : FVec Ideal S2048x16 .f32) (n : Fin 16) (t : Fin 2048) : layTk ang (ix2 t (⟨0 + n.val, by omega⟩ : Fin 128)) = Ideal.cos (ang (ix2 t n)) := by
  refine (tk_piece0 _ _ _ _ _ t n).trans ?_
  pointwise
  try rfl

/-- The keys' table, piece 1. -/
theorem layTk_cos2 (ang : FVec Ideal S2048x16 .f32) (n : Fin 16) (t : Fin 2048) : layTk ang (ix2 t (⟨16 + n.val, by omega⟩ : Fin 128)) = Ideal.cos (ang (ix2 t n)) := by
  refine (tk_piece1 _ _ _ _ _ t n).trans ?_
  pointwise
  try rfl

/-- The keys' table, piece 2. -/
theorem layTk_sin1 (ang : FVec Ideal S2048x16 .f32) (n : Fin 16) (t : Fin 2048) : layTk ang (ix2 t (⟨32 + n.val, by omega⟩ : Fin 128)) = Ideal.sin (ang (ix2 t n)) := by
  refine (tk_piece2 _ _ _ _ _ t n).trans ?_
  pointwise
  try rfl

/-- The keys' table, piece 3. -/
theorem layTk_sin2 (ang : FVec Ideal S2048x16 .f32) (n : Fin 16) (t : Fin 2048) : layTk ang (ix2 t (⟨48 + n.val, by omega⟩ : Fin 128)) = Ideal.sin (ang (ix2 t n)) := by
  refine (tk_piece3 _ _ _ _ _ t n).trans ?_
  pointwise
  try rfl

end Cert.Kernel6Ideal.Value

end
-- ==== Proof.PremixFold.lean ====
module

public import proofs.«01_k».proof.Proof.PremixHost

/-!
# The latent tokens' Fourier groups: the operand and the reference

The reference takes a group's 64 channels through the cosines, or the sines, of the Fourier transform and then through the
group's map. The program multiplies the table and the map first, and lays the products of four groups out on a diagonal of
256 by 256, the cosines' left of the sines'.
-/

@[expose] public section

set_option maxRecDepth 16384

noncomputable section

open Idealize.ShloMosaic Idealize.ShloMosaic.TcCoe Idealize.SL.Sem

namespace Cert.Reference6Ideal.Value
open Cert.Reference6Ideal Cert.Reference6Ideal.Gen

/-- A table of the transform over each group's channels of the projected tokens, and the groups' maps. -/
def outz (p : FVec Ideal S4x2048x928 .f32) (fm : FVec Ideal S8x64x64 .f32) (tab : FVec Ideal S64x64 .f32) : FVec Ideal S8192x512 .bf16 :=
  truncf .bf16 (shapeCast S8192x512 (transpose S4x2048x8x64 [2, 3, 0, 1] (Host.dotGeneral dot_S8x64x64_S4x2048x8x64_S8x64x4x2048_1_3_2_01_0_2 none fm (Host.dotGeneral dot_S4x2048x8x64_S64x64_S4x2048x8x64_3_0_012_1_n_n none (shapeCast S4x2048x8x64 (extractStridedSlice S4x2048x512 ![0, 0, 416] p slices_S4x2048x928_S4x2048x512_0_0_416) shapeCasts_S4x2048x512_S4x2048x8x64) tab)) transposes_S8x64x4x2048_S4x2048x8x64_2_3_0_1) shapeCasts_S4x2048x8x64_S8192x512) bitsLt_bf16_f32

/-- A group's entry at a token. -/
theorem outz_at (p : FVec Ideal S4x2048x928 .f32) (fm : FVec Ideal S8x64x64 .f32) (tab : FVec Ideal S64x64 .f32) (r : Fin 8192) (g : Fin 8) (d : Fin 64) :
    outz p fm tab (ix2 r (⟨g.val * 64 + d.val, by omega⟩ : Fin 512))
      = ∑ c : Fin 64, fm (ix3 g c d) * ∑ i : Fin 64, p (ix3 (⟨r.val / 2048, by omega⟩ : Fin 4) (⟨r.val % 2048, by omega⟩ : Fin 2048) (⟨416 + (g.val * 64 + i.val), by omega⟩ : Fin 928)) * tab (ix2 i c) := by
  pointwise [outz]

/-- The same at a column of the result. -/
theorem outz_col (p : FVec Ideal S4x2048x928 .f32) (fm : FVec Ideal S8x64x64 .f32) (tab : FVec Ideal S64x64 .f32) (r : Fin 8192) (q : Fin 512) (g : Fin 8) (d : Fin 64)
    (hq : q.val = g.val * 64 + d.val) : outz p fm tab (ix2 r q)
      = ∑ c : Fin 64, fm (ix3 g c d) * ∑ i : Fin 64, p (ix3 (⟨r.val / 2048, by omega⟩ : Fin 4) (⟨r.val % 2048, by omega⟩ : Fin 2048) (⟨416 + (g.val * 64 + i.val), by omega⟩ : Fin 928)) * tab (ix2 i c) := by
  exact (congrArg (fun q => outz p fm tab (ix2 r q)) (Fin.ext hq)).trans (outz_at p fm tab r g d)

end Cert.Reference6Ideal.Value

namespace Cert.Kernel6Ideal.Value
open Cert.Kernel6Ideal Cert.Kernel6Ideal.Gen

/-- The table's product with each group's map. -/
def folded (fm : FVec Ideal S8x64x64 .f32) (tab : FVec Ideal S64x64 .f32) : FVec Ideal S8x64x64 .f32 :=
  ((transpose S8x64x64 [0, 2, 1] (Host.dotGeneral dot_S8x64x64_S64x64_S8x64x64_1_1_02_0_n_n none fm tab) transposes_S8x64x64_S8x64x64_0_2_1))

/-- Four groups' matrices on a diagonal. -/
def diag (w : FVec Ideal S4x64x64 .f32) : FVec Ideal S256x256 .f32 :=
  (shapeCast S256x256 (mulf (broadcastInDim S4x64x4x64 ![0, 1, 2, 3] bcast_S4x1x4x1_S4x64x4x64_0_1_2_3 (broadcastInDim S4x1x4x1 ![0, 2] bcast_S4x4_S4x1x4x1_0_2 (uitofp .f32 (cmpi .eq (addi (iotaInDim S4x4 32 0) (broadcastInDim S4x4 ![] bcast_S_S4x4 (constantI S_ 32 0#32))) (iotaInDim S4x4 32 1))))) (broadcastInDim S4x64x4x64 ![0, 1, 2, 3] bcast_S4x64x1x64_S4x64x4x64_0_1_2_3 (broadcastInDim S4x64x1x64 ![0, 1, 3] bcast_S4x64x64_S4x64x1x64_0_1_3 w))) shapeCasts_S4x64x4x64_S256x256)

/-- The Fourier groups' operand. -/
def layWcs (fm : FVec Ideal S8x64x64 .f32) (cc sc : FVec Ideal S64x64 .f32) : FVec Ideal S512x512 .bf16 :=
  ((truncf .bf16 (concatenate S512x512 0 [⟨S256x512, (concatenate S256x512 1 [⟨S256x256, (diag (extractStridedSlice S4x64x64 ![0, 0, 0] (folded fm cc) slices_S8x64x64_S4x64x64_0_0_0))⟩, ⟨S256x256, (diag (extractStridedSlice S4x64x64 ![0, 0, 0] (folded fm sc) slices_S8x64x64_S4x64x64_0_0_0))⟩] concatenates_S256x256_S256x256_S256x512_d1)⟩, ⟨S256x512, (concatenate S256x512 1 [⟨S256x256, (diag (extractStridedSlice S4x64x64 ![4, 0, 0] (folded fm cc) slices_S8x64x64_S4x64x64_4_0_0))⟩, ⟨S256x256, (diag (extractStridedSlice S4x64x64 ![4, 0, 0] (folded fm sc) slices_S8x64x64_S4x64x64_4_0_0))⟩] concatenates_S256x256_S256x256_S256x512_d1)⟩] concatenates_S256x512_S256x512_S512x512_d0) bitsLt_bf16_f32))

/-- A product's entry. -/
theorem folded_at (fm : FVec Ideal S8x64x64 .f32) (tab : FVec Ideal S64x64 .f32) (g : Fin 8) (i d : Fin 64) :
    folded fm tab (ix3 g i d) = ∑ c : Fin 64, fm (ix3 g c d) * tab (ix2 i c) := by
  pointwise [folded]

/-- The mark of equal numbers below four. -/
theorem four_bit (a b : Fin 4) : uitofp (F := Ideal) (s := S4x4) .f32 (cmpi .eq (addi (iotaInDim S4x4 32 0) (broadcastInDim S4x4 ![] bcast_S_S4x4 (constantI S_ 32 0#32))) (iotaInDim S4x4 32 1)) (ix2 a b)
    = if a = b then 1 else 0 := by
  have h : ∀ a b : Fin 4, IntOp.cmpi CmpIPredicate.eq (IntOp.addi (BitVec.ofNat 32 a.val) 0#32) (BitVec.ofNat 32 b.val) = if a = b then 1#1 else 0#1 := by decide
  show (FloatOps.uitofp FTy.f32 (IntOp.cmpi CmpIPredicate.eq (IntOp.addi (BitVec.ofNat 32 a.val) 0#32) (BitVec.ofNat 32 b.val)) : Ideal .f32) = _
  rw [h a b]
  split
  · show ((((1#1 : BitVec 1).toNat : ℝ)) : EReal) = 1
    simp
  · show ((((0#1 : BitVec 1).toNat : ℝ)) : EReal) = 0
    simp

/-- A diagonal's entry. -/
theorem diag_at (w : FVec Ideal S4x64x64 .f32) (a b : Fin 4) (i j : Fin 64) :
    diag w (ix2 (⟨a.val * 64 + i.val, by omega⟩ : Fin 256) (⟨b.val * 64 + j.val, by omega⟩ : Fin 256)) = if a = b then w (ix3 a i j) else 0 := by
  have h : diag w (ix2 (⟨a.val * 64 + i.val, by omega⟩ : Fin 256) (⟨b.val * 64 + j.val, by omega⟩ : Fin 256))
      = uitofp (F := Ideal) (s := S4x4) .f32 (cmpi .eq (addi (iotaInDim S4x4 32 0) (broadcastInDim S4x4 ![] bcast_S_S4x4 (constantI S_ 32 0#32))) (iotaInDim S4x4 32 1)) (ix2 a b) * w (ix3 a i j) := by
    unfold diag
    generalize uitofp (F := Ideal) (s := S4x4) .f32 (cmpi .eq (addi (iotaInDim S4x4 32 0) (broadcastInDim S4x4 ![] bcast_S_S4x4 (constantI S_ 32 0#32))) (iotaInDim S4x4 32 1)) = e
    pointwise
  rw [h, four_bit]
  by_cases hab : a = b
  · rw [if_pos hab, if_pos hab, one_mul]
  · rw [if_neg hab, if_neg hab, zero_mul]

/-- Two matrices side by side. -/
theorem beside_at (A B : FVec Ideal S256x256 .f32) (r : Fin 256) (q : Fin 512) :
    concatenate S256x512 1 [⟨S256x256, A⟩, ⟨S256x256, B⟩] concatenates_S256x256_S256x256_S256x512_d1 (ix2 r q)
      = if h : q.val < 256 then A (ix2 r ⟨q.val, h⟩) else B (ix2 r ⟨q.val - 256, by omega⟩) := by
  pointwise

/-- Two matrices one above the other. -/
theorem above_at (A B : FVec Ideal S256x512 .f32) (r q : Fin 512) :
    concatenate S512x512 0 [⟨S256x512, A⟩, ⟨S256x512, B⟩] concatenates_S256x512_S256x512_S512x512_d0 (ix2 r q)
      = if h : r.val < 256 then A (ix2 ⟨r.val, h⟩ q) else B (ix2 ⟨r.val - 256, by omega⟩ q) := by
  pointwise

/-- The operand's entry, of the cosines, in the rows of four groups. -/
theorem layWcs_cos (fm : FVec Ideal S8x64x64 .f32) (cc sc : FVec Ideal S64x64 .f32) (a : Fin 2) (h h' : Fin 4) (i j : Fin 64) :
    layWcs fm cc sc (ix2 (⟨a.val * 256 + (h.val * 64 + i.val), by omega⟩ : Fin 512) (⟨0 + (h'.val * 64 + j.val), by omega⟩ : Fin 512))
      = if h = h' then ∑ c : Fin 64, fm (ix3 (⟨a.val * 4 + h'.val, by omega⟩ : Fin 8) c j) * cc (ix2 i c) else 0 := by
  unfold layWcs
  refine (above_at _ _ _ _).trans ?_
  match a with
  | ⟨0, _⟩ =>
    rw [dif_pos (by simp only []; omega)]
    refine (beside_at _ _ _ _).trans ?_
    rw [dif_pos (by simp only []; omega)]
    refine Eq.trans (congrArg₂ (fun r q => diag _ (ix2 r q)) (x' := (⟨h.val * 64 + i.val, by omega⟩ : Fin 256)) (y' := (⟨h'.val * 64 + j.val, by omega⟩ : Fin 256))
      (Fin.ext (by simp only []; omega)) (Fin.ext (by simp only []; omega))) ((diag_at _ h h' i j).trans (ite_congr rfl (fun e => ?_) fun _ => rfl))
    subst e
    refine Eq.trans ?_ (folded_at _ _ _ i j)
    pointwise
  | ⟨1, _⟩ =>
    rw [dif_neg (by simp only []; omega)]
    refine (beside_at _ _ _ _).trans ?_
    rw [dif_pos (by simp only []; omega)]
    refine Eq.trans (congrArg₂ (fun r q => diag _ (ix2 r q)) (x' := (⟨h.val * 64 + i.val, by omega⟩ : Fin 256)) (y' := (⟨h'.val * 64 + j.val, by omega⟩ : Fin 256))
      (Fin.ext (by simp only []; omega)) (Fin.ext (by simp only []; omega))) ((diag_at _ h h' i j).trans (ite_congr rfl (fun e => ?_) fun _ => rfl))
    subst e
    refine Eq.trans ?_ (folded_at _ _ _ i j)
    pointwise

/-- The operand's entry, of the sines, in the rows of four groups. -/
theorem layWcs_sin (fm : FVec Ideal S8x64x64 .f32) (cc sc : FVec Ideal S64x64 .f32) (a : Fin 2) (h h' : Fin 4) (i j : Fin 64) :
    layWcs fm cc sc (ix2 (⟨a.val * 256 + (h.val * 64 + i.val), by omega⟩ : Fin 512) (⟨256 + (h'.val * 64 + j.val), by omega⟩ : Fin 512))
      = if h = h' then ∑ c : Fin 64, fm (ix3 (⟨a.val * 4 + h'.val, by omega⟩ : Fin 8) c j) * sc (ix2 i c) else 0 := by
  unfold layWcs
  refine (above_at _ _ _ _).trans ?_
  match a with
  | ⟨0, _⟩ =>
    rw [dif_pos (by simp only []; omega)]
    refine (beside_at _ _ _ _).trans ?_
    rw [dif_neg (by simp only []; omega)]
    refine Eq.trans (congrArg₂ (fun r q => diag _ (ix2 r q)) (x' := (⟨h.val * 64 + i.val, by omega⟩ : Fin 256)) (y' := (⟨h'.val * 64 + j.val, by omega⟩ : Fin 256))
      (Fin.ext (by simp only []; omega)) (Fin.ext (by simp only []; omega))) ((diag_at _ h h' i j).trans (ite_congr rfl (fun e => ?_) fun _ => rfl))
    subst e
    refine Eq.trans ?_ (folded_at _ _ _ i j)
    pointwise
  | ⟨1, _⟩ =>
    rw [dif_neg (by simp only []; omega)]
    refine (beside_at _ _ _ _).trans ?_
    rw [dif_neg (by simp only []; omega)]
    refine Eq.trans (congrArg₂ (fun r q => diag _ (ix2 r q)) (x' := (⟨h.val * 64 + i.val, by omega⟩ : Fin 256)) (y' := (⟨h'.val * 64 + j.val, by omega⟩ : Fin 256))
      (Fin.ext (by simp only []; omega)) (Fin.ext (by simp only []; omega))) ((diag_at _ h h' i j).trans (ite_congr rfl (fun e => ?_) fun _ => rfl))
    subst e
    refine Eq.trans ?_ (folded_at _ _ _ i j)
    pointwise

/-- A row of piece 4 of the projection's rows. -/
theorem win_piece4 (a0 : FVec Ideal S416x1024 .f32) (a1 : FVec Ideal S16x1024 .f32) (a2 : FVec Ideal S16x1024 .f32) (a3 : FVec Ideal S64x1024 .f32) (a4 : FVec Ideal S512x1024 .f32) (n : Fin 512) (k : Fin 1024) :
    concatenate S1024x1024 0 [⟨S416x1024, a0⟩, ⟨S16x1024, a1⟩, ⟨S16x1024, a2⟩, ⟨S64x1024, a3⟩, ⟨S512x1024, a4⟩] concatenates_S416x1024_S16x1024_S16x1024_S64x1024_S512x1024_S1024x1024_d0 (ix2 (⟨512 + n.val, by omega⟩ : Fin 1024) k) = a4 (ix2 n k) := by
  refine concatenate_apply_piece (t := S1024x1024) 0 [⟨S416x1024, a0⟩, ⟨S16x1024, a1⟩, ⟨S16x1024, a2⟩, ⟨S64x1024, a3⟩, ⟨S512x1024, a4⟩]
    concatenates_S416x1024_S16x1024_S16x1024_S64x1024_S512x1024_S1024x1024_d0 (ix2 (⟨512 + n.val, by omega⟩ : Fin 1024) k) 4 (show 4 < 5 by decide) S512x1024 a4 rfl rfl 512 rfl (ix2 n k) ?_ ?_
  · intro b hb
    match b, hb with
    | ⟨0, _⟩, hb => exact absurd rfl hb
    | ⟨1, _⟩, _ => rfl
  · rfl

/-- A row among the last 512 is a column of the input matrix. -/
theorem layWin_hi (w : FVec Ideal S1024x928 .f32) (n : Fin 512) (k : Fin 1024) :
    layWin w (ix2 (⟨512 + n.val, by omega⟩ : Fin 1024) k) = w (ix2 k (⟨416 + n.val, by omega⟩ : Fin 928)) := by
  refine (win_piece4 _ _ _ _ _ _ _).trans ?_
  pointwise

end Cert.Kernel6Ideal.Value

end
-- ==== Proof.PremixBlk.lean ====
module

public import proofs.«01_k».proof.Proof.PremixHost

/-!
# The latent tokens' queries, keys and values: the blocks a grid point reads

A grid point takes half of a request's tokens, their rows of the two tables, the request's modulation vectors, and every
matrix whole.
-/

@[expose] public section

set_option maxRecDepth 16384

noncomputable section

open Idealize.ShloMosaic Idealize.ShloMosaic.TcCoe Idealize.SL.Sem
open Idealize.ShloMosaic.Pipeline (Dat)

namespace Cert.Kernel6Ideal.Value
open Cert.Kernel6Ideal Cert.Kernel6Ideal.Gen

variable (m : (ℓ : Loc nD τ sig) → Buf (Elt Ideal) ℓ)

/-- The windows' block indices at a grid point. -/
theorem idx : ∀ t : Fin cfg0.N, win0_0.index t = ![t.val, 0] ∧ win0_1.index t = ![t.val / 2, 0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_10.index t = ![0, t.val % 2] ∧ win0_11.index t = ![t.val % 2, 0] ∧ win0_12.index t = ![0, t.val]
    ∧ win0_13.index t = ![t.val, 0] ∧ win0_14.index t = ![0, t.val] ∧ win0_9.index t = ![0, 0] ∧ win0_15.index t = ![t.val, 0]
    ∧ win0_16.index t = ![t.val, 0] :=
  (by decide +kernel : ∀ t : Fin grid0.N, _)

/-- A grid point's number. -/
def pt (t : Fin cfg0.N) : Fin 8 := ⟨t.val, t.isLt.trans_eq N_0⟩

set_option maxHeartbeats 2000000 in
/-- The tokens' operand when the call starts. -/
theorem V_x (c : Dev nD) : V m c main_v126 = shapeCast S8192x1024 (m ((c : Thread nD τ).loc main_arg0)) shapeCasts_S4x2048x1024_S8192x1024 := by
  unfold V
  simp only [hostOps0]
  after_results_simp <;> rfl

set_option maxHeartbeats 2000000 in
/-- The first scale's operand. -/
theorem V_g (c : Dev nD) : V m c main_v127 = broadcastInDim S1x1024 ![1] bcast_S1024_S1x1024_1 (m ((c : Thread nD τ).loc main_arg2)) := by
  unfold V
  simp only [hostOps0]
  after_results_simp <;> rfl

set_option maxHeartbeats 2000000 in
/-- The projection's operand. -/
theorem V_win (c : Dev nD) : V m c main_v8 = layWin (m ((c : Thread nD τ).loc main_arg3)) := by
  unfold V
  simp only [hostOps0]
  after_results_simp <;> rfl

set_option maxHeartbeats 2000000 in
/-- The query latents' scale's operand. -/
theorem V_qg (c : Dev nD) : V m c main_v128 = broadcastInDim S1x256 ![1] bcast_S256_S1x256_1 (m ((c : Thread nD τ).loc main_arg4)) := by
  unfold V
  simp only [hostOps0]
  after_results_simp <;> rfl

set_option maxHeartbeats 2000000 in
/-- The queries' operand. -/
theorem V_wuq (c : Dev nD) : V m c main_v21 = layWuq (m ((c : Thread nD τ).loc main_arg5)) := by
  unfold V
  simp only [hostOps0]
  after_results_simp <;> rfl

set_option maxHeartbeats 2000000 in
/-- The latent keys' scale's operand. -/
theorem V_kg (c : Dev nD) : V m c main_v129 = broadcastInDim S1x128 ![1] bcast_S128_S1x128_1 (m ((c : Thread nD τ).loc main_arg6)) := by
  unfold V
  simp only [hostOps0]
  after_results_simp <;> rfl

set_option maxHeartbeats 2000000 in
/-- The keys' operand. -/
theorem V_wk (c : Dev nD) : V m c main_v41 = layWk (m ((c : Thread nD τ).loc main_arg7)) := by
  unfold V
  simp only [hostOps0]
  after_results_simp <;> rfl

set_option maxHeartbeats 2000000 in
/-- The values' operand. -/
theorem V_wv (c : Dev nD) : V m c main_v45 = layWv (m ((c : Thread nD τ).loc main_arg7)) := by
  unfold V
  simp only [hostOps0]
  after_results_simp <;> rfl

set_option maxHeartbeats 2000000 in
/-- The queries' table's operand. -/
theorem V_tq (c : Dev nD) : V m c main_v63 = layTq (m ((c : Thread nD τ).loc main_arg9)) := by
  unfold V
  simp only [hostOps0]
  after_results_simp <;> rfl

set_option maxHeartbeats 2000000 in
/-- The keys' table's operand. -/
theorem V_tk (c : Dev nD) : V m c main_v65 = layTk (m ((c : Thread nD τ).loc main_arg9)) := by
  unfold V
  simp only [hostOps0]
  after_results_simp <;> rfl

/-- A row of the tokens laid out request by request. -/
theorem rows_at (x : FVec Ideal S4x2048x1024 .f32) (r : Fin 8192) (k : Fin 1024) : shapeCast S8192x1024 x shapeCasts_S4x2048x1024_S8192x1024 (ix2 r k)
    = x (ix3 (⟨r.val / 2048, by omega⟩ : Fin 4) (⟨r.val % 2048, by omega⟩ : Fin 2048) k) := by
  pointwise

/-- The tokens' block at a point. -/
theorem blk_x (c : Dev nD) (t : Fin cfg0.N) (i k : Fin 1024) : iblk m c 0 t (ix2 i k)
    = m ((c : Thread nD τ).loc main_arg0) (ix3 (⟨(pt t).val / 2, by omega⟩ : Fin 4) (⟨(pt t).val % 2 * 1024 + i.val, by omega⟩ : Fin 2048) k) := by
  refine Eq.trans (b := V m c main_v126 (ix2 (⟨(pt t).val * 1024 + i.val, by omega⟩ : Fin 8192) k)) (by blk_ext [iblk, pt, idx t]) ?_
  rw [V_x m c]
  refine (rows_at _ _ k).trans ?_
  blk_ext

/-- The modulation vectors' block is the request's row. -/
theorem blk_md (c : Dev nD) (t : Fin cfg0.N) (r : Fin 6) (k : Fin 1024) : iblk m c 1 t (ix3 0 r k)
    = m ((c : Thread nD τ).loc main_arg1) (ix3 (⟨(pt t).val / 2, by omega⟩ : Fin 8) r k) := by
  blk_ext [iblk, V, pt, idx t]

/-- A scale's block at every point. -/
theorem blk_g (c : Dev nD) (t : Fin cfg0.N) (k : Fin 1024) : iblk m c 2 t (ix2 0 k) = m ((c : Thread nD τ).loc main_arg2) (ix1 k) := by
  refine Eq.trans (b := V m c main_v127 _) (by blk_simp [iblk]; rfl) ?_
  rw [V_g m c]
  pointwise
  blk_ext [pt, idx t]

/-- A scale's block at every point. -/
theorem blk_qg (c : Dev nD) (t : Fin cfg0.N) (k : Fin 256) : iblk m c 4 t (ix2 0 k) = m ((c : Thread nD τ).loc main_arg4) (ix1 k) := by
  refine Eq.trans (b := V m c main_v128 _) (by blk_simp [iblk]; rfl) ?_
  rw [V_qg m c]
  pointwise
  blk_ext [pt, idx t]

/-- A scale's block at every point. -/
theorem blk_kg (c : Dev nD) (t : Fin cfg0.N) (k : Fin 128) : iblk m c 6 t (ix2 0 k) = m ((c : Thread nD τ).loc main_arg6) (ix1 k) := by
  refine Eq.trans (b := V m c main_v129 _) (by blk_simp [iblk]; rfl) ?_
  rw [V_kg m c]
  pointwise
  blk_ext [pt, idx t]

/-- A matrix's block is the matrix. -/
theorem blk_win (c : Dev nD) (t : Fin cfg0.N) (r : Fin 1024) (k : Fin 1024) : iblk m c 3 t (ix2 r k) = layWin (m ((c : Thread nD τ).loc main_arg3)) (ix2 r k) := by
  rw [← V_win m c]
  blk_ext [iblk, idx t]

/-- A matrix's block is the matrix. -/
theorem blk_wuq (c : Dev nD) (t : Fin cfg0.N) (r : Fin 1280) (k : Fin 256) : iblk m c 5 t (ix2 r k) = layWuq (m ((c : Thread nD τ).loc main_arg5)) (ix2 r k) := by
  rw [← V_wuq m c]
  blk_ext [iblk, idx t]

/-- A matrix's block is the matrix. -/
theorem blk_wk (c : Dev nD) (t : Fin cfg0.N) (r : Fin 256) (k : Fin 1024) : iblk m c 7 t (ix2 r k) = layWk (m ((c : Thread nD τ).loc main_arg7)) (ix2 r k) := by
  rw [← V_wk m c]
  blk_ext [iblk, idx t]

/-- A matrix's block is the matrix. -/
theorem blk_wv (c : Dev nD) (t : Fin cfg0.N) (r : Fin 512) (k : Fin 128) : iblk m c 8 t (ix2 r k) = layWv (m ((c : Thread nD τ).loc main_arg7)) (ix2 r k) := by
  rw [← V_wv m c]
  blk_ext [iblk, idx t]

/-- The queries' table's block is the point's half of its columns. -/
theorem blk_tq (c : Dev nD) (t : Fin cfg0.N) (r : Fin 256) (i : Fin 1024) : iblk m c 10 t (ix2 r i)
    = layTq (m ((c : Thread nD τ).loc main_arg9)) (ix2 r (⟨(pt t).val % 2 * 1024 + i.val, by omega⟩ : Fin 2048)) := by
  rw [← V_tq m c]
  blk_ext [iblk, pt, idx t]

/-- The keys' table's block is the point's half of its rows. -/
theorem blk_tk (c : Dev nD) (t : Fin cfg0.N) (i : Fin 1024) (k : Fin 128) : iblk m c 11 t (ix2 i k)
    = layTk (m ((c : Thread nD τ).loc main_arg9)) (ix2 (⟨(pt t).val % 2 * 1024 + i.val, by omega⟩ : Fin 2048) k) := by
  rw [← V_tk m c]
  blk_ext [iblk, pt, idx t]

end Cert.Kernel6Ideal.Value

end
-- ==== Proof.PremixBody.lean ====
module

public import proofs.«01_k».proof.Proof.PremixBlk

/-!
# The latent tokens' queries, keys and values: what a grid point stores

The three arrays a grid point stores, at an entry, as sums of products over the blocks it reads.
-/

@[expose] public section

set_option maxRecDepth 16384

noncomputable section

open Idealize.ShloMosaic Idealize.ShloMosaic.TcCoe Idealize.SL.Sem

namespace Cert.Kernel6Ideal.Value
open Cert.Kernel6Ideal Cert.Kernel6Ideal.Gen
open Cert.Kernel4Ideal.Value (modded projd latent)
open Cert.Reference6Ideal.Value (qlatent)

/-- The body's projection at a row and a column. -/
theorem pay3_at (x : Vec Ideal S1024x1024 .f32) (b s : Vec Ideal S1x1x1024 .f32) (g : Vec Ideal S1x1024 .f32)
    (w : Vec Ideal S1024x1024 .bf16) (i n : Fin 1024) : k0_pay3 (F := Ideal) x b s g w (ix2 i n)
      = projd (fun k => x (ix2 i k)) (fun k => g (ix2 0 k)) (fun k => s (ix3 0 0 k)) (fun k => b (ix3 0 0 k)) (fun k => w (ix2 n k)) := by
  pointwise [k0_pay3]
  rfl

/-- The mean of the squares of a row's first 256 products. -/
theorem pay6_at (x : Vec Ideal S1024x1024 .f32) (b s : Vec Ideal S1x1x1024 .f32) (g : Vec Ideal S1x1024 .f32)
    (w : Vec Ideal S1024x1024 .bf16) (i : Fin 1024) : k0_pay6 (F := Ideal) x b s g w (ix2 i 0)
      = Ideal.div (∑ n, k0_pay4 (F := Ideal) x b s g w (ix2 i n) * k0_pay4 (F := Ideal) x b s g w (ix2 i n)) (Ideal.ofBits .f32 0x43800000#32) := by
  pointwise [k0_pay6]
  try rfl

/-- The queries' products at a row and a token. -/
theorem pay7_at (z : FVec Ideal S1024x256 .f32) (f : FVec Ideal S1x256 .f32) (s : FVec Ideal S1024x1 .f32) (e : Ideal .f32)
    (w : Vec Ideal S1280x256 .bf16) (r : Fin 1280) (i : Fin 1024) : k0_pay7 (F := Ideal) z f s e w (ix2 r i)
      = ∑ k : Fin 256, w (ix2 r k) * (z (ix2 i k) * Ideal.rsqrt (s (ix2 i 0) + e) * f (ix2 0 k)) := by
  pointwise [k0_pay7]
  try rfl

/-- The latent keys and the rotary keys times their table, at a row and a column. -/
theorem pay20_at (z : FVec Ideal S1024x1024 .f32) (f : Vec Ideal S1x128 .f32) (tk : Vec Ideal S1024x128 .f32) (i : Fin 1024) (k : Fin 256) :
    k0_pay20 (F := Ideal) z (k0_pay19 z) f tk (ix2 i k)
      = if hk : k.val < 128 then latent (fun j => z (ix2 i (⟨256 + j.val, by omega⟩ : Fin 1024))) (fun j => f (ix2 0 j)) ⟨k.val, hk⟩
        else z (ix2 i (⟨384 + (k.val - 128), by omega⟩ : Fin 1024)) * tk (ix2 i (⟨k.val - 128, by omega⟩ : Fin 128)) := by
  pointwise [k0_pay20, k0_pay19]
  try rfl

/-- The keys at a token and a column. -/
theorem pay21_at (z : FVec Ideal S1024x1024 .f32) (v : FVec Ideal S1024x128 .f32) (f : Vec Ideal S1x128 .f32) (tk : Vec Ideal S1024x128 .f32)
    (w : Vec Ideal S256x1024 .bf16) (i q : Fin 1024) : k0_pay21 (F := Ideal) z v f tk w (ix2 i q)
      = ∑ k : Fin 256, k0_pay20 (F := Ideal) z v f tk (ix2 i k) * w (ix2 k q) := by
  pointwise [k0_pay21]
  try rfl

/-- The values at a row and a token. -/
theorem pay22_at (z : FVec Ideal S1024x1024 .f32) (v : FVec Ideal S1024x128 .f32) (f : Vec Ideal S1x128 .f32) (tk : Vec Ideal S1024x128 .f32)
    (w : Vec Ideal S512x128 .bf16) (r : Fin 512) (i : Fin 1024) : k0_pay22 (F := Ideal) z v f tk w (ix2 r i)
      = ∑ k : Fin 128, w (ix2 r k) * k0_pay20 (F := Ideal) z v f tk (ix2 i (⟨k.val, by omega⟩ : Fin 256)) := by
  pointwise [k0_pay22]
  try rfl

/-- A query of a head at a row: the head's product by the first table and, on the rotary rows, the swapped product by the second. -/
def headed (Q : Fin 1280 → EReal) (a b : Fin 128 → EReal) (h : Fin 8) (j : Fin 128) : EReal :=
  Q ⟨h.val * 128 + j.val, by omega⟩ * a j
    + if hj : j.val < 64 then 0
      else if hj : j.val - 64 < 32 then Q ⟨1024 + h.val * 32 + (j.val - 64), by omega⟩ * b ⟨64 + (j.val - 64), by omega⟩ else 0

/-- Head 0's queries at a row and a token. -/
theorem head0_at (z : FVec Ideal S1024x256 .f32) (f : FVec Ideal S1x256 .f32) (s : FVec Ideal S1024x1 .f32) (e : Ideal .f32) (w : Vec Ideal S1280x256 .bf16) (a b : Vec Ideal S128x1024 .f32) (j : Fin 128) (i : Fin 1024) : k0_pay10 (F := Ideal) z f s e w a b (ix2 j i)
    = headed (fun r => (k0_pay7 (F := Ideal) z f s e w) (ix2 r i)) (fun r => a (ix2 r i)) (fun r => b (ix2 r i)) 0 j := by
  unfold k0_pay10 k0_pay8 k0_pay9
  generalize k0_pay7 (F := Ideal) z f s e w = Q
  pointwise
  unfold headed
  rw [show (⟨(0 : Fin 8).val * 128 + j.val, by omega⟩ : Fin 1280) = ⟨j.val, by omega⟩ from Fin.ext (by simp)]
  rfl

/-- Head 1's queries at a row and a token. -/
theorem head1_at (z : FVec Ideal S1024x256 .f32) (f : FVec Ideal S1x256 .f32) (s : FVec Ideal S1024x1 .f32) (e : Ideal .f32) (w : Vec Ideal S1280x256 .bf16) (a b : Vec Ideal S128x1024 .f32) (j : Fin 128) (i : Fin 1024) : k0_pay11 (F := Ideal) z f s e w a b (ix2 j i)
    = headed (fun r => (k0_pay7 (F := Ideal) z f s e w) (ix2 r i)) (fun r => a (ix2 r i)) (fun r => b (ix2 r i)) 1 j := by
  unfold k0_pay11 k0_pay8 k0_pay9
  generalize k0_pay7 (F := Ideal) z f s e w = Q
  pointwise
  try rfl

/-- Head 2's queries at a row and a token. -/
theorem head2_at (z : FVec Ideal S1024x256 .f32) (f : FVec Ideal S1x256 .f32) (s : FVec Ideal S1024x1 .f32) (e : Ideal .f32) (w : Vec Ideal S1280x256 .bf16) (a b : Vec Ideal S128x1024 .f32) (j : Fin 128) (i : Fin 1024) : k0_pay12 (F := Ideal) z f s e w a b (ix2 j i)
    = headed (fun r => (k0_pay7 (F := Ideal) z f s e w) (ix2 r i)) (fun r => a (ix2 r i)) (fun r => b (ix2 r i)) 2 j := by
  unfold k0_pay12 k0_pay8 k0_pay9
  generalize k0_pay7 (F := Ideal) z f s e w = Q
  pointwise
  try rfl

/-- Head 3's queries at a row and a token. -/
theorem head3_at (z : FVec Ideal S1024x256 .f32) (f : FVec Ideal S1x256 .f32) (s : FVec Ideal S1024x1 .f32) (e : Ideal .f32) (w : Vec Ideal S1280x256 .bf16) (a : Vec Ideal S128x1024 .f32) (b : FVec Ideal S128x1024 .f32) (j : Fin 128) (i : Fin 1024) : k0_pay14 (F := Ideal) (k0_pay7 (F := Ideal) z f s e w) b (k0_pay13 z f s e w a) (ix2 j i)
    = headed (fun r => (k0_pay7 (F := Ideal) z f s e w) (ix2 r i)) (fun r => a (ix2 r i)) (fun r => b (ix2 r i)) 3 j := by
  unfold k0_pay14 k0_pay13 k0_pay8
  generalize k0_pay7 (F := Ideal) z f s e w = Q
  pointwise
  try rfl

/-- Head 4's queries at a row and a token. -/
theorem head4_at (Q : FVec Ideal S1280x1024 .f32) (a b : FVec Ideal S128x1024 .f32) (j : Fin 128) (i : Fin 1024) : k0_pay15 (F := Ideal) Q a b (ix2 j i)
    = headed (fun r => (Q) (ix2 r i)) (fun r => a (ix2 r i)) (fun r => b (ix2 r i)) 4 j := by
  unfold k0_pay15
  pointwise
  try rfl

/-- Head 5's queries at a row and a token. -/
theorem head5_at (Q : FVec Ideal S1280x1024 .f32) (a b : FVec Ideal S128x1024 .f32) (j : Fin 128) (i : Fin 1024) : k0_pay16 (F := Ideal) Q a b (ix2 j i)
    = headed (fun r => (Q) (ix2 r i)) (fun r => a (ix2 r i)) (fun r => b (ix2 r i)) 5 j := by
  unfold k0_pay16
  pointwise
  try rfl

/-- Head 6's queries at a row and a token. -/
theorem head6_at (Q : FVec Ideal S1280x1024 .f32) (a b : FVec Ideal S128x1024 .f32) (j : Fin 128) (i : Fin 1024) : k0_pay17 (F := Ideal) Q a b (ix2 j i)
    = headed (fun r => (Q) (ix2 r i)) (fun r => a (ix2 r i)) (fun r => b (ix2 r i)) 6 j := by
  unfold k0_pay17
  pointwise
  try rfl

/-- Head 7's queries at a row and a token. -/
theorem head7_at (Q : FVec Ideal S1280x1024 .f32) (a b : FVec Ideal S128x1024 .f32) (j : Fin 128) (i : Fin 1024) : k0_pay18 (F := Ideal) Q a b (ix2 j i)
    = headed (fun r => (Q) (ix2 r i)) (fun r => a (ix2 r i)) (fun r => b (ix2 r i)) 7 j := by
  unfold k0_pay18
  pointwise
  try rfl

section
variable (x0 : Vec Ideal S1024x1024 .f32) (x1 : Vec Ideal S1x6x1024 .f32) (x2 : Vec Ideal S1x1024 .f32) (x3 : Vec Ideal S1024x1024 .bf16)
  (x4 : Vec Ideal S1x256 .f32) (x5 : Vec Ideal S1280x256 .bf16) (x6 : Vec Ideal S1x128 .f32) (x7 : Vec Ideal S256x1024 .bf16)
  (x8 : Vec Ideal S512x128 .bf16) (x9 : Vec Ideal S512x512 .bf16) (x10 : Vec Ideal S256x1024 .f32) (x11 : Vec Ideal S1024x128 .f32)

/-- A row of the projection a grid point takes. -/
def zrow (i n : Fin 1024) : EReal :=
  projd (fun k => x0 (ix2 i k)) (fun k => x2 (ix2 0 k)) (fun k => x1 (ix3 0 1 k)) (fun k => x1 (ix3 0 0 k)) (fun k => x3 (ix2 n k))

/-- The queries' products a grid point takes. -/
def qrow (r : Fin 1280) (i : Fin 1024) : EReal :=
  ∑ k : Fin 256, x5 (ix2 r k) * qlatent (fun j => zrow x0 x1 x2 x3 i (⟨j.val, by omega⟩ : Fin 1024)) (fun j => x4 (ix2 0 j)) k

/-- The projection a grid point takes, at a row and a column. -/
theorem z_at (i n : Fin 1024) : k0_pay27 (F := Ideal) x0 x1 x2 x3 x4 x5 x6 x7 x8 x9 x10 x11 (ix2 i n) = zrow x0 x1 x2 x3 i n := by
  unfold k0_pay27
  refine (pay3_at _ _ _ _ _ i n).trans ?_
  unfold zrow
  pointwise
  done

/-- The projection's first columns. -/
theorem z4_at (i : Fin 1024) (n : Fin 256) : k0_pay28 (F := Ideal) x0 x1 x2 x3 x4 x5 x6 x7 x8 x9 x10 x11 (ix2 i n) = zrow x0 x1 x2 x3 i (⟨n.val, by omega⟩ : Fin 1024) := by
  refine Eq.trans ?_ (z_at x0 x1 x2 x3 x4 x5 x6 x7 x8 x9 x10 x11 i _)
  unfold k0_pay28 k0_pay27
  pointwise [k0_pay4]
  try rfl

/-- The queries' products at a row and a token. -/
theorem q_at (r : Fin 1280) (i : Fin 1024) : k0_pay31 (F := Ideal) x0 x1 x2 x3 x4 x5 x6 x7 x8 x9 x10 x11 (ix2 r i) = qrow x0 x1 x2 x3 x4 x5 r i := by
  unfold k0_pay31
  refine (pay7_at _ _ _ _ _ r i).trans ?_
  unfold qrow qlatent
  refine Finset.sum_congr rfl fun k _ => ?_
  have h30 : k0_pay30 (F := Ideal) x0 x1 x2 x3 x4 x5 x6 x7 x8 x9 x10 x11 (ix2 i 0)
      = Ideal.div (∑ n : Fin 256, zrow x0 x1 x2 x3 i (⟨n.val, by omega⟩ : Fin 1024) * zrow x0 x1 x2 x3 i (⟨n.val, by omega⟩ : Fin 1024)) (Ideal.ofBits .f32 0x43800000#32) := by
    unfold k0_pay30
    refine (pay6_at _ _ _ _ _ i).trans ?_
    refine congrArg (fun a => Ideal.div a _) (Finset.sum_congr rfl fun n _ => ?_)
    rw [← z4_at x0 x1 x2 x3 x4 x5 x6 x7 x8 x9 x10 x11 i n]
    rfl
  rw [z4_at, h30]
  refine congrArg₂ (· * ·) ?_ (congrArg₂ (· * ·) rfl ?_)
  · pointwise
    done
  · unfold k0_pay29
    pointwise [k0_pay5]
    done

/-- A grid point's stored queries, at a head's row and a token. -/
theorem outq_blk (h : Fin 8) (j : Fin 128) (i : Fin 1024) : out0_12 (F := Ideal) x0 x1 x2 x3 x4 x5 x6 x7 x8 x9 x10 x11 (ix2 (⟨h.val * 128 + j.val, by omega⟩ : Fin 1024) i)
    = headed (fun r => qrow x0 x1 x2 x3 x4 x5 r i) (fun r => x10 (ix2 (⟨r.val, by omega⟩ : Fin 256) i))
        (fun r => x10 (ix2 (⟨128 + r.val, by omega⟩ : Fin 256) i)) h j := by
  have hQ : (fun r => qrow x0 x1 x2 x3 x4 x5 r i) = fun r => k0_pay31 (F := Ideal) x0 x1 x2 x3 x4 x5 x6 x7 x8 x9 x10 x11 (ix2 r i) := funext fun r => (q_at x0 x1 x2 x3 x4 x5 x6 x7 x8 x9 x10 x11 r i).symm
  have ha : (fun r : Fin 128 => (x10 (ix2 (⟨r.val, by omega⟩ : Fin 256) i) : EReal)) = fun r => View.ld x10 r0_6 (ix2 r i) := funext fun r => by
    pointwise
    try done
  have hb : (fun r : Fin 128 => (x10 (ix2 (⟨128 + r.val, by omega⟩ : Fin 256) i) : EReal)) = fun r => View.ld x10 r0_7 (ix2 r i) := funext fun r => by
    pointwise
    try done
  have ha' : k0_pay32 (F := Ideal) x0 x1 x2 x3 x4 x5 x6 x7 x8 x9 x10 x11 = View.ld x10 r0_6 := by
    unfold k0_pay32
    pointwise [k0_pay8]
    try rfl
  have hb' : k0_pay33 (F := Ideal) x0 x1 x2 x3 x4 x5 x6 x7 x8 x9 x10 x11 = View.ld x10 r0_7 := by
    unfold k0_pay33
    pointwise [k0_pay9]
    try rfl
  rw [hQ, ha, hb]
  unfold out0_12
  rw [ha', hb']
  canon_tiles y hy

  · idx_vars y
    obtain rfl : i = y1 := Fin.ext hy1
    obtain rfl : h = 7 := Fin.ext (by omega)
    obtain rfl : j = y0 := Fin.ext (by omega)
    exact head7_at _ _ _ j i
  · idx_vars y
    obtain rfl : i = y1 := Fin.ext hy1
    obtain rfl : h = 6 := Fin.ext (by omega)
    obtain rfl : j = y0 := Fin.ext (by omega)
    exact head6_at _ _ _ j i
  · idx_vars y
    obtain rfl : i = y1 := Fin.ext hy1
    obtain rfl : h = 5 := Fin.ext (by omega)
    obtain rfl : j = y0 := Fin.ext (by omega)
    exact head5_at _ _ _ j i
  · idx_vars y
    obtain rfl : i = y1 := Fin.ext hy1
    obtain rfl : h = 4 := Fin.ext (by omega)
    obtain rfl : j = y0 := Fin.ext (by omega)
    exact head4_at _ _ _ j i
  · idx_vars y
    obtain rfl : i = y1 := Fin.ext hy1
    obtain rfl : h = 3 := Fin.ext (by omega)
    obtain rfl : j = y0 := Fin.ext (by omega)
    exact head3_at _ _ _ _ _ _ _ j i
  · idx_vars y
    obtain rfl : i = y1 := Fin.ext hy1
    obtain rfl : h = 2 := Fin.ext (by omega)
    obtain rfl : j = y0 := Fin.ext (by omega)
    exact head2_at _ _ _ _ _ _ _ j i
  · idx_vars y
    obtain rfl : i = y1 := Fin.ext hy1
    obtain rfl : h = 1 := Fin.ext (by omega)
    obtain rfl : j = y0 := Fin.ext (by omega)
    exact head1_at _ _ _ _ _ _ _ j i
  · idx_vars y
    obtain rfl : i = y1 := Fin.ext hy1
    obtain rfl : h = 0 := Fin.ext (by omega)
    obtain rfl : j = y0 := Fin.ext (by omega)
    exact head0_at _ _ _ _ _ _ _ j i

/-- A grid point's stored keys. -/
theorem outk_blk (i q : Fin 1024) : out0_13 (F := Ideal) x0 x1 x2 x3 x4 x5 x6 x7 x8 x9 x10 x11 (ix2 i q)
    = ∑ k : Fin 256, (if hk : k.val < 128 then latent (fun j => zrow x0 x1 x2 x3 i (⟨256 + j.val, by omega⟩ : Fin 1024)) (fun j => x6 (ix2 0 j)) ⟨k.val, hk⟩
        else zrow x0 x1 x2 x3 i (⟨384 + (k.val - 128), by omega⟩ : Fin 1024) * x11 (ix2 i (⟨k.val - 128, by omega⟩ : Fin 128))) * x7 (ix2 k q) := by
  unfold out0_13 k0_pay34
  canon_tiles y h
  idx_vars y
  obtain rfl : i = y0 := Fin.ext h0
  obtain rfl : q = y1 := Fin.ext h1
  refine (pay21_at _ _ _ _ _ i q).trans (Finset.sum_congr rfl fun k _ => ?_)
  rw [pay20_at]
  simp only [z_at]
  pointwise
  try rfl

/-- A grid point's stored values. -/
theorem outv_blk (r : Fin 512) (i : Fin 1024) : out0_14 (F := Ideal) x0 x1 x2 x3 x4 x5 x6 x7 x8 x9 x10 x11 (ix2 r i)
    = ∑ k : Fin 128, x8 (ix2 r k) * latent (fun j => zrow x0 x1 x2 x3 i (⟨256 + j.val, by omega⟩ : Fin 1024)) (fun j => x6 (ix2 0 j)) k := by
  unfold out0_14 k0_pay34
  canon_tiles y h
  idx_vars y
  obtain rfl : r = y0 := Fin.ext h0
  obtain rfl : i = y1 := Fin.ext h1
  refine (pay22_at _ _ _ _ _ r i).trans (Finset.sum_congr rfl fun k _ => ?_)
  rw [pay20_at, dif_pos (show (⟨k.val, by omega⟩ : Fin 256).val < 128 from k.isLt)]
  simp only [z_at]
  pointwise
  try rfl

end

end Cert.Kernel6Ideal.Value

end
-- ==== Proof.PremixMath.lean ====
module

public import proofs.«01_k».proof.Proof.PremixBody
public import proofs.«01_k».proof.Proof.AttnFinal

/-!
# The latent tokens' queries, keys and values: the arithmetic

The kernel turns a row by an angle with a second product, whose weights are the row's with the halves swapped and the
first half negated. Over the extended reals, a sum of products with negated weights is the negated sum where the products are
real. The rest holds of all numbers: the scale is a nonnegative real, and products with zero are zero.
-/

@[expose] public section

set_option maxRecDepth 16384

noncomputable section

open Idealize.ShloMosaic

namespace Cert.Turn
open Cert.Kernel4Ideal.Value (modded projd latent)
open Cert.Reference6Ideal.Value (qlatent turned scale)
open Cert.Kernel6Ideal.Value (headed)

/-- The number is real. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A sum of products of reals is real. -/
theorem IsReal.dot {n : ℕ} {f w : Fin n → EReal} (hf : ∀ k, IsReal (f k)) (hw : ∀ k, IsReal (w k)) : IsReal (∑ k, f k * w k) := by
  choose a ha using hf
  choose b hb using hw
  exact ⟨∑ k, a k * b k, by simp only [ha, hb, Cert.SoftmaxMath.coe_sum, EReal.coe_mul]⟩

/-- Negated weights negate a sum of products of reals. -/
theorem dot_neg {n : ℕ} {f w : Fin n → EReal} (hf : ∀ k, IsReal (f k)) (hw : ∀ k, IsReal (w k)) : ∑ k, f k * -w k = -∑ k, f k * w k := by
  choose a ha using hf
  choose b hb using hw
  simp only [ha, hb, ← EReal.coe_mul, ← EReal.coe_neg, ← Cert.SoftmaxMath.coe_sum]
  refine congrArg _ ?_
  simp [Finset.sum_neg_distrib]

/-- The small number under the root is a positive real. -/
theorem eps_pos : ∃ e : ℝ, 0 < e ∧ Ideal.ofBits .f32 0x358637BD#32 = (e : EReal) :=
  ⟨8796093 * (2 : ℝ) ^ (-43 : ℤ), by positivity, by simp [Ideal.ofBits, Ideal.ieee, -EReal.coe_mul]⟩

theorem word_1024 : Ideal.ofBits .f32 0x44800000#32 = ((1024 : ℝ) : EReal) := by
  simp [Ideal.ofBits, Ideal.ieee, -EReal.coe_mul]; norm_num

theorem word_256 : Ideal.ofBits .f32 0x43800000#32 = ((256 : ℝ) : EReal) := by
  simp [Ideal.ofBits, Ideal.ieee, -EReal.coe_mul]; norm_num

/-- The reciprocal root of the mean square of reals plus the small number is real. -/
theorem rms_real {n : ℕ} {v : Fin n → EReal} (hv : ∀ k, IsReal (v k)) {c : ℝ} (hc : 0 < c) :
    IsReal (Ideal.rsqrt (Ideal.div (∑ k, v k * v k) (c : EReal) + Ideal.ofBits .f32 0x358637BD#32)) := by
  choose a ha using hv
  obtain ⟨e, he, hw⟩ := eps_pos
  have h0 : 0 ≤ (∑ k, a k * a k) * (1 / c) := mul_nonneg (Finset.sum_nonneg fun k _ => mul_self_nonneg _) (by positivity)
  have h1 : 0 < (∑ k, a k * a k) * (1 / c) + e := by positivity
  have h2 : Ideal.div (∑ k, v k * v k) (c : EReal) + Ideal.ofBits .f32 0x358637BD#32 = (((∑ k, a k * a k) * (1 / c) + e : ℝ) : EReal) := by
    rw [Ideal.div_coe hc.ne', hw]
    simp only [ha, EReal.coe_add, EReal.coe_mul, Cert.SoftmaxMath.coe_sum]
  rw [h2, Ideal.rsqrt_coe, if_neg (not_lt.2 h1.le), if_neg h1.ne']
  exact ⟨_, rfl⟩

/-- A square is not negative. -/
theorem sq_nonneg (x : EReal) : 0 ≤ x * x := by
  induction x with
  | bot => simp
  | top => simp
  | coe r => exact_mod_cast mul_self_nonneg r

/-- A row's entry times the reciprocal root of its mean square is real, whatever the row: where the row holds an infinity,
the mean square is infinite and the reciprocal root is zero. -/
theorem normed_real {n : ℕ} (v : Fin n → EReal) {c : ℝ} (hc : 0 < c) (j : Fin n) :
    IsReal (v j * Ideal.rsqrt (Ideal.div (∑ k, v k * v k) (c : EReal) + Ideal.ofBits .f32 0x358637BD#32)) := by
  by_cases hv : ∀ k, IsReal (v k)
  · exact (hv j).mul (rms_real hv hc)
  · obtain ⟨k, hk⟩ := not_forall.1 hv
    obtain ⟨e, he, hw⟩ := eps_pos
    have h0 : v k * v k = ⊤ := by
      generalize v k = x at hk
      induction x with
      | bot => simp
      | top => simp
      | coe r => exact absurd ⟨r, rfl⟩ hk
    have h1 : ∑ k, v k * v k = ⊤ :=
      top_le_iff.1 (h0 ▸ Finset.single_le_sum (f := fun k => v k * v k) (fun i _ => sq_nonneg (v i)) (Finset.mem_univ k))
    have h2 : (0 : ℝ) < 1 / c := by positivity
    rw [h1, Ideal.div_coe hc.ne', EReal.top_mul_coe_of_pos h2, hw, EReal.top_add_coe, Ideal.rsqrt_top, mul_zero]
    exact ⟨0, rfl⟩

/-- A row modulated by reals is real. -/
theorem modded_real {x g s b : Fin 1024 → EReal} (hg : ∀ k, IsReal (g k)) (hs : ∀ k, IsReal (s k))
    (hb : ∀ k, IsReal (b k)) (k : Fin 1024) : IsReal (modded x g s b k) := by
  unfold modded
  rw [word_1024]
  exact ((normed_real x (by norm_num) k).mul ((hg k).mul (IsReal.add ⟨1, rfl⟩ (hs k)))).add (hb k)

/-- A query latent with real factors is real. -/
theorem qlatent_real {p f : Fin 256 → EReal} (hf : ∀ k, IsReal (f k)) (k : Fin 256) : IsReal (qlatent p f k) := by
  unfold qlatent
  rw [word_256]
  exact (normed_real p (by norm_num) k).mul (hf k)

/-- The scale multiplies a sum term by term. -/
theorem scale_add (x y : EReal) : (x + y) * scale = x * scale + y * scale := by
  have h : scale = ((Cert.KernelIdeal.Value.rs / Real.log 2 : ℝ) : EReal) := Cert.KernelIdeal.Value.scale_eq
  have h0 : 0 ≤ Cert.KernelIdeal.Value.rs / Real.log 2 :=
    div_nonneg (inv_nonneg.2 (Real.sqrt_nonneg _)) (Real.log_pos (by norm_num)).le
  rw [h]
  exact EReal.right_distrib_of_nonneg_of_ne_top (by exact_mod_cast h0) (EReal.coe_ne_top _) _ _

/-- A sum over the 256 rows, block by block. -/
theorem sum256 (f : Fin 256 → EReal) : ∑ k, f k = (∑ k : Fin 128, f ⟨k.val, by omega⟩)
    + ((∑ n : Fin 32, f ⟨128 + n.val, by omega⟩) + ((∑ n : Fin 32, f ⟨160 + n.val, by omega⟩) + ∑ n : Fin 64, f ⟨192 + n.val, by omega⟩)) := by
  refine (Fin.sum_univ_add (a := 128) (b := 128) f).trans (congrArg₂ (· + ·) rfl ?_)
  refine (Fin.sum_univ_add (a := 32) (b := 96) _).trans (congrArg₂ (· + ·) rfl ?_)
  refine (Fin.sum_univ_add (a := 32) (b := 64) _).trans (congrArg₂ (· + ·) ?_ ?_)
  · exact Finset.sum_congr rfl fun n _ => congrArg f (Fin.ext (by simp; omega))
  · exact Finset.sum_congr rfl fun n _ => congrArg f (Fin.ext (by simp; omega))

/-- A sum against a place's mark is the entry at the place. -/
theorem sum_place (f : Fin 32 → EReal) (q : Fin 32) : ∑ n : Fin 32, f n * (if n.val = q.val then 1 else 0) = f q := by
  rw [Finset.sum_eq_single q]
  · simp
  · intro n _ hn
    rw [if_neg (fun h => hn (Fin.ext h)), mul_zero]
  · intro h
    exact absurd (Finset.mem_univ q) h

/-- A key at a head's column. -/
theorem key_eq (Z : Fin 1024 → EReal) (P : Fin 928 → EReal) (L u : Fin 128 → EReal) (tk : Fin 128 → EReal) (wk : Fin 256 → EReal)
    (th : Fin 16 → EReal) (j : Fin 128)
    (zlo : ∀ n : Fin 416, Z ⟨n.val, by omega⟩ = P ⟨n.val, by omega⟩) (zneg : ∀ n : Fin 16, Z ⟨416 + n.val, by omega⟩ = -P ⟨400 + n.val, by omega⟩)
    (zmid : ∀ n : Fin 16, Z ⟨432 + n.val, by omega⟩ = P ⟨384 + n.val, by omega⟩)
    (c1 : ∀ n : Fin 16, tk ⟨n.val, by omega⟩ = Ideal.cos (th n)) (c2 : ∀ n : Fin 16, tk ⟨16 + n.val, by omega⟩ = Ideal.cos (th n))
    (s1 : ∀ n : Fin 16, tk ⟨32 + n.val, by omega⟩ = Ideal.sin (th n)) (s2 : ∀ n : Fin 16, tk ⟨48 + n.val, by omega⟩ = Ideal.sin (th n))
    (w0 : ∀ k : Fin 128, wk ⟨k.val, by omega⟩ = if hj : j.val < 64 then u k else 0)
    (w1 : ∀ n : Fin 32, wk ⟨128 + n.val, by omega⟩ = if hj : j.val < 64 then 0 else if hj : j.val - 64 < 32 then (if n.val = j.val - 64 then 1 else 0) else 0)
    (w2 : ∀ n : Fin 32, wk ⟨160 + n.val, by omega⟩ = if hj : j.val < 64 then 0 else if hj : j.val - 64 < 32 then (if n.val = j.val - 64 then 1 else 0) else 0)
    (w3 : ∀ n : Fin 64, wk ⟨192 + n.val, by omega⟩ = 0) :
    ∑ k : Fin 256, (if hk : k.val < 128 then L ⟨k.val, hk⟩ else Z ⟨384 + (k.val - 128), by omega⟩ * tk ⟨k.val - 128, by omega⟩) * wk k
      = if hj : j.val < 64 then ∑ k, L k * u k
        else if hj : j.val - 64 < 32 then turned (fun n => P ⟨384 + n.val, by omega⟩) th ⟨j.val - 64, hj⟩ else 0 := by
  rw [sum256]
  have e0 : ∀ k : Fin 128, (if hk : k.val < 128 then L ⟨k.val, hk⟩ else Z ⟨384 + (k.val - 128), by omega⟩ * tk ⟨k.val - 128, by omega⟩) = L k :=
    fun k => dif_pos k.isLt
  have e1 : ∀ n : Fin 32, (if hk : 128 + n.val < 128 then L ⟨128 + n.val, hk⟩ else Z ⟨384 + (128 + n.val - 128), by omega⟩ * tk ⟨128 + n.val - 128, by omega⟩)
      = Z ⟨384 + n.val, by omega⟩ * tk ⟨n.val, by omega⟩ := fun n => by
    rw [dif_neg (by omega)]
    exact congrArg₂ (· * ·) (congrArg Z (Fin.ext (by simp))) (congrArg tk (Fin.ext (by simp)))
  have e2 : ∀ n : Fin 32, (if hk : 160 + n.val < 128 then L ⟨160 + n.val, hk⟩ else Z ⟨384 + (160 + n.val - 128), by omega⟩ * tk ⟨160 + n.val - 128, by omega⟩)
      = Z ⟨416 + n.val, by omega⟩ * tk ⟨32 + n.val, by omega⟩ := fun n => by
    rw [dif_neg (by omega)]
    exact congrArg₂ (· * ·) (congrArg Z (Fin.ext (by simp; omega))) (congrArg tk (Fin.ext (by simp; omega)))
  simp only [w0, w1, w2, w3, e0, e1, e2, mul_zero, Finset.sum_const_zero, add_zero]
  by_cases hj : j.val < 64
  · simp only [dif_pos hj, mul_zero, Finset.sum_const_zero, add_zero]
  · simp only [dif_neg hj, mul_zero, Finset.sum_const_zero, zero_add]
    by_cases hm : j.val - 64 < 32
    · simp only [dif_pos hm]
      rw [sum_place (fun n => Z ⟨384 + n.val, by omega⟩ * tk ⟨n.val, by omega⟩) ⟨j.val - 64, hm⟩,
        sum_place (fun n => Z ⟨416 + n.val, by omega⟩ * tk ⟨32 + n.val, by omega⟩) ⟨j.val - 64, hm⟩]
      generalize (⟨j.val - 64, hm⟩ : Fin 32) = q
      unfold turned
      by_cases hq : q.val < 16
      · rw [dif_pos hq]
        have a1 := zlo ⟨384 + q.val, by omega⟩
        have a2 := zneg ⟨q.val, hq⟩
        have a3 := c1 ⟨q.val, hq⟩
        have a4 := s1 ⟨q.val, hq⟩
        simp only at a1 a2 a3 a4
        rw [a1, a2, a3, a4, EReal.neg_mul, ← sub_eq_add_neg]
        refine congrArg₂ (· - ·) rfl (congrArg₂ (· * ·) (congrArg P (Fin.ext ?_)) rfl)
        simp only []
        omega
      · rw [dif_neg hq]
        obtain ⟨q', hq'⟩ : ∃ q' : Fin 16, q.val = 16 + q'.val := ⟨⟨q.val - 16, by omega⟩, by simp only []; omega⟩
        have b0 : (⟨q.val - 16, by omega⟩ : Fin 16) = q' := Fin.ext (by simp only []; omega)
        have a1 : Z ⟨384 + q.val, by omega⟩ = P ⟨384 + (16 + (q.val - 16)), by omega⟩ :=
          (zlo ⟨384 + q.val, by omega⟩).trans (congrArg P (Fin.ext (by simp only []; omega)))
        have a2 : Z ⟨416 + q.val, by omega⟩ = P ⟨384 + (q.val - 16), by omega⟩ :=
          (congrArg Z (Fin.ext (by simp only []; omega))).trans ((zmid q').trans (congrArg P (Fin.ext (by simp only []; omega))))
        have a3 : tk ⟨q.val, by omega⟩ = Ideal.cos (th q') := (congrArg tk (Fin.ext hq')).trans (c2 q')
        have a4 : tk ⟨32 + q.val, by omega⟩ = Ideal.sin (th q') := (congrArg tk (Fin.ext (by simp only []; omega))).trans (s2 q')
        rw [a1, a2, a3, a4, b0, add_comm]
    · simp only [dif_neg hm, mul_zero, Finset.sum_const_zero, add_zero]

/-- A query at a head's row. -/
theorem query_eq (Q : Fin 1280 → EReal) (A : Fin 96 → EReal) (tq : Fin 256 → EReal) (th : Fin 16 → EReal) (h : Fin 8) (j : Fin 128)
    (qhead : ∀ j : Fin 128, Q ⟨h.val * 128 + j.val, by omega⟩ = if hj : j.val < 96 then A ⟨j.val, hj⟩ else 0)
    (qrot : ∀ n : Fin 32, Q ⟨1024 + h.val * 32 + n.val, by omega⟩
      = if hn : n.val < 16 then -A ⟨64 + (16 + n.val), by omega⟩ else A ⟨64 + (n.val - 16), by omega⟩)
    (t0 : ∀ n : Fin 64, tq ⟨n.val, by omega⟩ = scale)
    (c1 : ∀ n : Fin 16, tq ⟨64 + n.val, by omega⟩ = Ideal.cos (th n) * scale) (c2 : ∀ n : Fin 16, tq ⟨80 + n.val, by omega⟩ = Ideal.cos (th n) * scale)
    (s1 : ∀ n : Fin 16, tq ⟨192 + n.val, by omega⟩ = Ideal.sin (th n) * scale) (s2 : ∀ n : Fin 16, tq ⟨208 + n.val, by omega⟩ = Ideal.sin (th n) * scale) :
    headed Q (fun r => tq ⟨r.val, by omega⟩) (fun r => tq ⟨128 + r.val, by omega⟩) h j
      = if hj : j.val < 64 then A ⟨j.val, by omega⟩ * scale
        else if hj : j.val - 64 < 32 then turned (fun n => A ⟨64 + n.val, by omega⟩) th ⟨j.val - 64, hj⟩ * scale else 0 := by
  unfold headed
  rw [qhead]
  by_cases hj : j.val < 64
  · rw [dif_pos hj, dif_pos hj, dif_pos (by omega), add_zero]
    exact congrArg _ (t0 ⟨j.val, hj⟩)
  · rw [dif_neg hj, dif_neg hj]
    by_cases hm : j.val - 64 < 32
    · rw [dif_pos hm, dif_pos hm, dif_pos (by omega), qrot ⟨j.val - 64, hm⟩]
      obtain ⟨q, hq⟩ : ∃ q : Fin 32, j.val = 64 + q.val := ⟨⟨j.val - 64, hm⟩, by simp only []; omega⟩
      have b0 : (⟨j.val - 64, hm⟩ : Fin 32) = q := Fin.ext (by simp only []; omega)
      have b1 : (⟨j.val, by omega⟩ : Fin 96) = ⟨64 + q.val, by omega⟩ := Fin.ext hq
      have b2 : (⟨j.val, by omega⟩ : Fin 256) = ⟨64 + q.val, by omega⟩ := Fin.ext hq
      have b3 : (⟨128 + (64 + (j.val - 64)), by omega⟩ : Fin 256) = ⟨192 + q.val, by omega⟩ := Fin.ext (by simp only []; omega)
      simp only [b1, b2, b3, b0]
      unfold turned
      by_cases hn : q.val < 16
      · have a1 := c1 ⟨q.val, hn⟩
        have a2 := s1 ⟨q.val, hn⟩
        have b4 : (⟨j.val - 64, hm⟩ : Fin 32).val < 16 := by simp only []; omega
        rw [dif_pos b4, dif_pos hn]
        simp only at a1 a2
        rw [a1, a2, sub_eq_add_neg, scale_add, EReal.neg_mul, EReal.neg_mul, mul_assoc, mul_assoc]
        refine congrArg₂ (· + ·) rfl (congrArg _ (congrArg₂ (· * ·) (congrArg A (Fin.ext ?_)) rfl))
        simp only []
        omega
      · obtain ⟨q', hq'⟩ : ∃ q' : Fin 16, q.val = 16 + q'.val := ⟨⟨q.val - 16, by omega⟩, by simp only []; omega⟩
        have b5 : (⟨q.val - 16, by omega⟩ : Fin 16) = q' := Fin.ext (by simp only []; omega)
        have b4 : ¬ (⟨j.val - 64, hm⟩ : Fin 32).val < 16 := by simp only []; omega
        have a3 : tq ⟨64 + q.val, by omega⟩ = Ideal.cos (th q') * scale := (congrArg tq (Fin.ext (by simp only []; omega))).trans (c2 q')
        have a4 : tq ⟨192 + q.val, by omega⟩ = Ideal.sin (th q') * scale := (congrArg tq (Fin.ext (by simp only []; omega))).trans (s2 q')
        rw [dif_neg b4, dif_neg hn, a3, a4, b5, scale_add, add_comm, mul_assoc, mul_assoc]
        refine congrArg₂ (· + ·) (congrArg₂ (· * ·) (congrArg A (Fin.ext ?_)) rfl) (congrArg₂ (· * ·) (congrArg A (Fin.ext ?_)) rfl)
        · simp only []
          omega
        · simp only []
          omega
    · rw [dif_neg hm, dif_neg hm, dif_neg (by omega), zero_mul, add_zero]

end Cert.Turn

end
-- ==== Proof.PremixValue.lean ====
module

public import proofs.«01_k».proof.Proof.PremixMath

/-!
# The latent tokens' queries, keys and values: the kernel's result arrays

The blocks of a grid point are put together: the three result arrays hold the reference's terms of the arguments. The
values hold of all arguments. The keys ask that the modulation vectors, the first scale and the input matrix are real, the
queries that the query latents' scale and matrix are.
-/

@[expose] public section

set_option maxRecDepth 16384

noncomputable section

open Idealize.ShloMosaic Idealize.ShloMosaic.TcCoe Idealize.SL.Sem
open Idealize.ShloMosaic.Pipeline (Dat)

namespace Cert.Kernel6Ideal.Value
open Cert.Kernel6Ideal Cert.Kernel6Ideal.Gen Cert.Turn
open Cert.Kernel4Ideal.Value (modded projd latent projd_congr)
open Cert.Reference6Ideal.Value (proj qn qh lat kvh rotq rotk outq outk outv qlatent turned scale proj_at qn_at qh_at lat_at kvh_at rotq_at
  rotk_at outq_at outk_at outv_at)

variable (m : (ℓ : Loc nD τ sig) → Buf (Elt Ideal) ℓ)

/-- A grid point's projection, from a column of weights that its row holds. -/
theorem zrow_of (c : Dev nD) (t : Fin cfg0.N) (i n : Fin 1024) (w : Fin 1024 → EReal) (hw : ∀ k, layWin (m ((c : Thread nD τ).loc main_arg3)) (ix2 n k) = w k) :
    zrow (iblk m c 0 t) (iblk m c 1 t) (iblk m c 2 t) (iblk m c 3 t) i n
      = projd (fun k => (m ((c : Thread nD τ).loc main_arg0)) (ix3 (⟨(pt t).val / 2, by omega⟩ : Fin 4) (⟨(pt t).val % 2 * 1024 + i.val, by omega⟩ : Fin 2048) k)) (fun k => (m ((c : Thread nD τ).loc main_arg2)) (ix1 k)) (fun k => (m ((c : Thread nD τ).loc main_arg1)) (ix3 (⟨(pt t).val / 2, by omega⟩ : Fin 8) 1 k))
          (fun k => (m ((c : Thread nD τ).loc main_arg1)) (ix3 (⟨(pt t).val / 2, by omega⟩ : Fin 8) 0 k)) w := by
  unfold zrow
  refine projd_congr (funext fun k => ?_) (funext fun k => ?_) (funext fun k => ?_) (funext fun k => ?_) (funext fun k => ?_)
  · exact blk_x m c t i k
  · exact blk_g m c t k
  · exact blk_md m c t 1 k
  · exact blk_md m c t 0 k
  · exact (blk_win m c t n k).trans (hw k)

/-- The first 416 columns of a grid point's projection are the reference's. -/
theorem z_lo (c : Dev nD) (t : Fin cfg0.N) (i : Fin 1024) (n : Fin 416) : zrow (iblk m c 0 t) (iblk m c 1 t) (iblk m c 2 t) (iblk m c 3 t) i (⟨n.val, by omega⟩ : Fin 1024)
    = proj (m ((c : Thread nD τ).loc main_arg0)) (m ((c : Thread nD τ).loc main_arg1)) (m ((c : Thread nD τ).loc main_arg2)) (m ((c : Thread nD τ).loc main_arg3)) (ix3 (⟨(pt t).val / 2, by omega⟩ : Fin 4) (⟨(pt t).val % 2 * 1024 + i.val, by omega⟩ : Fin 2048) (⟨n.val, by omega⟩ : Fin 928)) := by
  rw [proj_at]
  refine zrow_of m c t i _ _ fun k => ?_
  refine (congrArg (fun r => layWin (m ((c : Thread nD τ).loc main_arg3)) (ix2 r k)) (a₂ := (⟨0 + n.val, by omega⟩ : Fin 1024)) (Fin.ext (Nat.zero_add _).symm)).trans ?_
  exact layWin_lo _ n k

/-- The swapped columns' second half. -/
theorem z_mid (c : Dev nD) (t : Fin cfg0.N) (i : Fin 1024) (n : Fin 16) : zrow (iblk m c 0 t) (iblk m c 1 t) (iblk m c 2 t) (iblk m c 3 t) i (⟨432 + n.val, by omega⟩ : Fin 1024)
    = proj (m ((c : Thread nD τ).loc main_arg0)) (m ((c : Thread nD τ).loc main_arg1)) (m ((c : Thread nD τ).loc main_arg2)) (m ((c : Thread nD τ).loc main_arg3)) (ix3 (⟨(pt t).val / 2, by omega⟩ : Fin 4) (⟨(pt t).val % 2 * 1024 + i.val, by omega⟩ : Fin 2048) (⟨384 + n.val, by omega⟩ : Fin 928)) := by
  rw [proj_at]
  exact zrow_of m c t i _ _ fun k => layWin_mid _ n k

/-- The latent keys a grid point takes are the reference's. -/
theorem lat_blk (c : Dev nD) (t : Fin cfg0.N) (i : Fin 1024) (k : Fin 128) :
    latent (fun j => zrow (iblk m c 0 t) (iblk m c 1 t) (iblk m c 2 t) (iblk m c 3 t) i (⟨256 + j.val, by omega⟩ : Fin 1024)) (fun j => (iblk m c 6 t) (ix2 0 j)) k
      = lat (proj (m ((c : Thread nD τ).loc main_arg0)) (m ((c : Thread nD τ).loc main_arg1)) (m ((c : Thread nD τ).loc main_arg2)) (m ((c : Thread nD τ).loc main_arg3))) (m ((c : Thread nD τ).loc main_arg6)) (ix3 (⟨(pt t).val / 2, by omega⟩ : Fin 4) (⟨(pt t).val % 2 * 1024 + i.val, by omega⟩ : Fin 2048) k) := by
  rw [lat_at]
  refine congrFun (congrArg₂ latent (funext fun j => ?_) (funext fun j => ?_)) k
  · exact z_lo m c t i ⟨256 + j.val, by omega⟩
  · exact blk_kg m c t j

/-- The values' result array is the reference's term of the arguments. -/
theorem final_v (c : Dev nD) : (dats m 0 c).arrAt 14 (cfgs 0).N = outv (kvh (lat (proj (m ((c : Thread nD τ).loc main_arg0)) (m ((c : Thread nD τ).loc main_arg1)) (m ((c : Thread nD τ).loc main_arg2)) (m ((c : Thread nD τ).loc main_arg3))) (m ((c : Thread nD τ).loc main_arg6))) (m ((c : Thread nD τ).loc main_arg7))) := by
  refine (dats m 0 c).arrAt_eq_of_covers 14 _ (by decide +kernel) fun t _ y => ?_
  blk_simp
  rw [after0_14]
  idx_vars y
  obtain ⟨h, j, rfl⟩ : ∃ (h : Fin 8) (j : Fin 64), y0 = (⟨h.val * 64 + j.val, by omega⟩ : Fin 512) :=
    ⟨⟨y0.val / 64, by omega⟩, ⟨y0.val % 64, by omega⟩, Fin.ext (by simp only []; omega)⟩
  have he : ((View.whole main_v130_2).slice (win0_14.rect t)).emb (ix2 (⟨h.val * 64 + j.val, by omega⟩ : Fin 512) y1)
      = ix2 (⟨h.val * 64 + j.val, by omega⟩ : Fin 512) (⟨(pt t).val * 1024 + y1.val, by omega⟩ : Fin 8192) := by
    blk_ext [pt, idx t]
  refine Eq.trans ?_ (congrArg _ he.symm)
  refine (outv_blk _ _ _ _ _ _ _ _ _ _ _ _ _ y1).trans (Eq.trans ?_ (outv_at _ h j _).symm)
  have hb : (⟨((pt t).val * 1024 + y1.val) / 2048, by omega⟩ : Fin 4) = ⟨(pt t).val / 2, by omega⟩ := Fin.ext (by simp only []; omega)
  have hs : (⟨((pt t).val * 1024 + y1.val) % 2048, by omega⟩ : Fin 2048) = ⟨(pt t).val % 2 * 1024 + y1.val, by omega⟩ := Fin.ext (by simp only []; omega)
  simp only [hb, hs]
  rw [kvh_at]
  refine Finset.sum_congr rfl fun k _ => ?_
  rw [mul_comm]
  exact congrArg₂ (· * ·) (lat_blk m c t y1 k) ((blk_wv m c t _ k).trans (layWv_at _ h j k))

section
variable (c : Dev nD) (hmd : ∀ i, IsReal ((m ((c : Thread nD τ).loc main_arg1)) i)) (hg : ∀ i, IsReal ((m ((c : Thread nD τ).loc main_arg2)) i)) (hw : ∀ i, IsReal ((m ((c : Thread nD τ).loc main_arg3)) i))
include hmd hg hw

/-- The swapped columns' first half, negated. -/
theorem z_neg (t : Fin cfg0.N) (i : Fin 1024) (n : Fin 16) : zrow (iblk m c 0 t) (iblk m c 1 t) (iblk m c 2 t) (iblk m c 3 t) i (⟨416 + n.val, by omega⟩ : Fin 1024)
    = -proj (m ((c : Thread nD τ).loc main_arg0)) (m ((c : Thread nD τ).loc main_arg1)) (m ((c : Thread nD τ).loc main_arg2)) (m ((c : Thread nD τ).loc main_arg3)) (ix3 (⟨(pt t).val / 2, by omega⟩ : Fin 4) (⟨(pt t).val % 2 * 1024 + i.val, by omega⟩ : Fin 2048) (⟨400 + n.val, by omega⟩ : Fin 928)) := by
  rw [proj_at]
  refine (zrow_of m c t i _ _ fun k => layWin_neg _ n k).trans ?_
  unfold projd
  exact dot_neg (modded_real (fun k => hg _) (fun k => hmd _) (fun k => hmd _)) fun k => hw _

/-- The keys' result array is the reference's term of the arguments. -/
theorem final_k : (dats m 0 c).arrAt 13 (cfgs 0).N = outk (kvh (lat (proj (m ((c : Thread nD τ).loc main_arg0)) (m ((c : Thread nD τ).loc main_arg1)) (m ((c : Thread nD τ).loc main_arg2)) (m ((c : Thread nD τ).loc main_arg3))) (m ((c : Thread nD τ).loc main_arg6))) (m ((c : Thread nD τ).loc main_arg7))) (rotk (proj (m ((c : Thread nD τ).loc main_arg0)) (m ((c : Thread nD τ).loc main_arg1)) (m ((c : Thread nD τ).loc main_arg2)) (m ((c : Thread nD τ).loc main_arg3))) (m ((c : Thread nD τ).loc main_arg9))) := by
  refine (dats m 0 c).arrAt_eq_of_covers 13 _ (by decide +kernel) fun t _ y => ?_
  blk_simp
  rw [after0_13]
  idx_vars y
  obtain ⟨h, j, rfl⟩ : ∃ (h : Fin 8) (j : Fin 128), y1 = (⟨h.val * 128 + j.val, by omega⟩ : Fin 1024) :=
    ⟨⟨y1.val / 128, by omega⟩, ⟨y1.val % 128, by omega⟩, Fin.ext (by simp only []; omega)⟩
  have he : ((View.whole main_v130_1).slice (win0_13.rect t)).emb (ix2 y0 (⟨h.val * 128 + j.val, by omega⟩ : Fin 1024))
      = ix2 (⟨(pt t).val * 1024 + y0.val, by omega⟩ : Fin 8192) (⟨h.val * 128 + j.val, by omega⟩ : Fin 1024) := by
    blk_ext [pt, idx t]
  refine Eq.trans ?_ (congrArg _ he.symm)
  refine (outk_blk _ _ _ _ _ _ _ _ _ _ _ _ y0 _).trans (Eq.trans ?_ (outk_at _ _ h j _).symm)
  have hb : (⟨((pt t).val * 1024 + y0.val) / 2048, by omega⟩ : Fin 4) = ⟨(pt t).val / 2, by omega⟩ := Fin.ext (by simp only []; omega)
  have hs : (⟨((pt t).val * 1024 + y0.val) % 2048, by omega⟩ : Fin 2048) = ⟨(pt t).val % 2 * 1024 + y0.val, by omega⟩ := Fin.ext (by simp only []; omega)
  simp only [hb, hs]
  refine (key_eq (fun n => zrow (iblk m c 0 t) (iblk m c 1 t) (iblk m c 2 t) (iblk m c 3 t) y0 n) (fun n => proj (m ((c : Thread nD τ).loc main_arg0)) (m ((c : Thread nD τ).loc main_arg1)) (m ((c : Thread nD τ).loc main_arg2)) (m ((c : Thread nD τ).loc main_arg3)) (ix3 (⟨(pt t).val / 2, by omega⟩ : Fin 4) (⟨(pt t).val % 2 * 1024 + y0.val, by omega⟩ : Fin 2048) n))
    (fun k => latent (fun j => zrow (iblk m c 0 t) (iblk m c 1 t) (iblk m c 2 t) (iblk m c 3 t) y0 (⟨256 + j.val, by omega⟩ : Fin 1024)) (fun j => (iblk m c 6 t) (ix2 0 j)) k)
    (fun k => (m ((c : Thread nD τ).loc main_arg7)) (ix2 k (⟨h.val * 128 + j.val, by omega⟩ : Fin 1024))) (fun k => iblk m c 11 t (ix2 y0 k))
    (fun k => iblk m c 7 t (ix2 k (⟨h.val * 128 + j.val, by omega⟩ : Fin 1024)))
    (fun n => (m ((c : Thread nD τ).loc main_arg9)) (ix2 (⟨(pt t).val % 2 * 1024 + y0.val, by omega⟩ : Fin 2048) n)) j
    (fun n => z_lo m c t y0 n) (fun n => z_neg m c hmd hg hw t y0 n) (fun n => z_mid m c t y0 n)
    (fun n => (blk_tk m c t y0 _).trans ((congrArg (fun r => layTk (m ((c : Thread nD τ).loc main_arg9)) (ix2 _ r)) (a₂ := (⟨0 + n.val, by omega⟩ : Fin 128))
      (Fin.ext (Nat.zero_add _).symm)).trans (layTk_cos1 _ n _)))
    (fun n => (blk_tk m c t y0 _).trans (layTk_cos2 _ n _)) (fun n => (blk_tk m c t y0 _).trans (layTk_sin1 _ n _))
    (fun n => (blk_tk m c t y0 _).trans (layTk_sin2 _ n _))
    (fun k => (blk_wk m c t _ _).trans ((congrArg (fun r => layWk (m ((c : Thread nD τ).loc main_arg7)) (ix2 r _)) (a₂ := (⟨0 + k.val, by omega⟩ : Fin 256))
      (Fin.ext (Nat.zero_add _).symm)).trans (layWk_top _ k h j)))
    (fun n => (blk_wk m c t _ _).trans ((layWk_one _ n h j).trans (place_at n j)))
    (fun n => (blk_wk m c t _ _).trans ((layWk_two _ n h j).trans (place_at n j)))
    (fun n => (blk_wk m c t _ _).trans (layWk_low _ n _))).trans ?_
  refine dite_congr rfl (fun hj => ?_) fun hj => dite_congr rfl (fun hm => ?_) fun _ => rfl
  · rw [kvh_at]
    exact Finset.sum_congr rfl fun k _ => congrArg₂ (· * ·) (lat_blk m c t y0 k) rfl
  · rw [rotk_at]

end

/-- The query latents a grid point takes are the reference's. -/
theorem qlat_blk (c : Dev nD) (t : Fin cfg0.N) (i : Fin 1024) (k : Fin 256) :
    qlatent (fun j => zrow (iblk m c 0 t) (iblk m c 1 t) (iblk m c 2 t) (iblk m c 3 t) i (⟨j.val, by omega⟩ : Fin 1024)) (fun j => (iblk m c 4 t) (ix2 0 j)) k
      = qn (proj (m ((c : Thread nD τ).loc main_arg0)) (m ((c : Thread nD τ).loc main_arg1)) (m ((c : Thread nD τ).loc main_arg2)) (m ((c : Thread nD τ).loc main_arg3))) (m ((c : Thread nD τ).loc main_arg4)) (ix3 (⟨(pt t).val / 2, by omega⟩ : Fin 4) (⟨(pt t).val % 2 * 1024 + i.val, by omega⟩ : Fin 2048) k) := by
  rw [qn_at]
  refine congrFun (congrArg₂ qlatent (funext fun j => ?_) (funext fun j => ?_)) k
  · exact z_lo m c t i ⟨j.val, by omega⟩
  · exact blk_qg m c t j

/-- The queries' result array is the reference's term of the arguments. -/
theorem final_q (c : Dev nD) (hqg : ∀ i, IsReal ((m ((c : Thread nD τ).loc main_arg4)) i)) (huq : ∀ i, IsReal ((m ((c : Thread nD τ).loc main_arg5)) i)) : (dats m 0 c).arrAt 12 (cfgs 0).N
    = outq (qh (qn (proj (m ((c : Thread nD τ).loc main_arg0)) (m ((c : Thread nD τ).loc main_arg1)) (m ((c : Thread nD τ).loc main_arg2)) (m ((c : Thread nD τ).loc main_arg3))) (m ((c : Thread nD τ).loc main_arg4))) (m ((c : Thread nD τ).loc main_arg5))) (rotq (qh (qn (proj (m ((c : Thread nD τ).loc main_arg0)) (m ((c : Thread nD τ).loc main_arg1)) (m ((c : Thread nD τ).loc main_arg2)) (m ((c : Thread nD τ).loc main_arg3))) (m ((c : Thread nD τ).loc main_arg4))) (m ((c : Thread nD τ).loc main_arg5))) (m ((c : Thread nD τ).loc main_arg9))) := by
  refine (dats m 0 c).arrAt_eq_of_covers 12 _ (by decide +kernel) fun t _ y => ?_
  blk_simp
  rw [after0_12]
  idx_vars y
  obtain ⟨h, j, rfl⟩ : ∃ (h : Fin 8) (j : Fin 128), y0 = (⟨h.val * 128 + j.val, by omega⟩ : Fin 1024) :=
    ⟨⟨y0.val / 128, by omega⟩, ⟨y0.val % 128, by omega⟩, Fin.ext (by simp only []; omega)⟩
  have he : ((View.whole main_v130_0).slice (win0_12.rect t)).emb (ix2 (⟨h.val * 128 + j.val, by omega⟩ : Fin 1024) y1)
      = ix2 (⟨h.val * 128 + j.val, by omega⟩ : Fin 1024) (⟨(pt t).val * 1024 + y1.val, by omega⟩ : Fin 8192) := by
    blk_ext [pt, idx t]
  refine Eq.trans ?_ (congrArg _ he.symm)
  refine (outq_blk _ _ _ _ _ _ _ _ _ _ _ _ h j y1).trans (Eq.trans ?_ (outq_at _ _ h j _).symm)
  have hb : (⟨((pt t).val * 1024 + y1.val) / 2048, by omega⟩ : Fin 4) = ⟨(pt t).val / 2, by omega⟩ := Fin.ext (by simp only []; omega)
  have hs : (⟨((pt t).val * 1024 + y1.val) % 2048, by omega⟩ : Fin 2048) = ⟨(pt t).val % 2 * 1024 + y1.val, by omega⟩ := Fin.ext (by simp only []; omega)
  simp only [hb, hs]
  have hqn : ∀ k, IsReal (qn (proj (m ((c : Thread nD τ).loc main_arg0)) (m ((c : Thread nD τ).loc main_arg1)) (m ((c : Thread nD τ).loc main_arg2)) (m ((c : Thread nD τ).loc main_arg3))) (m ((c : Thread nD τ).loc main_arg4)) (ix3 (⟨(pt t).val / 2, by omega⟩ : Fin 4) (⟨(pt t).val % 2 * 1024 + y1.val, by omega⟩ : Fin 2048) k)) := fun k => by
    rw [qn_at]
    exact qlatent_real (fun k => hqg _) k
  have hrow : ∀ (r : Fin 1280) (u : Fin 256 → EReal), (∀ k, layWuq (m ((c : Thread nD τ).loc main_arg5)) (ix2 r k) = u k) →
      qrow (iblk m c 0 t) (iblk m c 1 t) (iblk m c 2 t) (iblk m c 3 t) (iblk m c 4 t) (iblk m c 5 t) r y1
        = ∑ k, qn (proj (m ((c : Thread nD τ).loc main_arg0)) (m ((c : Thread nD τ).loc main_arg1)) (m ((c : Thread nD τ).loc main_arg2)) (m ((c : Thread nD τ).loc main_arg3))) (m ((c : Thread nD τ).loc main_arg4)) (ix3 (⟨(pt t).val / 2, by omega⟩ : Fin 4) (⟨(pt t).val % 2 * 1024 + y1.val, by omega⟩ : Fin 2048) k) * u k := fun r u hu => by
    unfold qrow
    refine Finset.sum_congr rfl fun k _ => ?_
    rw [mul_comm]
    exact congrArg₂ (· * ·) (qlat_blk m c t y1 k) ((blk_wuq m c t r k).trans (hu k))
  refine (query_eq (fun r => qrow (iblk m c 0 t) (iblk m c 1 t) (iblk m c 2 t) (iblk m c 3 t) (iblk m c 4 t) (iblk m c 5 t) r y1)
    (fun n => qh (qn (proj (m ((c : Thread nD τ).loc main_arg0)) (m ((c : Thread nD τ).loc main_arg1)) (m ((c : Thread nD τ).loc main_arg2)) (m ((c : Thread nD τ).loc main_arg3))) (m ((c : Thread nD τ).loc main_arg4))) (m ((c : Thread nD τ).loc main_arg5)) (ix4 (⟨(pt t).val / 2, by omega⟩ : Fin 4) (⟨(pt t).val % 2 * 1024 + y1.val, by omega⟩ : Fin 2048) h n))
    (fun r => iblk m c 10 t (ix2 r y1)) (fun n => (m ((c : Thread nD τ).loc main_arg9)) (ix2 (⟨(pt t).val % 2 * 1024 + y1.val, by omega⟩ : Fin 2048) n)) h j
    (fun j => ?_) (fun n => ?_)
    (fun n => (blk_tq m c t _ y1).trans ((congrArg (fun r => layTq (m ((c : Thread nD τ).loc main_arg9)) (ix2 r _)) (a₂ := (⟨0 + n.val, by omega⟩ : Fin 256))
      (Fin.ext (Nat.zero_add _).symm)).trans (layTq_nope _ n _)))
    (fun n => (blk_tq m c t _ y1).trans (layTq_cos1 _ n _)) (fun n => (blk_tq m c t _ y1).trans (layTq_cos2 _ n _))
    (fun n => (blk_tq m c t _ y1).trans (layTq_sin1 _ n _)) (fun n => (blk_tq m c t _ y1).trans (layTq_sin2 _ n _))).trans ?_
  · refine (hrow _ _ fun k => layWuq_head _ h j k).trans ?_
    by_cases hj : j.val < 96
    · simp only [dif_pos hj]
      exact (qh_at _ _ _ _ h ⟨j.val, hj⟩).symm
    · simp only [dif_neg hj, mul_zero, Finset.sum_const_zero]
  · refine (hrow _ _ fun k => layWuq_rot _ h n k).trans ?_
    by_cases hn : n.val < 16
    · simp only [dif_pos hn]
      exact (dot_neg hqn fun k => huq _).trans (congrArg _ (qh_at _ _ _ _ h ⟨64 + (16 + n.val), by omega⟩).symm)
    · simp only [dif_neg hn]
      exact (qh_at _ _ _ _ h ⟨64 + (n.val - 16), by omega⟩).symm
  · refine dite_congr rfl (fun hj => rfl) fun hj => dite_congr rfl (fun hm => ?_) fun _ => rfl
    rw [rotq_at]

end Cert.Kernel6Ideal.Value

end
-- ==== Proof.PremixFourier.lean ====
module

public import proofs.«01_k».proof.Proof.PremixFold
public import proofs.«01_k».proof.Proof.PremixValue

/-!
# The latent tokens' Fourier groups: the kernel's result arrays

A grid point multiplies each half of the last 512 projected columns with its diagonal of products. Off the group the
products are zero; within it the two sums, over the group's channels and over the transform's, are taken in the other order.
That asks for real numbers.
-/

@[expose] public section

set_option maxRecDepth 16384

noncomputable section

open Idealize.ShloMosaic Idealize.ShloMosaic.TcCoe Idealize.SL.Sem
open Idealize.ShloMosaic.Pipeline (Dat)

namespace Cert.Turn

/-- A sum over 256 is a sum over four runs of 64. -/
theorem sum_runs (f : Fin 256 → EReal) : ∑ k, f k = ∑ a : Fin 4, ∑ i : Fin 64, f (⟨a.val * 64 + i.val, by omega⟩ : Fin 256) := by
  rw [← Fintype.sum_prod_type' (f := fun (a : Fin 4) (i : Fin 64) => f (⟨a.val * 64 + i.val, by omega⟩ : Fin 256))]
  exact (Fintype.sum_equiv (finProdFinEquiv (m := 4) (n := 64)) _ _ fun x => congrArg f (Fin.ext (by
    show x.1.val * 64 + x.2.val = x.2.val + 64 * x.1.val
    omega))).symm

/-- Two sums of products of reals in the other order. -/
theorem regroup {p w : Fin 64 → EReal} {s : Fin 64 → Fin 64 → EReal} (hp : ∀ i, IsReal (p i)) (hw : ∀ b, IsReal (w b)) (hs : ∀ i b, IsReal (s i b)) :
    ∑ i, p i * ∑ b, w b * s i b = ∑ b, w b * ∑ i, p i * s i b := by
  choose p' hp using hp
  choose w' hw using hw
  choose s' hs using hs
  simp only [hp, hw, hs, ← EReal.coe_mul, ← Cert.SoftmaxMath.coe_sum]
  refine congrArg _ ?_
  simp only [Finset.mul_sum]
  rw [Finset.sum_comm]
  exact Finset.sum_congr rfl fun b _ => Finset.sum_congr rfl fun i _ => by ring

/-- A row against one group's columns of a diagonal is that group's part of the row against its matrix. -/
theorem diag_row (f g : Fin 256 → EReal) (h : Fin 4) (u : Fin 64 → EReal)
    (hg : ∀ (a : Fin 4) (i : Fin 64), g (⟨a.val * 64 + i.val, by omega⟩ : Fin 256) = if a = h then u i else 0) :
    ∑ k, f k * g k = ∑ i : Fin 64, f (⟨h.val * 64 + i.val, by omega⟩ : Fin 256) * u i := by
  rw [sum_runs]
  refine (Finset.sum_eq_single h (fun a _ ha => ?_) fun hn => absurd (Finset.mem_univ h) hn).trans ?_
  · refine Finset.sum_eq_zero fun i _ => ?_
    rw [hg, if_neg ha, mul_zero]
  · refine Finset.sum_congr rfl fun i _ => ?_
    rw [hg, if_pos rfl]

/-- A row against one group's columns of a diagonal of products is the group's map of the transformed row. -/
theorem group_eq (f g : Fin 256 → EReal) (h : Fin 4) (p w : Fin 64 → EReal) (s : Fin 64 → Fin 64 → EReal)
    (hg : ∀ (a : Fin 4) (i : Fin 64), g (⟨a.val * 64 + i.val, by omega⟩ : Fin 256) = if a = h then ∑ b, w b * s i b else 0)
    (hf : ∀ i : Fin 64, f (⟨h.val * 64 + i.val, by omega⟩ : Fin 256) = p i)
    (hp : ∀ i, IsReal (p i)) (hw : ∀ b, IsReal (w b)) (hs : ∀ i b, IsReal (s i b)) :
    ∑ k, f k * g k = ∑ b, w b * ∑ i, p i * s i b := by
  rw [diag_row f g h _ hg, ← regroup hp hw hs]
  exact Finset.sum_congr rfl fun i _ => congrArg (· * _) (hf i)

end Cert.Turn

namespace Cert.Kernel6Ideal.Value
open Cert.Kernel6Ideal Cert.Kernel6Ideal.Gen Cert.Turn
open Cert.Kernel4Ideal.Value (modded projd latent projd_congr)
open Cert.Reference6Ideal.Value (proj proj_at outz outz_col)

/-- The first half of the Fourier columns times its rows of the operand. -/
theorem pay24_at (z : FVec Ideal S1024x1024 .f32) (w : Vec Ideal S256x512 .bf16) (i : Fin 1024) (q : Fin 512) : k0_pay24 (F := Ideal) z w (ix2 i q)
    = ∑ k : Fin 256, z (ix2 i (⟨512 + k.val, by omega⟩ : Fin 1024)) * w (ix2 k q) := by
  pointwise [k0_pay24, k0_pay23]
  try rfl

/-- The second half. -/
theorem pay25_at (z : FVec Ideal S1024x1024 .f32) (w : Vec Ideal S256x512 .bf16) (i : Fin 1024) (q : Fin 512) : k0_pay25 (F := Ideal) z w (ix2 i q)
    = ∑ k : Fin 256, z (ix2 i (⟨768 + k.val, by omega⟩ : Fin 1024)) * w (ix2 k q) := by
  pointwise [k0_pay25, k0_pay23]
  try rfl

/-- The first columns of two products side by side. -/
theorem pay26_at (z : FVec Ideal S1024x1024 .f32) (w w' : Vec Ideal S256x512 .bf16) (i : Fin 1024) (q : Fin 512) :
    k0_pay1 (F := Ideal) (k0_pay26 (F := Ideal) z w w') (ix2 i q)
      = if hq : q.val < 256 then k0_pay24 (F := Ideal) z w (ix2 i (⟨q.val, by omega⟩ : Fin 512)) else k0_pay25 (F := Ideal) z w' (ix2 i (⟨q.val - 256, by omega⟩ : Fin 512)) := by
  unfold k0_pay1 k0_pay26
  generalize k0_pay24 (F := Ideal) z w = a
  generalize k0_pay25 (F := Ideal) z w' = b
  pointwise
  try rfl

/-- The last columns of two products side by side. -/
theorem pay2_at (a b : FVec Ideal S1024x512 .f32) (i : Fin 1024) (q : Fin 512) : k0_pay2 (F := Ideal) a b (ix2 i q)
    = if hq : q.val < 256 then a (ix2 i (⟨256 + q.val, by omega⟩ : Fin 512)) else b (ix2 i (⟨256 + (q.val - 256), by omega⟩ : Fin 512)) := by
  pointwise [k0_pay2]
  try rfl

section
variable (x0 : Vec Ideal S1024x1024 .f32) (x1 : Vec Ideal S1x6x1024 .f32) (x2 : Vec Ideal S1x1024 .f32) (x3 : Vec Ideal S1024x1024 .bf16)
  (x4 : Vec Ideal S1x256 .f32) (x5 : Vec Ideal S1280x256 .bf16) (x6 : Vec Ideal S1x128 .f32) (x7 : Vec Ideal S256x1024 .bf16) (x8 : Vec Ideal S512x128 .bf16)
  (x9 : Vec Ideal S512x512 .bf16) (x10 : Vec Ideal S256x1024 .f32) (x11 : Vec Ideal S1024x128 .f32)

/-- The operand's upper rows. -/
theorem upper_at (k : Fin 256) (q : Fin 512) : View.ld x9 r0_12 (ix2 k q) = x9 (ix2 (⟨k.val, by omega⟩ : Fin 512) q) := by
  pointwise
  try rfl

/-- The operand's lower rows. -/
theorem lower_at (k : Fin 256) (q : Fin 512) : View.ld x9 r0_13 (ix2 k q) = x9 (ix2 (⟨256 + k.val, by omega⟩ : Fin 512) q) := by
  pointwise
  try rfl

/-- A grid point's stored groups, of the cosines. -/
theorem out15_blk (a : Fin 2) (q : Fin 256) (i : Fin 1024) (n : Fin 512) (hn : n.val = a.val * 256 + q.val) : out0_15 (F := Ideal) x0 x1 x2 x3 x4 x5 x6 x7 x8 x9 x10 x11 (ix2 i n)
    = ∑ k : Fin 256, zrow x0 x1 x2 x3 i (⟨512 + (a.val * 256 + k.val), by omega⟩ : Fin 1024) * x9 (ix2 (⟨a.val * 256 + k.val, by omega⟩ : Fin 512) (⟨0 + q.val, by omega⟩ : Fin 512)) := by
  unfold out0_15
  canon_tiles y h
  idx_vars y
  obtain rfl : i = y0 := Fin.ext h0
  obtain rfl : n = y1 := Fin.ext h1
  refine (pay26_at _ _ _ i _).trans ?_
  match a with
  | ⟨0, _⟩ =>
    have hn' : n.val = 0 * 256 + q.val := hn
    rw [dif_pos (show n.val < 256 by omega)]
    refine (pay24_at _ _ i _).trans (Finset.sum_congr rfl fun k _ => congrArg₂ (· * ·) ?_ ?_)
    · rw [z_at]
      exact congrArg _ (Fin.ext (show 512 + k.val = 512 + (0 * 256 + k.val) by omega))
    · rw [upper_at]
      exact congrArg₂ (fun r s => x9 (ix2 r s)) (Fin.ext (show k.val = 0 * 256 + k.val by omega)) (Fin.ext (show n.val = 0 + q.val by omega))
  | ⟨1, _⟩ =>
    have hn' : n.val = 1 * 256 + q.val := hn
    rw [dif_neg (show ¬(n.val < 256) by omega)]
    refine (pay25_at _ _ i _).trans (Finset.sum_congr rfl fun k _ => congrArg₂ (· * ·) ?_ ?_)
    · rw [z_at]
      exact congrArg _ (Fin.ext (show 768 + k.val = 512 + (1 * 256 + k.val) by omega))
    · rw [lower_at]
      exact congrArg₂ (fun r s => x9 (ix2 r s)) (Fin.ext (show 256 + k.val = 1 * 256 + k.val by omega)) (Fin.ext (show n.val - 256 = 0 + q.val by omega))

/-- A grid point's stored groups, of the sines. -/
theorem out16_blk (a : Fin 2) (q : Fin 256) (i : Fin 1024) (n : Fin 512) (hn : n.val = a.val * 256 + q.val) : out0_16 (F := Ideal) x0 x1 x2 x3 x4 x5 x6 x7 x8 x9 x10 x11 (ix2 i n)
    = ∑ k : Fin 256, zrow x0 x1 x2 x3 i (⟨512 + (a.val * 256 + k.val), by omega⟩ : Fin 1024) * x9 (ix2 (⟨a.val * 256 + k.val, by omega⟩ : Fin 512) (⟨256 + q.val, by omega⟩ : Fin 512)) := by
  unfold out0_16
  canon_tiles y h
  idx_vars y
  obtain rfl : i = y0 := Fin.ext h0
  obtain rfl : n = y1 := Fin.ext h1
  refine (pay2_at _ _ i _).trans ?_
  match a with
  | ⟨0, _⟩ =>
    have hn' : n.val = 0 * 256 + q.val := hn
    rw [dif_pos (show n.val < 256 by omega)]
    refine (pay24_at _ _ i _).trans (Finset.sum_congr rfl fun k _ => congrArg₂ (· * ·) ?_ ?_)
    · rw [z_at]
      exact congrArg _ (Fin.ext (show 512 + k.val = 512 + (0 * 256 + k.val) by omega))
    · rw [upper_at]
      exact congrArg₂ (fun r s => x9 (ix2 r s)) (Fin.ext (show k.val = 0 * 256 + k.val by omega)) (Fin.ext (show 256 + n.val = 256 + q.val by omega))
  | ⟨1, _⟩ =>
    have hn' : n.val = 1 * 256 + q.val := hn
    rw [dif_neg (show ¬(n.val < 256) by omega)]
    refine (pay25_at _ _ i _).trans (Finset.sum_congr rfl fun k _ => congrArg₂ (· * ·) ?_ ?_)
    · rw [z_at]
      exact congrArg _ (Fin.ext (show 768 + k.val = 512 + (1 * 256 + k.val) by omega))
    · rw [lower_at]
      exact congrArg₂ (fun r s => x9 (ix2 r s)) (Fin.ext (show 256 + k.val = 1 * 256 + k.val by omega)) (Fin.ext (show 256 + (n.val - 256) = 256 + q.val by omega))

end

variable (m : (ℓ : Loc nD τ sig) → Buf (Elt Ideal) ℓ)

set_option maxHeartbeats 2000000 in
/-- The groups' operand. -/
theorem V_wcs (c : Dev nD) : V m c main_v125 = layWcs (m ((c : Thread nD τ).loc main_arg8)) (m ((c : Thread nD τ).loc main_arg10)) (m ((c : Thread nD τ).loc main_arg11)) := by
  unfold V
  simp only [hostOps0]
  after_results_simp <;> rfl

/-- A matrix's block is the matrix. -/
theorem blk_wcs (c : Dev nD) (t : Fin cfg0.N) (r q : Fin 512) : iblk m c 9 t (ix2 r q) = layWcs (m ((c : Thread nD τ).loc main_arg8)) (m ((c : Thread nD τ).loc main_arg10)) (m ((c : Thread nD τ).loc main_arg11)) (ix2 r q) := by
  rw [← V_wcs m c]
  blk_ext [iblk, idx t]

/-- The last 512 columns of a grid point's projection are the reference's. -/
theorem z_hi (c : Dev nD) (t : Fin cfg0.N) (i : Fin 1024) (n : Fin 512) : zrow (iblk m c 0 t) (iblk m c 1 t) (iblk m c 2 t) (iblk m c 3 t) i (⟨512 + n.val, by omega⟩ : Fin 1024)
    = proj (m ((c : Thread nD τ).loc main_arg0)) (m ((c : Thread nD τ).loc main_arg1)) (m ((c : Thread nD τ).loc main_arg2)) (m ((c : Thread nD τ).loc main_arg3)) (ix3 (⟨(pt t).val / 2, by omega⟩ : Fin 4) (⟨(pt t).val % 2 * 1024 + i.val, by omega⟩ : Fin 2048) (⟨416 + n.val, by omega⟩ : Fin 928)) := by
  rw [proj_at]
  exact zrow_of m c t i _ _ fun k => layWin_hi _ n k

section
variable (c : Dev nD) (hmd : ∀ i, IsReal ((m ((c : Thread nD τ).loc main_arg1)) i)) (hg : ∀ i, IsReal ((m ((c : Thread nD τ).loc main_arg2)) i)) (hw : ∀ i, IsReal ((m ((c : Thread nD τ).loc main_arg3)) i))
  (hfm : ∀ i, IsReal ((m ((c : Thread nD τ).loc main_arg8)) i))
include hmd hg hw hfm

/-- The projection is real. -/
theorem proj_real (b : Fin 4) (s : Fin 2048) (n : Fin 928) : IsReal (proj (m ((c : Thread nD τ).loc main_arg0)) (m ((c : Thread nD τ).loc main_arg1)) (m ((c : Thread nD τ).loc main_arg2)) (m ((c : Thread nD τ).loc main_arg3)) (ix3 b s n)) := by
  rw [proj_at]
  unfold projd
  exact IsReal.dot (modded_real (fun k => hg _) (fun k => hmd _) (fun k => hmd _)) fun k => hw _

/-- The result array of the cosines is the reference's term of the arguments. -/
theorem final_zc (hs : ∀ i, IsReal ((m ((c : Thread nD τ).loc main_arg10)) i)) : (dats m 0 c).arrAt 15 (cfgs 0).N = outz (proj (m ((c : Thread nD τ).loc main_arg0)) (m ((c : Thread nD τ).loc main_arg1)) (m ((c : Thread nD τ).loc main_arg2)) (m ((c : Thread nD τ).loc main_arg3))) (m ((c : Thread nD τ).loc main_arg8)) (m ((c : Thread nD τ).loc main_arg10)) := by
  refine (dats m 0 c).arrAt_eq_of_covers 15 _ (by decide +kernel) fun t _ y => ?_
  blk_simp
  rw [after0_15]
  idx_vars y
  obtain ⟨a, h, d, rfl⟩ : ∃ (a : Fin 2) (h : Fin 4) (d : Fin 64), y1 = (⟨a.val * 256 + (h.val * 64 + d.val), by omega⟩ : Fin 512) :=
    ⟨⟨y1.val / 256, by omega⟩, ⟨y1.val % 256 / 64, by omega⟩, ⟨y1.val % 64, by omega⟩, Fin.ext (by simp only []; omega)⟩
  have he : ((View.whole main_v130_3).slice (win0_15.rect t)).emb (ix2 y0 (⟨a.val * 256 + (h.val * 64 + d.val), by omega⟩ : Fin 512))
      = ix2 (⟨(pt t).val * 1024 + y0.val, by omega⟩ : Fin 8192) (⟨a.val * 256 + (h.val * 64 + d.val), by omega⟩ : Fin 512) := by
    blk_ext [pt, idx t]
  refine Eq.trans ?_ (congrArg _ he.symm)
  refine (out15_blk _ _ _ _ _ _ _ _ _ _ _ _ a (⟨h.val * 64 + d.val, by omega⟩ : Fin 256) y0 _ rfl).trans
    (Eq.trans ?_ (outz_col _ _ _ _ _ (⟨a.val * 4 + h.val, by omega⟩ : Fin 8) d (by simp only []; omega)).symm)
  have hb : (⟨((pt t).val * 1024 + y0.val) / 2048, by omega⟩ : Fin 4) = ⟨(pt t).val / 2, by omega⟩ := Fin.ext (by simp only []; omega)
  have hs' : (⟨((pt t).val * 1024 + y0.val) % 2048, by omega⟩ : Fin 2048) = ⟨(pt t).val % 2 * 1024 + y0.val, by omega⟩ := Fin.ext (by simp only []; omega)
  simp only [hb, hs']
  have hg' := fun (h' : Fin 4) (i : Fin 64) => (blk_wcs m c t (⟨a.val * 256 + (h'.val * 64 + i.val), by omega⟩ : Fin 512) (⟨0 + (h.val * 64 + d.val), by omega⟩ : Fin 512)).trans
    (layWcs_cos (m ((c : Thread nD τ).loc main_arg8)) (m ((c : Thread nD τ).loc main_arg10)) (m ((c : Thread nD τ).loc main_arg11)) a h' h i d)
  have hf' : ∀ i : Fin 64, zrow (iblk m c 0 t) (iblk m c 1 t) (iblk m c 2 t) (iblk m c 3 t) y0 (⟨512 + (a.val * 256 + (h.val * 64 + i.val)), by omega⟩ : Fin 1024)
      = proj (m ((c : Thread nD τ).loc main_arg0)) (m ((c : Thread nD τ).loc main_arg1)) (m ((c : Thread nD τ).loc main_arg2)) (m ((c : Thread nD τ).loc main_arg3)) (ix3 (⟨(pt t).val / 2, by omega⟩ : Fin 4) (⟨(pt t).val % 2 * 1024 + y0.val, by omega⟩ : Fin 2048) (⟨416 + ((a.val * 4 + h.val) * 64 + i.val), by omega⟩ : Fin 928)) := by
    intro i
    refine (z_hi m c t y0 (⟨a.val * 256 + (h.val * 64 + i.val), by omega⟩ : Fin 512)).trans ?_
    exact congrArg (fun n => proj (m ((c : Thread nD τ).loc main_arg0)) (m ((c : Thread nD τ).loc main_arg1)) (m ((c : Thread nD τ).loc main_arg2)) (m ((c : Thread nD τ).loc main_arg3)) (ix3 (⟨(pt t).val / 2, by omega⟩ : Fin 4) (⟨(pt t).val % 2 * 1024 + y0.val, by omega⟩ : Fin 2048) n))
      (Fin.ext (show 416 + (a.val * 256 + (h.val * 64 + i.val)) = 416 + ((a.val * 4 + h.val) * 64 + i.val) by omega))
  have hp' := fun i : Fin 64 => proj_real m c hmd hg hw hfm (⟨(pt t).val / 2, by omega⟩ : Fin 4) (⟨(pt t).val % 2 * 1024 + y0.val, by omega⟩ : Fin 2048) (⟨416 + ((a.val * 4 + h.val) * 64 + i.val), by omega⟩ : Fin 928)
  generalize proj (m ((c : Thread nD τ).loc main_arg0)) (m ((c : Thread nD τ).loc main_arg1)) (m ((c : Thread nD τ).loc main_arg2)) (m ((c : Thread nD τ).loc main_arg3)) = pr at hf' hp' ⊢
  generalize (iblk m c 9 t) = wb at hg' ⊢
  generalize zrow (iblk m c 0 t) (iblk m c 1 t) (iblk m c 2 t) (iblk m c 3 t) = z at hf' ⊢
  exact group_eq _ _ h _ _ _ hg' hf' hp' (fun b => hfm _) (fun i b => hs _)

/-- The result array of the sines is the reference's term of the arguments. -/
theorem final_zs (hs : ∀ i, IsReal ((m ((c : Thread nD τ).loc main_arg11)) i)) : (dats m 0 c).arrAt 16 (cfgs 0).N = outz (proj (m ((c : Thread nD τ).loc main_arg0)) (m ((c : Thread nD τ).loc main_arg1)) (m ((c : Thread nD τ).loc main_arg2)) (m ((c : Thread nD τ).loc main_arg3))) (m ((c : Thread nD τ).loc main_arg8)) (m ((c : Thread nD τ).loc main_arg11)) := by
  refine (dats m 0 c).arrAt_eq_of_covers 16 _ (by decide +kernel) fun t _ y => ?_
  blk_simp
  rw [after0_16]
  idx_vars y
  obtain ⟨a, h, d, rfl⟩ : ∃ (a : Fin 2) (h : Fin 4) (d : Fin 64), y1 = (⟨a.val * 256 + (h.val * 64 + d.val), by omega⟩ : Fin 512) :=
    ⟨⟨y1.val / 256, by omega⟩, ⟨y1.val % 256 / 64, by omega⟩, ⟨y1.val % 64, by omega⟩, Fin.ext (by simp only []; omega)⟩
  have he : ((View.whole main_v130_4).slice (win0_16.rect t)).emb (ix2 y0 (⟨a.val * 256 + (h.val * 64 + d.val), by omega⟩ : Fin 512))
      = ix2 (⟨(pt t).val * 1024 + y0.val, by omega⟩ : Fin 8192) (⟨a.val * 256 + (h.val * 64 + d.val), by omega⟩ : Fin 512) := by
    blk_ext [pt, idx t]
  refine Eq.trans ?_ (congrArg _ he.symm)
  refine (out16_blk _ _ _ _ _ _ _ _ _ _ _ _ a (⟨h.val * 64 + d.val, by omega⟩ : Fin 256) y0 _ rfl).trans
    (Eq.trans ?_ (outz_col _ _ _ _ _ (⟨a.val * 4 + h.val, by omega⟩ : Fin 8) d (by simp only []; omega)).symm)
  have hb : (⟨((pt t).val * 1024 + y0.val) / 2048, by omega⟩ : Fin 4) = ⟨(pt t).val / 2, by omega⟩ := Fin.ext (by simp only []; omega)
  have hs' : (⟨((pt t).val * 1024 + y0.val) % 2048, by omega⟩ : Fin 2048) = ⟨(pt t).val % 2 * 1024 + y0.val, by omega⟩ := Fin.ext (by simp only []; omega)
  simp only [hb, hs']
  have hg' := fun (h' : Fin 4) (i : Fin 64) => (blk_wcs m c t (⟨a.val * 256 + (h'.val * 64 + i.val), by omega⟩ : Fin 512) (⟨256 + (h.val * 64 + d.val), by omega⟩ : Fin 512)).trans
    (layWcs_sin (m ((c : Thread nD τ).loc main_arg8)) (m ((c : Thread nD τ).loc main_arg10)) (m ((c : Thread nD τ).loc main_arg11)) a h' h i d)
  have hf' : ∀ i : Fin 64, zrow (iblk m c 0 t) (iblk m c 1 t) (iblk m c 2 t) (iblk m c 3 t) y0 (⟨512 + (a.val * 256 + (h.val * 64 + i.val)), by omega⟩ : Fin 1024)
      = proj (m ((c : Thread nD τ).loc main_arg0)) (m ((c : Thread nD τ).loc main_arg1)) (m ((c : Thread nD τ).loc main_arg2)) (m ((c : Thread nD τ).loc main_arg3)) (ix3 (⟨(pt t).val / 2, by omega⟩ : Fin 4) (⟨(pt t).val % 2 * 1024 + y0.val, by omega⟩ : Fin 2048) (⟨416 + ((a.val * 4 + h.val) * 64 + i.val), by omega⟩ : Fin 928)) := by
    intro i
    refine (z_hi m c t y0 (⟨a.val * 256 + (h.val * 64 + i.val), by omega⟩ : Fin 512)).trans ?_
    exact congrArg (fun n => proj (m ((c : Thread nD τ).loc main_arg0)) (m ((c : Thread nD τ).loc main_arg1)) (m ((c : Thread nD τ).loc main_arg2)) (m ((c : Thread nD τ).loc main_arg3)) (ix3 (⟨(pt t).val / 2, by omega⟩ : Fin 4) (⟨(pt t).val % 2 * 1024 + y0.val, by omega⟩ : Fin 2048) n))
      (Fin.ext (show 416 + (a.val * 256 + (h.val * 64 + i.val)) = 416 + ((a.val * 4 + h.val) * 64 + i.val) by omega))
  have hp' := fun i : Fin 64 => proj_real m c hmd hg hw hfm (⟨(pt t).val / 2, by omega⟩ : Fin 4) (⟨(pt t).val % 2 * 1024 + y0.val, by omega⟩ : Fin 2048) (⟨416 + ((a.val * 4 + h.val) * 64 + i.val), by omega⟩ : Fin 928)
  generalize proj (m ((c : Thread nD τ).loc main_arg0)) (m ((c : Thread nD τ).loc main_arg1)) (m ((c : Thread nD τ).loc main_arg2)) (m ((c : Thread nD τ).loc main_arg3)) = pr at hf' hp' ⊢
  generalize (iblk m c 9 t) = wb at hg' ⊢
  generalize zrow (iblk m c 0 t) (iblk m c 1 t) (iblk m c 2 t) (iblk m c 3 t) = z at hf' ⊢
  exact group_eq _ _ h _ _ _ hg' hf' hp' (fun b => hfm _) (fun i b => hs _)

end

end Cert.Kernel6Ideal.Value

end
-- ==== Proof.PremixFinite.lean ====
module

public import proofs.«01_k».proof.Proof.AttnFinite
public import proofs.«01_k».proof.Proof.Gen.Pre_finite_args

/-!
# The precondition on the latent tokens' arguments, read

`finite_args` says of the weights, tables and modulation vectors that the queries, the rotary keys and the Fourier groups are
products of that every element's absolute value is below infinity. Over the extended reals this is that every element is a real number.
-/

@[expose] public section

set_option maxRecDepth 16384

noncomputable section

open Idealize.ShloMosaic

namespace Cert.Finite

open Cert.Pre_finite_args in
/-- The precondition gives the eight arrays' elements as real numbers. -/
theorem opened_args [Cert.Pre_finite_args.Facts] (a0 : FVec Ideal S4x2048x1024 .f32) (a1 : FVec Ideal S8x6x1024 .f32) (a2 : FVec Ideal S1024 .f32) (a3 : FVec Ideal S1024x928 .f32) (a4 : FVec Ideal S256 .f32) (a5 : FVec Ideal S256x768 .f32) (a6 : FVec Ideal S128 .f32) (a7 : FVec Ideal S128x1024 .f32) (a8 : FVec Ideal S8x64x64 .f32) (a9 : FVec Ideal S2048x16 .f32)
    (a10 a11 : FVec Ideal S64x64 .f32)
    (h : Cert.Pre_finite_args.fn (F := Ideal) a0 a1 a2 a3 a4 a5 a6 a7 a8 a9 a10 a11 = fun _ => 1#1) :
    (∃ X : S8x6x1024.Idx → ℝ, ∀ i, a1 i = (X i : EReal)) ∧ (∃ X : S1024.Idx → ℝ, ∀ i, a2 i = (X i : EReal)) ∧ (∃ X : S1024x928.Idx → ℝ, ∀ i, a3 i = (X i : EReal)) ∧ (∃ X : S256.Idx → ℝ, ∀ i, a4 i = (X i : EReal)) ∧ (∃ X : S256x768.Idx → ℝ, ∀ i, a5 i = (X i : EReal))
    ∧ (∃ X : S8x64x64.Idx → ℝ, ∀ i, a8 i = (X i : EReal)) ∧ (∃ X : S64x64.Idx → ℝ, ∀ i, a10 i = (X i : EReal)) ∧ (∃ X : S64x64.Idx → ℝ, ∀ i, a11 i = (X i : EReal)) := by
  have h0 := congrFun h ix0
  unfold fn fn_part1 fn_part2 at h0
  obtain ⟨h6, e8⟩ := both h0
  obtain ⟨h5, e7⟩ := both h6
  obtain ⟨h4, e6⟩ := both h5
  obtain ⟨h1, e5⟩ := both h4
  obtain ⟨h2, e4⟩ := both h1
  obtain ⟨h3, e3⟩ := both h2
  obtain ⟨e1, e2⟩ := both h3
  haveI : Subsingleton S_.Idx := ⟨fun a b => funext fun d => d.elim0⟩
  exact ⟨reals a1 _ _ _ _ _ e1, reals a2 _ _ _ _ _ e2, reals a3 _ _ _ _ _ e3, reals a4 _ _ _ _ _ e4, reals a5 _ _ _ _ _ e5,
    reals a8 _ _ _ _ _ e6, reals a10 _ _ _ _ _ e7, reals a11 _ _ _ _ _ e8⟩

end Cert.Finite

end
-- ==== Proof.CacheValue.lean ====
module

public import proofs.«01_k».proof.Proof.PremixHost
public import proofs.«01_k».proof.Proof.PremixMath
public import proofs.«01_k».proof.Proof.Gen.Kernel7Ideal.Frame
public import proofs.«01_k».proof.Proof.Gen.Reference7Ideal.Run
public import Idealize.ShloMosaic.Lib.Pipeline.ValueKit
public import Idealize.ShloMosaic.Lib.Pointwise

/-!
# The cached tokens' keys and values: what the kernel's result arrays hold

A grid point takes 512 cached tokens. A token's row holds its latent, its rotary key and zeros; one product with the key
matrix gives all heads' keys, the rotary key in its columns of every head, and the value matrix times the latents gives
the values, already transposed.
-/

@[expose] public section

set_option maxRecDepth 16384

noncomputable section

open Idealize.ShloMosaic Idealize.ShloMosaic.TcCoe Idealize.SL.Sem
open Idealize.ShloMosaic.Pipeline (Dat)

namespace Cert.Reference7Ideal.Value
open Cert.Reference7Ideal Cert.Reference7Ideal.Gen

/-- The latents times the matrix, head by head: keys first, then values. -/
def ckvh (x : FVec Ideal S4x1x512x128 .f32) (w : FVec Ideal S128x1024 .f32) : FVec Ideal S4x512x8x128 .f32 :=
  shapeCast S4x512x8x128 (Host.dotGeneral dot_S4x512x128_S128x1024_S4x512x1024_2_0_01_1_n_n none (shapeCast S4x512x128 x shapeCasts_S4x1x512x128_S4x512x128) w) shapeCasts_S4x512x1024_S4x512x8x128

/-- The cached keys in the attention's layout. -/
def ckeys (x : FVec Ideal S4x1x512x128 .f32) (p : FVec Ideal S4x1x512x32 .f32) (w : FVec Ideal S128x1024 .f32) : FVec Ideal S2048x1024 .bf16 :=
  truncf .bf16 (shapeCast S2048x1024 ((concatenate S4x512x8x128 3 [⟨S4x512x8x64, ((extractStridedSlice S4x512x8x64 ![0, 0, 0, 0] (ckvh x w) slices_S4x512x8x128_S4x512x8x64_0_0_0_0))⟩, ⟨S4x512x8x32, ((broadcastInDim S4x512x8x32 ![0, 1, 2, 3] bcast_S4x512x1x32_S4x512x8x32_0_1_2_3 (broadcastInDim S4x512x1x32 ![0, 1, 3] bcast_S4x512x32_S4x512x1x32_0_1_3 (shapeCast S4x512x32 p shapeCasts_S4x1x512x32_S4x512x32))))⟩, ⟨S4x512x8x32, ((broadcastInDim S4x512x8x32 ![] bcast_S_S4x512x8x32 (constant S_ .f32 0x00000000#32)))⟩] concatenates_S4x512x8x64_S4x512x8x32_S4x512x8x32_S4x512x8x128_d3)) shapeCasts_S4x512x8x128_S2048x1024) bitsLt_bf16_f32

/-- The cached values in the attention's layout. -/
def cvals (x : FVec Ideal S4x1x512x128 .f32) (w : FVec Ideal S128x1024 .f32) : FVec Ideal S512x2048 .bf16 :=
  truncf .bf16 (shapeCast S512x2048 (transpose S8x64x4x512 [2, 3, 0, 1] (extractStridedSlice S4x512x8x64 ![0, 0, 0, 64] (ckvh x w) slices_S4x512x8x128_S4x512x8x64_0_0_0_64) transposes_S4x512x8x64_S8x64x4x512_2_3_0_1) shapeCasts_S8x64x4x512_S512x2048) bitsLt_bf16_f32

/-- A product's entry. -/
theorem ckvh_at (x : FVec Ideal S4x1x512x128 .f32) (w : FVec Ideal S128x1024 .f32) (b : Fin 4) (t : Fin 512) (h : Fin 8) (j : Fin 128) :
    ckvh x w (ix4 b t h j) = ∑ k : Fin 128, x (ix4 b 0 t k) * w (ix2 k (⟨h.val * 128 + j.val, by omega⟩ : Fin 1024)) := by
  pointwise [ckvh]

/-- A cached key's entry in a head, from the products. -/
theorem ckeys_of (x : FVec Ideal S4x1x512x128 .f32) (p : FVec Ideal S4x1x512x32 .f32) (w : FVec Ideal S128x1024 .f32) (h : Fin 8) (j : Fin 128) (r : Fin 2048) :
    ckeys x p w (ix2 r (⟨h.val * 128 + j.val, by omega⟩ : Fin 1024))
    = if hj : j.val < 64 then ckvh x w (ix4 (⟨r.val / 512, by omega⟩ : Fin 4) (⟨r.val % 512, by omega⟩ : Fin 512) h (⟨j.val, by omega⟩ : Fin 128))
      else if hj : j.val - 64 < 32 then p (ix4 (⟨r.val / 512, by omega⟩ : Fin 4) 0 (⟨r.val % 512, by omega⟩ : Fin 512) (⟨j.val - 64, by omega⟩ : Fin 32))
      else 0 := by
  unfold ckeys
  generalize ckvh x w = kv
  pointwise
  try rfl

/-- A cached key's entry in a head. -/
theorem ckeys_at (x : FVec Ideal S4x1x512x128 .f32) (p : FVec Ideal S4x1x512x32 .f32) (w : FVec Ideal S128x1024 .f32) (h : Fin 8) (j : Fin 128) (r : Fin 2048) :
    ckeys x p w (ix2 r (⟨h.val * 128 + j.val, by omega⟩ : Fin 1024))
    = if hj : j.val < 64 then ∑ k : Fin 128, x (ix4 (⟨r.val / 512, by omega⟩ : Fin 4) 0 (⟨r.val % 512, by omega⟩ : Fin 512) k) * w (ix2 k (⟨h.val * 128 + j.val, by omega⟩ : Fin 1024))
      else if hj : j.val - 64 < 32 then p (ix4 (⟨r.val / 512, by omega⟩ : Fin 4) 0 (⟨r.val % 512, by omega⟩ : Fin 512) (⟨j.val - 64, by omega⟩ : Fin 32))
      else 0 :=
  (ckeys_of x p w h j r).trans (dite_congr rfl (fun _ => ckvh_at x w _ _ h j) fun _ => rfl)

/-- A cached value's entry in a head. -/
theorem cvals_at (x : FVec Ideal S4x1x512x128 .f32) (w : FVec Ideal S128x1024 .f32) (h : Fin 8) (j : Fin 64) (r : Fin 2048) :
    cvals x w (ix2 (⟨h.val * 64 + j.val, by omega⟩ : Fin 512) r)
    = ∑ k : Fin 128, x (ix4 (⟨r.val / 512, by omega⟩ : Fin 4) 0 (⟨r.val % 512, by omega⟩ : Fin 512) k) * w (ix2 k (⟨h.val * 128 + (64 + j.val), by omega⟩ : Fin 1024)) := by
  refine Eq.trans ?_ (ckvh_at x w (⟨r.val / 512, by omega⟩ : Fin 4) (⟨r.val % 512, by omega⟩ : Fin 512) h (⟨64 + j.val, by omega⟩ : Fin 128))
  unfold cvals
  generalize ckvh x w = kv
  pointwise

end Cert.Reference7Ideal.Value

namespace Cert.Kernel7Ideal.Value
open Cert.Kernel7Ideal Cert.Kernel7Ideal.Gen Cert.Reference7Ideal.Value
open Cert.Kernel6Ideal.Value (layWk layWv layWk_top layWk_one layWk_two layWk_low layWv_at place_at)
open Cert.Turn (sum256 sum_place)

/-- The cached tokens' rows: the latent, the rotary key and zeros. -/
def layXk (x : FVec Ideal S4x1x512x128 .f32) (p : FVec Ideal S4x1x512x32 .f32) : FVec Ideal S2048x256 .bf16 :=
  truncf .bf16 (shapeCast S2048x256 (concatenate S4x512x256 2 [⟨S4x512x128, (shapeCast S4x512x128 x shapeCasts_S4x1x512x128_S4x512x128)⟩, ⟨S4x512x32, (shapeCast S4x512x32 p shapeCasts_S4x1x512x32_S4x512x32)⟩, ⟨S4x512x96, (broadcastInDim S4x512x96 ![] bcast_S_S4x512x96 (constant S_ .f32 0x00000000#32))⟩] concatenates_S4x512x128_S4x512x32_S4x512x96_S4x512x256_d2) shapeCasts_S4x512x256_S2048x256) bitsLt_bf16_f32

/-- A cached token's row at a column. -/
theorem layXk_at (x : FVec Ideal S4x1x512x128 .f32) (p : FVec Ideal S4x1x512x32 .f32) (r : Fin 2048) (k : Fin 256) : layXk x p (ix2 r k)
    = if hk : k.val < 128 then x (ix4 (⟨r.val / 512, by omega⟩ : Fin 4) 0 (⟨r.val % 512, by omega⟩ : Fin 512) (⟨k.val, by omega⟩ : Fin 128))
      else if hk : k.val - 128 < 32 then p (ix4 (⟨r.val / 512, by omega⟩ : Fin 4) 0 (⟨r.val % 512, by omega⟩ : Fin 512) (⟨k.val - 128, by omega⟩ : Fin 32)) else 0 := by
  pointwise [layXk]
  try rfl

/-- What a grid point stores of the keys. -/
theorem outk_blk (x0 : Vec Ideal S512x256 .bf16) (x1 : Vec Ideal S256x1024 .bf16) (x2 : Vec Ideal S512x128 .bf16) (i : Fin 512) (q : Fin 1024) :
    out0_3 (F := Ideal) x0 x1 x2 (ix2 i q) = ∑ k : Fin 256, x0 (ix2 i k) * x1 (ix2 k q) := by
  unfold out0_3
  canon_tiles y h
  idx_vars y
  obtain rfl : i = y0 := Fin.ext h0
  obtain rfl : q = y1 := Fin.ext h1
  pointwise [k0_pay2, k0_pay1]
  try rfl

/-- What a grid point stores of the values. -/
theorem outv_blk (x0 : Vec Ideal S512x256 .bf16) (x1 : Vec Ideal S256x1024 .bf16) (x2 : Vec Ideal S512x128 .bf16) (r : Fin 512) (i : Fin 512) :
    out0_4 (F := Ideal) x0 x1 x2 (ix2 r i) = ∑ k : Fin 128, x2 (ix2 r k) * x0 (ix2 i (⟨k.val, by omega⟩ : Fin 256)) := by
  unfold out0_4
  canon_tiles y h
  idx_vars y
  obtain rfl : r = y0 := Fin.ext h0
  obtain rfl : i = y1 := Fin.ext h1
  pointwise [k0_pay3, k0_pay1]
  try rfl

/-- A cached key at a head's column: the latent's product, the rotary key, or zero. -/
theorem ckey_eq (X wk : Fin 256 → EReal) (L u : Fin 128 → EReal) (P : Fin 32 → EReal) (j : Fin 128)
    (x0 : ∀ k : Fin 128, X ⟨k.val, by omega⟩ = L k) (x1 : ∀ n : Fin 32, X ⟨128 + n.val, by omega⟩ = P n) (x2 : ∀ n : Fin 32, X ⟨160 + n.val, by omega⟩ = 0)
    (w0 : ∀ k : Fin 128, wk ⟨k.val, by omega⟩ = if hj : j.val < 64 then u k else 0)
    (w1 : ∀ n : Fin 32, wk ⟨128 + n.val, by omega⟩ = if hj : j.val < 64 then 0 else if hj : j.val - 64 < 32 then (if n.val = j.val - 64 then 1 else 0) else 0)
    (w3 : ∀ n : Fin 64, wk ⟨192 + n.val, by omega⟩ = 0) :
    ∑ k : Fin 256, X k * wk k = if hj : j.val < 64 then ∑ k, L k * u k else if hj : j.val - 64 < 32 then P ⟨j.val - 64, hj⟩ else 0 := by
  rw [sum256]
  simp only [x0, x1, x2, w0, w1, w3, mul_zero, zero_mul, Finset.sum_const_zero, add_zero]
  by_cases hj : j.val < 64
  · simp only [dif_pos hj, mul_zero, Finset.sum_const_zero, add_zero]
  · simp only [dif_neg hj, mul_zero, Finset.sum_const_zero, zero_add]
    by_cases hm : j.val - 64 < 32
    · simp only [dif_pos hm]
      exact sum_place P ⟨j.val - 64, hm⟩
    · simp only [dif_neg hm, mul_zero, Finset.sum_const_zero]

variable (m : (ℓ : Loc nD τ sig) → Buf (Elt Ideal) ℓ)

/-- The windows' block indices at a grid point. -/
theorem idx : ∀ t : Fin cfg0.N, win0_0.index t = ![t.val, 0] ∧ win0_1.index t = ![0, 0] ∧ win0_2.index t = ![0, 0]
    ∧ win0_3.index t = ![t.val, 0] ∧ win0_4.index t = ![0, t.val] :=
  (by decide +kernel : ∀ t : Fin grid0.N, _)

/-- A grid point's number. -/
def pt (t : Fin cfg0.N) : Fin 4 := ⟨t.val, t.isLt.trans_eq N_0⟩

set_option maxHeartbeats 2000000 in
/-- The tokens' rows when the call starts. -/
theorem V_xk (c : Dev nD) : V m c main_v29 = layXk (m ((c : Thread nD τ).loc main_arg0)) (m ((c : Thread nD τ).loc main_arg1)) := by
  unfold V
  simp only [hostOps0]
  after_results_simp <;> rfl

set_option maxHeartbeats 2000000 in
/-- The keys' operand. -/
theorem V_wk (c : Dev nD) : V m c main_v19 = layWk (m ((c : Thread nD τ).loc main_arg2)) := by
  unfold V
  simp only [hostOps0]
  after_results_simp <;> rfl

set_option maxHeartbeats 2000000 in
/-- The values' operand. -/
theorem V_wv (c : Dev nD) : V m c main_v23 = layWv (m ((c : Thread nD τ).loc main_arg2)) := by
  unfold V
  simp only [hostOps0]
  after_results_simp <;> rfl

/-- A point's tokens: 512 rows. -/
theorem blk_x (c : Dev nD) (t : Fin cfg0.N) (i : Fin 512) (k : Fin 256) : iblk m c 0 t (ix2 i k)
    = layXk (m ((c : Thread nD τ).loc main_arg0)) (m ((c : Thread nD τ).loc main_arg1)) (ix2 (⟨(pt t).val * 512 + i.val, by omega⟩ : Fin 2048) k) := by
  rw [← V_xk m c]
  blk_ext [iblk, pt, idx t]

/-- The key matrix is whole at every point. -/
theorem blk_wk (c : Dev nD) (t : Fin cfg0.N) (k : Fin 256) (q : Fin 1024) : iblk m c 1 t (ix2 k q)
    = layWk (m ((c : Thread nD τ).loc main_arg2)) (ix2 k q) := by
  rw [← V_wk m c]
  blk_ext [iblk, idx t]

/-- The value matrix is whole at every point. -/
theorem blk_wv (c : Dev nD) (t : Fin cfg0.N) (r : Fin 512) (k : Fin 128) : iblk m c 2 t (ix2 r k)
    = layWv (m ((c : Thread nD τ).loc main_arg2)) (ix2 r k) := by
  rw [← V_wv m c]
  blk_ext [iblk, idx t]

/-- A token's latent. -/
theorem x_lat (c : Dev nD) (t : Fin cfg0.N) (i : Fin 512) (k : Fin 128) : iblk m c 0 t (ix2 i (⟨k.val, by omega⟩ : Fin 256))
    = (m ((c : Thread nD τ).loc main_arg0)) (ix4 (pt t) 0 i k) := by
  refine (blk_x m c t i _).trans ((layXk_at _ _ _ _).trans ((dif_pos (show (⟨k.val, by omega⟩ : Fin 256).val < 128 from k.isLt)).trans ?_))
  have hb : (⟨((pt t).val * 512 + i.val) / 512, by omega⟩ : Fin 4) = pt t := Fin.ext (by simp only []; omega)
  have hs : (⟨((pt t).val * 512 + i.val) % 512, by omega⟩ : Fin 512) = i := Fin.ext (by simp only []; omega)
  simp only [hb, hs]

/-- A token's rotary key. -/
theorem x_rot (c : Dev nD) (t : Fin cfg0.N) (i : Fin 512) (n : Fin 32) : iblk m c 0 t (ix2 i (⟨128 + n.val, by omega⟩ : Fin 256))
    = (m ((c : Thread nD τ).loc main_arg1)) (ix4 (pt t) 0 i n) := by
  refine (blk_x m c t i _).trans ((layXk_at _ _ _ _).trans ((dif_neg (show ¬(⟨128 + n.val, by omega⟩ : Fin 256).val < 128 by simp only []; omega)).trans
    ((dif_pos (show (⟨128 + n.val, by omega⟩ : Fin 256).val - 128 < 32 by simp only []; omega)).trans ?_)))
  have hb : (⟨((pt t).val * 512 + i.val) / 512, by omega⟩ : Fin 4) = pt t := Fin.ext (by simp only []; omega)
  have hs : (⟨((pt t).val * 512 + i.val) % 512, by omega⟩ : Fin 512) = i := Fin.ext (by simp only []; omega)
  have hn : (⟨128 + n.val - 128, by omega⟩ : Fin 32) = n := Fin.ext (by simp only []; omega)
  simp only [hb, hs, hn]

/-- The columns after the rotary key hold zeros. -/
theorem x_zero (c : Dev nD) (t : Fin cfg0.N) (i : Fin 512) (n : Fin 32) : iblk m c 0 t (ix2 i (⟨160 + n.val, by omega⟩ : Fin 256)) = (0 : EReal) :=
  (blk_x m c t i _).trans ((layXk_at _ _ _ _).trans ((dif_neg (show ¬(⟨160 + n.val, by omega⟩ : Fin 256).val < 128 by simp only []; omega)).trans
    (dif_neg (show ¬(⟨160 + n.val, by omega⟩ : Fin 256).val - 128 < 32 by simp only []; omega))))

/-- The keys' result array is the reference's term of the arguments. -/
theorem final_k (c : Dev nD) : (dats m 0 c).arrAt 3 (cfgs 0).N
    = ckeys (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  obtain ⟨h, j, rfl⟩ : ∃ (h : Fin 8) (j : Fin 128), y1 = (⟨h.val * 128 + j.val, by omega⟩ : Fin 1024) :=
    ⟨⟨y1.val / 128, by omega⟩, ⟨y1.val % 128, by omega⟩, Fin.ext (by simp only []; omega)⟩
  have he : ((View.whole main_v30_0).slice (win0_3.rect t)).emb (ix2 y0 (⟨h.val * 128 + j.val, by omega⟩ : Fin 1024))
      = ix2 (⟨(pt t).val * 512 + y0.val, by omega⟩ : Fin 2048) (⟨h.val * 128 + j.val, by omega⟩ : Fin 1024) := by
    blk_ext [pt, idx t]
  refine Eq.trans ?_ (congrArg _ he.symm)
  refine (outk_blk _ _ _ y0 _).trans (Eq.trans ?_ (ckeys_at _ _ _ h j _).symm)
  have hb : (⟨((pt t).val * 512 + y0.val) / 512, by omega⟩ : Fin 4) = pt t := Fin.ext (by simp only []; omega)
  have hs : (⟨((pt t).val * 512 + y0.val) % 512, by omega⟩ : Fin 512) = y0 := Fin.ext (by simp only []; omega)
  simp only [hb, hs]
  exact ckey_eq (fun k => iblk m c 0 t (ix2 y0 k)) (fun k => iblk m c 1 t (ix2 k (⟨h.val * 128 + j.val, by omega⟩ : Fin 1024)))
    (fun k => (m ((c : Thread nD τ).loc main_arg0)) (ix4 (pt t) 0 y0 k)) (fun k => (m ((c : Thread nD τ).loc main_arg2)) (ix2 k (⟨h.val * 128 + j.val, by omega⟩ : Fin 1024)))
    (fun n => (m ((c : Thread nD τ).loc main_arg1)) (ix4 (pt t) 0 y0 n)) j
    (fun k => x_lat m c t y0 k) (fun n => x_rot m c t y0 n) (fun n => x_zero m c t y0 n)
    (fun k => (blk_wk m c t _ _).trans ((congrArg (fun r => layWk (m ((c : Thread nD τ).loc main_arg2)) (ix2 r _)) (a₂ := (⟨0 + k.val, by omega⟩ : Fin 256))
      (Fin.ext (Nat.zero_add _).symm)).trans (layWk_top _ k h j)))
    (fun n => (blk_wk m c t _ _).trans ((layWk_one _ n h j).trans (place_at n j)))
    (fun n => (blk_wk m c t _ _).trans (layWk_low _ n _))

/-- The values' result array is the reference's term of the arguments. -/
theorem final_v (c : Dev nD) : (dats m 0 c).arrAt 4 (cfgs 0).N
    = cvals (m ((c : Thread nD τ).loc main_arg0)) (m ((c : Thread nD τ).loc main_arg2)) := by
  refine (dats m 0 c).arrAt_eq_of_covers 4 _ (by decide +kernel) fun t _ y => ?_
  blk_simp
  rw [after0_4]
  idx_vars y
  obtain ⟨h, j, rfl⟩ : ∃ (h : Fin 8) (j : Fin 64), y0 = (⟨h.val * 64 + j.val, by omega⟩ : Fin 512) :=
    ⟨⟨y0.val / 64, by omega⟩, ⟨y0.val % 64, by omega⟩, Fin.ext (by simp only []; omega)⟩
  have he : ((View.whole main_v30_1).slice (win0_4.rect t)).emb (ix2 (⟨h.val * 64 + j.val, by omega⟩ : Fin 512) y1)
      = ix2 (⟨h.val * 64 + j.val, by omega⟩ : Fin 512) (⟨(pt t).val * 512 + y1.val, by omega⟩ : Fin 2048) := by
    blk_ext [pt, idx t]
  refine Eq.trans ?_ (congrArg _ he.symm)
  refine (outv_blk _ _ _ _ y1).trans (Eq.trans ?_ (cvals_at _ _ h j _).symm)
  have hb : (⟨((pt t).val * 512 + y1.val) / 512, by omega⟩ : Fin 4) = pt t := Fin.ext (by simp only []; omega)
  have hs : (⟨((pt t).val * 512 + y1.val) % 512, by omega⟩ : Fin 512) = y1 := Fin.ext (by simp only []; omega)
  simp only [hb, hs]
  refine Finset.sum_congr rfl fun k _ => ?_
  rw [mul_comm]
  exact congrArg₂ (· * ·) (x_lat m c t y1 k) ((blk_wv m c t _ k).trans (layWv_at _ h j k))

end Cert.Kernel7Ideal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite_qk
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Pre_finite_args
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import Idealize.ShloMosaic.Adequacy
public import Idealize.ShloMosaic.Init

public import proofs.«01_k».proof.Proof.AttnFinal
public import proofs.«01_k».proof.Proof.AttnFinite
public import proofs.«01_k».proof.Proof.FfnValue
public import proofs.«01_k».proof.Proof.CombineValue
public import proofs.«01_k».proof.Proof.FrontValue
public import proofs.«01_k».proof.Proof.ModsValue
public import proofs.«01_k».proof.Proof.PremixFourier
public import proofs.«01_k».proof.Proof.PremixFinite
public import proofs.«01_k».proof.Proof.CacheValue
public import Idealize.ShloMosaic.Lib.Claim

@[expose] public section

noncomputable section

namespace Cert.Proof

open Idealize.ShloMosaic Idealize.SL.Sem Cert.Kernel

/-- The attention at the ideal reading: with real queries and keys the kernel's result is the reference's. -/
theorem algebraic_attention : Cert.algebraic_KernelIdeal_ReferenceIdeal_pre_finite_qk (hPre_finite_qk := Cert.Pre_finite_qk.Gen.facts) := by
  pair_intro
  · run_from Cert.KernelIdeal.Gen.run_main m g
  · run_from Cert.ReferenceIdeal.Value.run m' g'
    · obtain ⟨e0, e1, e2, e3, e4, e5, e6, e7⟩ := hagree c
      haveI := Cert.Pre_finite_qk.Gen.facts
      obtain ⟨⟨QN, h0⟩, ⟨QP, h1⟩, ⟨NP, h2⟩, ⟨PP, h3⟩, ⟨NL, h5⟩, ⟨PL, h6⟩⟩ := Cert.Finite.opened _ _ _ _ _ _ _ _ (hpre c)
      refine Eq.trans ?_ (Cert.KernelIdeal.Value.final m c QN QP NP PP NL PL h0 h1 h2 h3 h5 h6).symm
      rw [← e0, ← e1, ← e2, ← e3, ← e4, ← e5, ← e6, ← e7]
      rfl

/-- The experts' layer at the ideal reading: the kernel's two results are the reference's. -/
theorem algebraic_ffn : Cert.algebraic_Kernel2Ideal_Reference2Ideal := by
  pair_intro
  · run_from Cert.Kernel2Ideal.Gen.run_main m g
  · run_from Cert.Reference2Ideal.Value.run m' g'
    · exact (Cert.Kernel2Ideal.Value.final_c m c).symm
    · exact (Cert.Kernel2Ideal.Value.final_l m c).symm

/-- Result 1 from the tokens after attention, at the ideal reading: the kernel's result is the reference's. -/
theorem algebraic_combine : Cert.algebraic_Kernel3Ideal_Reference3Ideal := by
  pair_intro
  · run_from Cert.Kernel3Ideal.Gen.run_main m g
  · run_from Cert.Reference3Ideal.Value.run m' g'
    · obtain ⟨e0, e1, e2, e3, e4⟩ := hagree c
      refine Eq.trans ?_ (Cert.Kernel3Ideal.Value.final m c).symm
      rw [← e0, ← e1, ← e2, ← e3, ← e4]
      rfl

/-- The kernel of results 3 and 4 ends with the reference's terms of its arguments, the arguments unchanged. -/
theorem run_front (m : (ℓ : Loc Cert.Kernel4Ideal.nD Cert.Kernel4Ideal.τ Cert.Kernel4Ideal.sig) → Buf (Elt Ideal) ℓ)
    (g : Dev Cert.Kernel4Ideal.nD → PrngReg) :
    θ_run (Cert.Kernel4Ideal.defs (F := Ideal)) (onTc (τ := Cert.Kernel4Ideal.τ) (Cert.Kernel4Ideal.main (F := Ideal)))
      ⟨m, fun _ => 0, g⟩ (fun r => ∀ c : Dev Cert.Kernel4Ideal.nD,
        r.2.mem ((c.tc : Thread Cert.Kernel4Ideal.nD Cert.Kernel4Ideal.τ).loc Cert.Kernel4Ideal.main_v150_3)
          = Cert.Reference4Ideal.Value.REFckv (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg6))
        ∧ r.2.mem ((c.tc : Thread Cert.Kernel4Ideal.nD Cert.Kernel4Ideal.τ).loc Cert.Kernel4Ideal.main_v150_4)
          = Cert.Reference4Ideal.Value.REFkpe (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))
        ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
        ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
        ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
        ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
        ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
        ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
        ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
        ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
        ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
        ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
        ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
        ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)) :=
  (θ_run Cert.Kernel4Ideal.defs _ _).mono
    (fun _ h c => ⟨((h.2 c).1 20).trans (Cert.Kernel4Ideal.Value.final_ckv m c),
      ((h.2 c).1 21).trans (Cert.Kernel4Ideal.Value.final_kpe m c), h.1 c⟩)
    (θ_run_and (Cert.Kernel4Ideal.Gen.unchanged m g) (Cert.Kernel4Ideal.Gen.run_main m g))

/-- Results 3 and 4 from the modulation vectors, at the ideal reading: the kernel's are the reference's. -/
theorem algebraic_front : Cert.algebraic_Kernel4Ideal_Reference4Ideal := by
  intro m g m' g' _ hagree
  refine ⟨_, _, run_front m g, ?_⟩
  refine (θ_run Cert.Reference4Ideal.defs _ _).mono (fun r h c => ?_) (Cert.Reference4Ideal.Value.run m' g')
  obtain ⟨e0, e1, e2, e3, e4, e5, e6, e7, e8, e9, e10, e11⟩ := hagree c
  refine ⟨(h c).1.trans ?_, (h c).2.1.trans ?_, (h c).2.2⟩
  · rw [← e0, ← e1, ← e2, ← e3, ← e6]
    rfl
  · rw [← e0, ← e1, ← e2, ← e3]
    rfl

/-- The modulation vectors at the ideal reading: the kernel's are the reference's. -/
theorem algebraic_mods : Cert.algebraic_Kernel5Ideal_Reference5Ideal := by
  pair_intro
  · run_from Cert.Kernel5Ideal.Gen.run_main m g
  · run_from Cert.Reference5Ideal.Value.run m' g'
    · obtain ⟨e0, e1, e2, e3⟩ := hagree c
      refine Eq.trans ?_ (Cert.Kernel5Ideal.Value.final m c).symm
      rw [← e0, ← e1, ← e2, ← e3]
      rfl

/-- The kernel of the latent tokens' queries, keys, values and Fourier groups ends with the reference's terms of its arguments,
the weights, tables and modulation vectors of the queries, the rotary keys and the groups real; the arguments are unchanged. -/
theorem run_premix (m : (ℓ : Loc Cert.Kernel6Ideal.nD Cert.Kernel6Ideal.τ Cert.Kernel6Ideal.sig) → Buf (Elt Ideal) ℓ)
    (g : Dev Cert.Kernel6Ideal.nD → PrngReg)
    (hmd : ∀ c : Dev Cert.Kernel6Ideal.nD, ∀ i, Cert.Turn.IsReal ((m ((c.tc : Thread Cert.Kernel6Ideal.nD Cert.Kernel6Ideal.τ).loc Cert.Kernel6Ideal.main_arg1)) i))
    (hg : ∀ c : Dev Cert.Kernel6Ideal.nD, ∀ i, Cert.Turn.IsReal ((m ((c.tc : Thread Cert.Kernel6Ideal.nD Cert.Kernel6Ideal.τ).loc Cert.Kernel6Ideal.main_arg2)) i))
    (hw : ∀ c : Dev Cert.Kernel6Ideal.nD, ∀ i, Cert.Turn.IsReal ((m ((c.tc : Thread Cert.Kernel6Ideal.nD Cert.Kernel6Ideal.τ).loc Cert.Kernel6Ideal.main_arg3)) i))
    (hqg : ∀ c : Dev Cert.Kernel6Ideal.nD, ∀ i, Cert.Turn.IsReal ((m ((c.tc : Thread Cert.Kernel6Ideal.nD Cert.Kernel6Ideal.τ).loc Cert.Kernel6Ideal.main_arg4)) i))
    (huq : ∀ c : Dev Cert.Kernel6Ideal.nD, ∀ i, Cert.Turn.IsReal ((m ((c.tc : Thread Cert.Kernel6Ideal.nD Cert.Kernel6Ideal.τ).loc Cert.Kernel6Ideal.main_arg5)) i))
    (hfm : ∀ c : Dev Cert.Kernel6Ideal.nD, ∀ i, Cert.Turn.IsReal ((m ((c.tc : Thread Cert.Kernel6Ideal.nD Cert.Kernel6Ideal.τ).loc Cert.Kernel6Ideal.main_arg8)) i))
    (hcc : ∀ c : Dev Cert.Kernel6Ideal.nD, ∀ i, Cert.Turn.IsReal ((m ((c.tc : Thread Cert.Kernel6Ideal.nD Cert.Kernel6Ideal.τ).loc Cert.Kernel6Ideal.main_arg10)) i))
    (hsc : ∀ c : Dev Cert.Kernel6Ideal.nD, ∀ i, Cert.Turn.IsReal ((m ((c.tc : Thread Cert.Kernel6Ideal.nD Cert.Kernel6Ideal.τ).loc Cert.Kernel6Ideal.main_arg11)) i)) :
    θ_run (Cert.Kernel6Ideal.defs (F := Ideal)) (onTc (τ := Cert.Kernel6Ideal.τ) (Cert.Kernel6Ideal.main (F := Ideal)))
      ⟨m, fun _ => 0, g⟩ (fun r => ∀ c : Dev Cert.Kernel6Ideal.nD,
        r.2.mem ((c.tc : Thread Cert.Kernel6Ideal.nD Cert.Kernel6Ideal.τ).loc Cert.Kernel6Ideal.main_v130_0)
          = Cert.Reference6Ideal.Value.outq (Cert.Reference6Ideal.Value.qh (Cert.Reference6Ideal.Value.qn (Cert.Reference6Ideal.Value.proj (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) (m ((c.tc : Thread Cert.Kernel6Ideal.nD Cert.Kernel6Ideal.τ).loc Cert.Kernel6Ideal.main_arg4))) (m ((c.tc : Thread Cert.Kernel6Ideal.nD Cert.Kernel6Ideal.τ).loc Cert.Kernel6Ideal.main_arg5))) (Cert.Reference6Ideal.Value.rotq (Cert.Reference6Ideal.Value.qh (Cert.Reference6Ideal.Value.qn (Cert.Reference6Ideal.Value.proj (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) (m ((c.tc : Thread Cert.Kernel6Ideal.nD Cert.Kernel6Ideal.τ).loc Cert.Kernel6Ideal.main_arg4))) (m ((c.tc : Thread Cert.Kernel6Ideal.nD Cert.Kernel6Ideal.τ).loc Cert.Kernel6Ideal.main_arg5))) (m ((c.tc : Thread Cert.Kernel6Ideal.nD Cert.Kernel6Ideal.τ).loc Cert.Kernel6Ideal.main_arg9)))
        ∧ r.2.mem ((c.tc : Thread Cert.Kernel6Ideal.nD Cert.Kernel6Ideal.τ).loc Cert.Kernel6Ideal.main_v130_1)
          = Cert.Reference6Ideal.Value.outk (Cert.Reference6Ideal.Value.kvh (Cert.Reference6Ideal.Value.lat (Cert.Reference6Ideal.Value.proj (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) (m ((c.tc : Thread Cert.Kernel6Ideal.nD Cert.Kernel6Ideal.τ).loc Cert.Kernel6Ideal.main_arg6))) (m ((c.tc : Thread Cert.Kernel6Ideal.nD Cert.Kernel6Ideal.τ).loc Cert.Kernel6Ideal.main_arg7))) (Cert.Reference6Ideal.Value.rotk (Cert.Reference6Ideal.Value.proj (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) (m ((c.tc : Thread Cert.Kernel6Ideal.nD Cert.Kernel6Ideal.τ).loc Cert.Kernel6Ideal.main_arg9)))
        ∧ r.2.mem ((c.tc : Thread Cert.Kernel6Ideal.nD Cert.Kernel6Ideal.τ).loc Cert.Kernel6Ideal.main_v130_2)
          = Cert.Reference6Ideal.Value.outv (Cert.Reference6Ideal.Value.kvh (Cert.Reference6Ideal.Value.lat (Cert.Reference6Ideal.Value.proj (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) (m ((c.tc : Thread Cert.Kernel6Ideal.nD Cert.Kernel6Ideal.τ).loc Cert.Kernel6Ideal.main_arg6))) (m ((c.tc : Thread Cert.Kernel6Ideal.nD Cert.Kernel6Ideal.τ).loc Cert.Kernel6Ideal.main_arg7)))
        ∧ r.2.mem ((c.tc : Thread Cert.Kernel6Ideal.nD Cert.Kernel6Ideal.τ).loc Cert.Kernel6Ideal.main_v130_3)
          = Cert.Reference6Ideal.Value.outz (Cert.Reference6Ideal.Value.proj (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg10))
        ∧ r.2.mem ((c.tc : Thread Cert.Kernel6Ideal.nD Cert.Kernel6Ideal.τ).loc Cert.Kernel6Ideal.main_v130_4)
          = Cert.Reference6Ideal.Value.outz (Cert.Reference6Ideal.Value.proj (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg11))
        ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
        ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
        ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
        ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
        ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
        ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
        ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
        ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
        ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
        ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
        ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
        ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)) :=
  (θ_run Cert.Kernel6Ideal.defs _ _).mono
    (fun _ h c => ⟨((h.2 c).1 12).trans (Cert.Kernel6Ideal.Value.final_q m c (hqg c) (huq c)),
      ((h.2 c).1 13).trans (Cert.Kernel6Ideal.Value.final_k m c (hmd c) (hg c) (hw c)),
      ((h.2 c).1 14).trans (Cert.Kernel6Ideal.Value.final_v m c),
      ((h.2 c).1 15).trans (Cert.Kernel6Ideal.Value.final_zc m c (hmd c) (hg c) (hw c) (hfm c) (hcc c)),
      ((h.2 c).1 16).trans (Cert.Kernel6Ideal.Value.final_zs m c (hmd c) (hg c) (hw c) (hfm c) (hsc c)), h.1 c⟩)
    (θ_run_and (Cert.Kernel6Ideal.Gen.unchanged m g) (Cert.Kernel6Ideal.Gen.run_main m g))

/-- The latent tokens' queries, keys, values and Fourier groups at the ideal reading, the weights, tables and modulation
vectors of the queries, the rotary keys and the groups real: the kernel's five results are the reference's. -/
theorem algebraic_premix : Cert.algebraic_Kernel6Ideal_Reference6Ideal_pre_finite_args (hPre_finite_args := Cert.Pre_finite_args.Gen.facts) := by
  intro m g m' g' hpre hagree
  haveI := Cert.Pre_finite_args.Gen.facts
  have real := fun c => Cert.Finite.opened_args _ _ _ _ _ _ _ _ _ _ _ _ (hpre c)
  refine ⟨_, _, _, _, _, run_premix m g (fun c i => (real c).1.elim fun X h => ⟨X i, h i⟩) (fun c i => (real c).2.1.elim fun X h => ⟨X i, h i⟩)
    (fun c i => (real c).2.2.1.elim fun X h => ⟨X i, h i⟩) (fun c i => (real c).2.2.2.1.elim fun X h => ⟨X i, h i⟩) (fun c i => (real c).2.2.2.2.1.elim fun X h => ⟨X i, h i⟩)
    (fun c i => (real c).2.2.2.2.2.1.elim fun X h => ⟨X i, h i⟩) (fun c i => (real c).2.2.2.2.2.2.1.elim fun X h => ⟨X i, h i⟩) (fun c i => (real c).2.2.2.2.2.2.2.elim fun X h => ⟨X i, h i⟩), ?_⟩
  refine (θ_run Cert.Reference6Ideal.defs _ _).mono (fun r h c => ?_) (Cert.Reference6Ideal.Value.run m' g')
  obtain ⟨e0, e1, e2, e3, e4, e5, e6, e7, e8, e9, e10, e11⟩ := hagree c
  refine ⟨(h c).1.trans ?_, (h c).2.1.trans ?_, (h c).2.2.1.trans ?_, (h c).2.2.2.1.trans ?_, (h c).2.2.2.2.1.trans ?_, (h c).2.2.2.2.2⟩
  · rw [← e0, ← e1, ← e2, ← e3, ← e4, ← e5, ← e9]
    rfl
  · rw [← e0, ← e1, ← e2, ← e3, ← e6, ← e7, ← e9]
    rfl
  · rw [← e0, ← e1, ← e2, ← e3, ← e6, ← e7]
    rfl
  · rw [← e0, ← e1, ← e2, ← e3, ← e8, ← e10]
    rfl
  · rw [← e0, ← e1, ← e2, ← e3, ← e8, ← e11]
    rfl

/-- The cached tokens' keys and values at the ideal reading: the kernel's two results are the reference's. -/
theorem algebraic_cache : Cert.algebraic_Kernel7Ideal_Reference7Ideal := by
  pair_intro
  · run_from Cert.Kernel7Ideal.Gen.run_main m g
  · run_from Cert.Reference7Ideal.Value.run m' g'
    · obtain ⟨e0, e1, e2⟩ := hagree c
      refine Eq.trans ?_ (Cert.Kernel7Ideal.Value.final_k m c).symm
      rw [← e0, ← e1, ← e2]
      rfl
    · obtain ⟨e0, e1, e2⟩ := hagree c
      refine Eq.trans ?_ (Cert.Kernel7Ideal.Value.final_v m c).symm
      rw [← e0, ← e2]
      rfl

/-- The attention's reference runs from any memory, its arguments unchanged and every counter at zero. -/
theorem frame_reference : Cert.quiescent_ReferenceIdeal := fun m ρ _ =>
  (θ_run Cert.ReferenceIdeal.defs _ _).mono
    (fun r h => ⟨fun c => (h c).2, Idealize.ShloMosaic.sem_eq_zero_of_no_sems rfl r.2⟩)
    (Cert.ReferenceIdeal.Value.run m ρ)

/-- The experts' reference runs from any memory, its arguments unchanged and every counter at zero. -/
theorem frame_reference2 : Cert.quiescent_Reference2Ideal := fun m ρ _ =>
  (θ_run Cert.Reference2Ideal.defs _ _).mono
    (fun r h => ⟨fun c => (h c).2.2, Idealize.ShloMosaic.sem_eq_zero_of_no_sems rfl r.2⟩)
    (Cert.Reference2Ideal.Value.run m ρ)

/-- The reference of result 1 runs from any memory, its arguments unchanged and every counter at zero. -/
theorem frame_reference3 : Cert.quiescent_Reference3Ideal := fun m ρ _ =>
  (θ_run Cert.Reference3Ideal.defs _ _).mono
    (fun r h => ⟨fun c => (h c).2, Idealize.ShloMosaic.sem_eq_zero_of_no_sems rfl r.2⟩)
    (Cert.Reference3Ideal.Value.run m ρ)

/-- The reference of results 3 and 4 runs from any memory, its arguments unchanged and every counter at zero. -/
theorem frame_reference4 : Cert.quiescent_Reference4Ideal := fun m ρ _ =>
  (θ_run Cert.Reference4Ideal.defs _ _).mono
    (fun r h => ⟨fun c => (h c).2.2, Idealize.ShloMosaic.sem_eq_zero_of_no_sems rfl r.2⟩)
    (Cert.Reference4Ideal.Value.run m ρ)

/-- The modulation vectors' reference runs from any memory, its arguments unchanged and every counter at zero. -/
theorem frame_reference5 : Cert.quiescent_Reference5Ideal := fun m ρ _ =>
  (θ_run Cert.Reference5Ideal.defs _ _).mono
    (fun r h => ⟨fun c => (h c).2, Idealize.ShloMosaic.sem_eq_zero_of_no_sems rfl r.2⟩)
    (Cert.Reference5Ideal.Value.run m ρ)

/-- The reference of the latent tokens' queries, keys and values runs from any memory, its arguments unchanged and every
counter at zero. -/
theorem frame_reference6 : Cert.quiescent_Reference6Ideal := fun m ρ _ =>
  (θ_run Cert.Reference6Ideal.defs _ _).mono
    (fun r h => ⟨fun c => (h c).2.2.2.2.2, Idealize.ShloMosaic.sem_eq_zero_of_no_sems rfl r.2⟩)
    (Cert.Reference6Ideal.Value.run m ρ)

/-- The reference of the cached tokens' keys and values runs from any memory, its arguments unchanged and every counter at
zero. -/
theorem frame_reference7 : Cert.quiescent_Reference7Ideal := fun m ρ _ =>
  (θ_run Cert.Reference7Ideal.defs _ _).mono
    (fun r h => ⟨fun c => (h c).2.2, Idealize.ShloMosaic.sem_eq_zero_of_no_sems rfl r.2⟩)
    (Cert.Reference7Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite_qk.Gen.facts, Cert.Pre_finite_args.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  fun m ρ _ => Cert.Kernel6Ideal.Gen.frame m ρ,
  frame_reference6,
  fun m ρ _ => frame_reference6 m ρ trivial,
  fun m ρ _ => Cert.Kernel7.Gen.frame m ρ,
  fun m ρ _ => Cert.Kernel7Ideal.Gen.frame m ρ,
  frame_reference7,
  trivial, algebraic_attention, trivial, algebraic_ffn, trivial, algebraic_combine, trivial, algebraic_front,
  trivial, algebraic_mods, trivial, algebraic_premix, trivial, algebraic_cache⟩

end Cert.Proof

end
